-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_v73) = v2 c
          ∧ r.2.mem ((c.tc : Thread Cert.Reference2Ideal.nD Cert.Reference2Ideal.τ).loc Cert.Reference2Ideal.main_v74) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_v17) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v50) = v0 c
          ∧ r.2.mem ((c.tc : Thread Cert.Reference8Ideal.nD Cert.Reference8Ideal.τ).loc Cert.Reference8Ideal.main_v49) = v1 c
          ∧ r.2.mem ((c.tc : Thread Cert.Reference8Ideal.nD Cert.Reference8Ideal.τ).loc Cert.Reference8Ideal.main_v51) = v2 c
          ∧ r.2.mem ((c.tc : Thread Cert.Reference8Ideal.nD Cert.Reference8Ideal.τ).loc Cert.Reference8Ideal.main_v33) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg3) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_v8) = v2 c
          ∧ r.2.mem ((c.tc : Thread Cert.Reference11Ideal.nD Cert.Reference11Ideal.τ).loc Cert.Reference11Ideal.main_v14) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v8) = v2 c
          ∧ r.2.mem ((c.tc : Thread Cert.Reference12Ideal.nD Cert.Reference12Ideal.τ).loc Cert.Reference12Ideal.main_v14) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v14) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_v14) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v27) = v1 c
          ∧ r.2.mem ((c.tc : Thread Cert.Reference15Ideal.nD Cert.Reference15Ideal.τ).loc Cert.Reference15Ideal.main_v8) = v2 c
          ∧ r.2.mem ((c.tc : Thread Cert.Reference15Ideal.nD Cert.Reference15Ideal.τ).loc Cert.Reference15Ideal.main_v14) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v2_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v2_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v3) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)) (v4 : (c : Dev Cert.Kernel27Ideal.nD) → Buf (Elt Ideal) ((c.tc : Thread Cert.Kernel27Ideal.nD Cert.Kernel27Ideal.τ).loc Cert.Kernel27Ideal.main_v0_4)) (v5 : (c : Dev Cert.Kernel27Ideal.nD) → Buf (Elt Ideal) ((c.tc : Thread Cert.Kernel27Ideal.nD Cert.Kernel27Ideal.τ).loc Cert.Kernel27Ideal.main_v0_5)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_v0_4) = v4 c
          ∧ r.2.mem ((c.tc : Thread Cert.Kernel27Ideal.nD Cert.Kernel27Ideal.τ).loc Cert.Kernel27Ideal.main_v0_5) = v5 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v28) = v0 c
          ∧ r.2.mem ((c.tc : Thread Cert.Reference27Ideal.nD Cert.Reference27Ideal.τ).loc Cert.Reference27Ideal.main_v29) = v1 c
          ∧ r.2.mem ((c.tc : Thread Cert.Reference27Ideal.nD Cert.Reference27Ideal.τ).loc Cert.Reference27Ideal.main_v32) = v2 c
          ∧ r.2.mem ((c.tc : Thread Cert.Reference27Ideal.nD Cert.Reference27Ideal.τ).loc Cert.Reference27Ideal.main_v33) = v3 c
          ∧ r.2.mem ((c.tc : Thread Cert.Reference27Ideal.nD Cert.Reference27Ideal.τ).loc Cert.Reference27Ideal.main_v30) = v4 c
          ∧ r.2.mem ((c.tc : Thread Cert.Reference27Ideal.nD Cert.Reference27Ideal.τ).loc Cert.Reference27Ideal.main_v31) = v5 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v9) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v9) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v9) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v8_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v8_1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v10) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Kernel.lean ====
abbrev S4096x6656 : Shape := ⟨2, ![4096, 6656]⟩
abbrev S4096x2048 : Shape := ⟨2, ![4096, 2048]⟩
abbrev S64x16x128x128 : Shape := ⟨4, ![64, 16, 128, 128]⟩
abbrev S64x1024 : Shape := ⟨2, ![64, 1024]⟩
abbrev S1x8x128x128 : Shape := ⟨4, ![1, 8, 128, 128]⟩
abbrev S8x128x128 : Shape := ⟨3, ![8, 128, 128]⟩
abbrev S64x128 : Shape := ⟨2, ![64, 128]⟩
abbrev S1x64x128 : Shape := ⟨3, ![1, 64, 128]⟩
abbrev S8x64x128 : Shape := ⟨3, ![8, 64, 128]⟩
abbrev S8x64x64 : Shape := ⟨3, ![8, 64, 64]⟩
abbrev S8x128 : Shape := ⟨2, ![8, 128]⟩
abbrev S8x1x128 : Shape := ⟨3, ![8, 1, 128]⟩
abbrev S1x2x1x128 : Shape := ⟨4, ![1, 2, 1, 128]⟩
abbrev S8x1x64x128 : Shape := ⟨4, ![8, 1, 64, 128]⟩
abbrev S8x2x64x128 : Shape := ⟨4, ![8, 2, 64, 128]⟩
abbrev S8x128x256 : Shape := ⟨3, ![8, 128, 256]⟩
abbrev S8x256x128 : Shape := ⟨3, ![8, 256, 128]⟩

abbrev nBuf : Space → Nat
  | .hbm => 13
  | .vmem => 29
  | .smem => 0
  | _ => 0

abbrev bufTy : (tb : Table) → Fin (tcTables nBuf tb) → BufTy
  | .hbm, ⟨0, _⟩ => ⟨S4096x6656, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S64x16x128x128, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S1x8x128x128, .f32⟩
  | .local _ .vmem, ⟨13, _⟩ => ⟨S1x8x128x128, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S8x128x128, .f32⟩
  | _, _ => ⟨S4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c4_i32 : BitVec 32 := 4#32
  let v1 : BitVec 32 := Scalar.addi c4_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_6 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel2.lean ====
abbrev S4096x21504 : Shape := ⟨2, ![4096, 21504]⟩
abbrev S3x2048 : Shape := ⟨2, ![3, 2048]⟩
abbrev S4096x2048 : Shape := ⟨2, ![4096, 2048]⟩
abbrev S_ : Shape := ⟨0, ![]⟩
abbrev S8x2048 : Shape := ⟨2, ![8, 2048]⟩
abbrev S512x512 : Shape := ⟨2, ![512, 512]⟩
abbrev S8x512 : Shape := ⟨2, ![8, 512]⟩
abbrev S1x512 : Shape := ⟨2, ![1, 512]⟩
abbrev S512 : Shape := ⟨1, ![512]⟩

abbrev nBuf : Space → Nat
  | .hbm => 10
  | .vmem => 28
  | .smem => 0
  | _ => 0

abbrev bufTy : (tb : Table) → Fin (tcTables nBuf tb) → BufTy
  | .hbm, ⟨0, _⟩ => ⟨S4096x21504, .f32⟩
  | .hbm, ⟨1, _⟩ => ⟨S3x2048, .f32⟩
  | .hbm, ⟨2, _⟩ => ⟨S4096x2048, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S8x2048, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S512x512, .f32⟩
  | .local _ .vmem, ⟨15, _⟩ => ⟨S512x512, .f32⟩
  | .local _ .vmem, ⟨16, _⟩ => ⟨S8x512, .f32⟩
  | .local _ .vmem, ⟨17, _⟩ => ⟨S8x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S8x512, .f32⟩
  | .local _ .vmem, ⟨25, _⟩ => ⟨S8x512, .f32⟩
  | .local _ .vmem, ⟨26, _⟩ => ⟨S8x512, .f32⟩
  | .local _ .vmem, ⟨27, _⟩ => ⟨S8x512, .f32⟩
  | _, _ => ⟨S4096x21504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v133 : BitVec 32 := Scalar.extui v0
  let c0_i32_57 : BitVec 32 := 0#32
  let v134 : BitVec 1 := Scalar.cmpi .ne v133 c0_i32_57
  v134

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v135 : BitVec 1 := Scalar.xori v0 v_true
  let v136 : BitVec 32 := Scalar.extui v135
  let c0_i32_58 : BitVec 32 := 0#32
  let v137 : BitVec 1 := Scalar.cmpi .ne v136 c0_i32_58
  v137

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c13_i32 : BitVec 32 := 13#32
  let v3 : BitVec 32 := Scalar.addi c13_i32 arg0
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c17_i32 : BitVec 32 := 17#32
  let v3 : BitVec 32 := Scalar.addi c17_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c21_i32 : BitVec 32 := 21#32
  let v3 : BitVec 32 := Scalar.addi c21_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference2Ideal.lean ====
abbrev S4096x21504 : Shape := ⟨2, ![4096, 21504]⟩
abbrev S3x2048 : Shape := ⟨2, ![3, 2048]⟩
abbrev S4096x2048 : Shape := ⟨2, ![4096, 2048]⟩
abbrev S4096x6144 : Shape := ⟨2, ![4096, 6144]⟩
abbrev S1x2048 : Shape := ⟨2, ![1, 2048]⟩
abbrev S2048 : Shape := ⟨1, ![2048]⟩
abbrev S_ : Shape := ⟨0, ![]⟩
abbrev S2x2048 : Shape := ⟨2, ![2, 2048]⟩
abbrev S4094x2048 : Shape := ⟨2, ![4094, 2048]⟩
abbrev S4095x2048 : Shape := ⟨2, ![4095, 2048]⟩
abbrev S8x2048 : Shape := ⟨2, ![8, 2048]⟩

abbrev nBuf : Space → Nat
  | .hbm => 95
  | .vmem => 0
  | .smem => 0
  | _ => 0

abbrev bufTy : (tb : Table) → Fin (tcTables nBuf tb) → BufTy
  | .hbm, ⟨0, _⟩ => ⟨S4096x21504, .f32⟩
  | .hbm, ⟨1, _⟩ => ⟨S3x2048, .f32⟩
  | .hbm, ⟨2, _⟩ => ⟨S4096x2048, .f32⟩
  | .hbm, ⟨3, _⟩ => ⟨S4096x6144, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S1x2048, .f32⟩
  | .hbm, ⟨9, _⟩ => ⟨S2048, .f32⟩
  | .hbm, ⟨10, _⟩ => ⟨S_, .f32⟩
  | .hbm, ⟨11, _⟩ => ⟨S2x2048, .f32⟩
  | .hbm, ⟨12, _⟩ => ⟨S4094x2048, .f32⟩
  | .hbm, ⟨13, _⟩ => ⟨S4096x2048, .f32⟩
  | .hbm, ⟨14, _⟩ => ⟨S_, .f32⟩
  | .hbm, ⟨15, _⟩ => ⟨S2x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S_, .f32⟩
  | .hbm, ⟨22, _⟩ => ⟨S1x2048, .f32⟩
  | .hbm, ⟨23, _⟩ => ⟨S4095x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S3x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4095x2048, .f32⟩
  | .hbm, ⟨61, _⟩ => ⟨S_, .f32⟩
  | .hbm, ⟨62, _⟩ => ⟨S4096x2048, .f32⟩
  | .hbm, ⟨63, _⟩ => ⟨S4096x2048, .f32⟩
  | .hbm, ⟨64, _⟩ => ⟨S1x2048, .f32⟩
  | .hbm, ⟨65, _⟩ => ⟨S_, .f32⟩
  | .hbm, ⟨66, _⟩ => ⟨S3x2048, .f32⟩
  | .hbm, ⟨67, _⟩ => ⟨S3x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S_, .f32⟩
  | .hbm, ⟨75, _⟩ => ⟨S2048, .f32⟩
  | .hbm, ⟨76, _⟩ => ⟨S2x2048, .f32⟩
  | .hbm, ⟨77, _⟩ => ⟨S4094x2048, .f32⟩
  | .hbm, ⟨78, _⟩ => ⟨S_, .f32⟩
  | .hbm, ⟨79, _⟩ => ⟨S4096x2048, .f32⟩
  | .hbm, ⟨80, _⟩ => ⟨S4096x2048, .f32⟩
  | .hbm, ⟨81, _⟩ => ⟨S1x2048, .f32⟩
  | .hbm, ⟨82, _⟩ => ⟨S_, .f32⟩
  | .hbm, ⟨83, _⟩ => ⟨S3x2048, .f32⟩
  | .hbm, ⟨84, _⟩ => ⟨S3x2048, .f32⟩
  | .hbm, ⟨85, _⟩ => ⟨S4096x2048, .f32⟩
  | .hbm, ⟨86, _⟩ => ⟨S4096x2048, .f32⟩
  | .hbm, ⟨87, _⟩ => ⟨S4096x6144, .f32⟩
  | .hbm, ⟨88, _⟩ => ⟨S4096x6144, .bf16⟩
  | .hbm, ⟨89, _⟩ => ⟨S4096x2048, .bf16⟩
  | .hbm, ⟨90, _⟩ => ⟨S4096x2048, .bf16⟩
  | .hbm, ⟨91, _⟩ => ⟨S4096x2048, .bf16⟩
  | .hbm, ⟨92, _⟩ => ⟨S_, .i32⟩
  | .hbm, ⟨93, _⟩ => ⟨S_, .f32⟩
  | .hbm, ⟨94, _⟩ => ⟨S8x2048, .f32⟩
  | _, _ => ⟨S4096x21504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c : Ref sig .tc := ⟨.hbm, 92, rfl⟩
abbrev main_call0_v0 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Kernel3.lean ====
abbrev S4096x16384 : Shape := ⟨2, ![4096, 16384]⟩
abbrev S16384x4096 : Shape := ⟨2, ![16384, 4096]⟩
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S4096x4096, .f32⟩
  | .hbm, ⟨3, _⟩ => ⟨S4096x4096, .bf16⟩
  | .hbm, ⟨4, _⟩ => ⟨S16384x4096, .bf16⟩
  | .hbm, ⟨5, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x16384 : Shape := ⟨2, ![4096, 16384]⟩
abbrev S16384x4096 : Shape := ⟨2, ![16384, 4096]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S4096x4096, .f32⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x16384, .f32⟩
  | .hbm, ⟨8, _⟩ => ⟨S4096x16384, .i1⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S4096x4096, .f32⟩
  | .hbm, ⟨16, _⟩ => ⟨S4096x16384, .f32⟩
  | .hbm, ⟨17, _⟩ => ⟨S4096x16384, .f32⟩
  | .hbm, ⟨18, _⟩ => ⟨S_, .f32⟩
  | .hbm, ⟨19, _⟩ => ⟨S4096x16384, .f32⟩
  | .hbm, ⟨20, _⟩ => ⟨S4096x16384, .f32⟩
  | .hbm, ⟨21, _⟩ => ⟨S4096x16384, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel4.lean ====
abbrev S4096x16384 : Shape := ⟨2, ![4096, 16384]⟩
abbrev S4096x4096 : Shape := ⟨2, ![4096, 4096]⟩
abbrev S16384x4096 : Shape := ⟨2, ![16384, 4096]⟩
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4096x16384, .f32⟩
  | .hbm, ⟨1, _⟩ => ⟨S4096x4096, .f32⟩
  | .hbm, ⟨2, _⟩ => ⟨S4096x16384, .bf16⟩
  | .hbm, ⟨3, _⟩ => ⟨S4096x4096, .bf16⟩
  | .hbm, ⟨4, _⟩ => ⟨S16384x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x4096, .bf16⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x16384 : Shape := ⟨2, ![4096, 16384]⟩
abbrev S4096x4096 : Shape := ⟨2, ![4096, 4096]⟩
abbrev S_ : Shape := ⟨0, ![]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x4096, .f32⟩
  | .hbm, ⟨2, _⟩ => ⟨S_, .f32⟩
  | .hbm, ⟨3, _⟩ => ⟨S16384x4096, .f32⟩
  | .hbm, ⟨4, _⟩ => ⟨S4096x4096, .f32⟩
  | .hbm, ⟨5, _⟩ => ⟨S4096x16384, .f32⟩
  | .hbm, ⟨6, _⟩ => ⟨S16384x4096, .f32⟩
  | .hbm, ⟨7, _⟩ => ⟨S16384x4096, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x4096 : Shape := ⟨2, ![4096, 4096]⟩
abbrev S4096x16384 : Shape := ⟨2, ![4096, 16384]⟩
abbrev S8x4096x2048 : Shape := ⟨3, ![8, 4096, 2048]⟩
abbrev S4096x1024 : Shape := ⟨2, ![4096, 1024]⟩
abbrev S4096x512 : Shape := ⟨2, ![4096, 512]⟩
abbrev S1x1024x512 : Shape := ⟨3, ![1, 1024, 512]⟩
abbrev S1024x4096 : Shape := ⟨2, ![1024, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x16384, .bf16⟩
  | .hbm, ⟨4, _⟩ => ⟨S8x4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S4096x16384 : Shape := ⟨2, ![4096, 16384]⟩
abbrev S_ : Shape := ⟨0, ![]⟩
abbrev S16384x4096 : Shape := ⟨2, ![16384, 4096]⟩
abbrev S4096x8x2048 : Shape := ⟨3, ![4096, 8, 2048]⟩
abbrev S8x4096x2048 : Shape := ⟨3, ![8, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S_, .f32⟩
  | .hbm, ⟨3, _⟩ => ⟨S4096x16384, .f32⟩
  | .hbm, ⟨4, _⟩ => ⟨S4096x16384, .f32⟩
  | .hbm, ⟨5, _⟩ => ⟨S16384x4096, .f32⟩
  | .hbm, ⟨6, _⟩ => ⟨S4096x16384, .f32⟩
  | .hbm, ⟨7, _⟩ => ⟨S4096x8x2048, .f32⟩
  | .hbm, ⟨8, _⟩ => ⟨S8x4096x2048, .f32⟩
  | .hbm, ⟨9, _⟩ => ⟨S8x4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x4096 : Shape := ⟨2, ![4096, 4096]⟩
abbrev S4096x21504 : Shape := ⟨2, ![4096, 21504]⟩
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x21504, .f32⟩
  | .hbm, ⟨2, _⟩ => ⟨S4096x4096, .bf16⟩
  | .hbm, ⟨3, _⟩ => ⟨S4096x21504, .bf16⟩
  | .hbm, ⟨4, _⟩ => ⟨S4096x21504, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 42, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S4096x21504 : Shape := ⟨2, ![4096, 21504]⟩
abbrev S_ : Shape := ⟨0, ![]⟩
abbrev S21504x4096 : Shape := ⟨2, ![21504, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x21504, .f32⟩
  | .hbm, ⟨2, _⟩ => ⟨S_, .f32⟩
  | .hbm, ⟨3, _⟩ => ⟨S4096x21504, .f32⟩
  | .hbm, ⟨4, _⟩ => ⟨S4096x21504, .f32⟩
  | .hbm, ⟨5, _⟩ => ⟨S21504x4096, .f32⟩
  | .hbm, ⟨6, _⟩ => ⟨S4096x21504, .f32⟩
  | .hbm, ⟨7, _⟩ => ⟨S4096x21504, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_18 : BitVec 32 := 0#32
  let v43 : BitVec 1 := Scalar.cmpi .ne v42 c0_i32_18
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel8.lean ====
abbrev S4096x4096 : Shape := ⟨2, ![4096, 4096]⟩
abbrev S1x4096 : Shape := ⟨2, ![1, 4096]⟩
abbrev S1x128 : Shape := ⟨2, ![1, 128]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x1x1 : Shape := ⟨3, ![1, 1, 1]⟩
abbrev S4096 : Shape := ⟨1, ![4096]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x128, .f32⟩
  | .hbm, ⟨5, _⟩ => ⟨S4096x4096, .f32⟩
  | .hbm, ⟨6, _⟩ => ⟨S4096x4096, .bf16⟩
  | .hbm, ⟨7, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x128, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | .local _ .vmem, ⟨12, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c0_i32 : BitVec 32 := 0#32
  let v71 : BitVec 1 := Scalar.cmpi .eq arg0 c0_i32
  let v79 : BitVec 32 := Scalar.extui v71
  let c0_i32_29 : BitVec 32 := 0#32
  let v80 : BitVec 1 := Scalar.cmpi .ne v79 c0_i32_29
  v80

def k0_cond4 (i : grid0.Coords) : BitVec 1 :=
  let arg0 : BitVec 32 := BitVec.ofNat 32 (i 0).val
  let c0_i32 : BitVec 32 := 0#32
  let v71 : BitVec 1 := Scalar.cmpi .eq arg0 c0_i32
  let true_30 : BitVec 1 := 1#1
  let v81 : BitVec 1 := Scalar.xori v71 true_30
  let v82 : BitVec 32 := Scalar.extui v81
  let c0_i32_31 : BitVec 32 := 0#32
  let v83 : BitVec 1 := Scalar.cmpi .ne v82 c0_i32_31
  v83

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_27 : BitVec 32 := 0#32
  let v73 : BitVec 1 := Scalar.cmpi .ne v72 c0_i32_27
  v73

def k0_cond2 (i : grid0.Coords) : BitVec 1 :=
  let arg0 : BitVec 32 := BitVec.ofNat 32 (i 0).val
  let c0_i32 : BitVec 32 := 0#32
  let v71 : BitVec 1 := Scalar.cmpi .eq arg0 c0_i32
  let v_true : BitVec 1 := 1#1
  let v74 : BitVec 1 := Scalar.xori v71 v_true
  let v75 : BitVec 32 := Scalar.extui v74
  let c0_i32_28 : BitVec 32 := 0#32
  let v76 : BitVec 1 := Scalar.cmpi .ne v75 c0_i32_28
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x4096, .f32⟩
  | .hbm, ⟨58, _⟩ => ⟨S4096x4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S1x128, .f32⟩
  | .hbm, ⟨71, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel9.lean ====
abbrev S4096x16384 : Shape := ⟨2, ![4096, 16384]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .bf16⟩
  | .hbm, ⟨3, _⟩ => ⟨S4096x16384, .bf16⟩
  | .hbm, ⟨4, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x16384 : Shape := ⟨2, ![4096, 16384]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S_, .f32⟩
  | .hbm, ⟨3, _⟩ => ⟨S4096x4096, .f32⟩
  | .hbm, ⟨4, _⟩ => ⟨S4096x16384, .f32⟩
  | .hbm, ⟨5, _⟩ => ⟨S4096x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S328x128 : Shape := ⟨2, ![328, 128]⟩

abbrev nBuf : Space → Nat
  | .hbm => 8
  | .vmem => 8
  | .smem => 0
  | _ => 0

abbrev bufTy : (tb : Table) → Fin (tcTables nBuf tb) → BufTy
  | .hbm, ⟨0, _⟩ => ⟨S328x128, .f32⟩
  | .hbm, ⟨1, _⟩ => ⟨S328x128, .f32⟩
  | .hbm, ⟨2, _⟩ => ⟨S328x128, .f32⟩
  | .hbm, ⟨3, _⟩ => ⟨S328x128, .f32⟩
  | .hbm, ⟨4, _⟩ => ⟨S328x128, .f32⟩
  | .hbm, ⟨5, _⟩ => ⟨S328x128, .f32⟩
  | .hbm, ⟨6, _⟩ => ⟨S328x128, .f32⟩
  | .hbm, ⟨7, _⟩ => ⟨S328x128, .f32⟩
  | .local _ .vmem, ⟨0, _⟩ => ⟨S328x128, .f32⟩
  | .local _ .vmem, ⟨1, _⟩ => ⟨S328x128, .f32⟩
  | .local _ .vmem, ⟨2, _⟩ => ⟨S328x128, .f32⟩
  | .local _ .vmem, ⟨3, _⟩ => ⟨S328x128, .f32⟩
  | .local _ .vmem, ⟨4, _⟩ => ⟨S328x128, .f32⟩
  | .local _ .vmem, ⟨5, _⟩ => ⟨S328x128, .f32⟩
  | .local _ .vmem, ⟨6, _⟩ => ⟨S328x128, .f32⟩
  | .local _ .vmem, ⟨7, _⟩ => ⟨S328x128, .f32⟩
  | _, _ => ⟨S328x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S328x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S328x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S328x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S328x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S328x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S328x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S328x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S328x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S328x128 : Shape := ⟨2, ![328, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S328x128, .f32⟩
  | .hbm, ⟨1, _⟩ => ⟨S328x128, .f32⟩
  | .hbm, ⟨2, _⟩ => ⟨S328x128, .f32⟩
  | .hbm, ⟨3, _⟩ => ⟨S328x128, .f32⟩
  | .hbm, ⟨4, _⟩ => ⟨S_, .f32⟩
  | .hbm, ⟨5, _⟩ => ⟨S328x128, .f32⟩
  | .hbm, ⟨6, _⟩ => ⟨S328x128, .f32⟩
  | .hbm, ⟨7, _⟩ => ⟨S_, .f32⟩
  | .hbm, ⟨8, _⟩ => ⟨S328x128, .f32⟩
  | .hbm, ⟨9, _⟩ => ⟨S328x128, .f32⟩
  | .hbm, ⟨10, _⟩ => ⟨S328x128, .f32⟩
  | .hbm, ⟨11, _⟩ => ⟨S_, .f32⟩
  | .hbm, ⟨12, _⟩ => ⟨S328x128, .f32⟩
  | .hbm, ⟨13, _⟩ => ⟨S328x128, .f32⟩
  | .hbm, ⟨14, _⟩ => ⟨S328x128, .f32⟩
  | .hbm, ⟨15, _⟩ => ⟨S_, .f32⟩
  | .hbm, ⟨16, _⟩ => ⟨S328x128, .f32⟩
  | .hbm, ⟨17, _⟩ => ⟨S328x128, .f32⟩
  | .hbm, ⟨18, _⟩ => ⟨S328x128, .f32⟩
  | .hbm, ⟨19, _⟩ => ⟨S_, .f32⟩
  | .hbm, ⟨20, _⟩ => ⟨S328x128, .f32⟩
  | .hbm, ⟨21, _⟩ => ⟨S328x128, .f32⟩
  | .hbm, ⟨22, _⟩ => ⟨S_, .f32⟩
  | .hbm, ⟨23, _⟩ => ⟨S328x128, .f32⟩
  | .hbm, ⟨24, _⟩ => ⟨S328x128, .f32⟩
  | .hbm, ⟨25, _⟩ => ⟨S328x128, .f32⟩
  | .hbm, ⟨26, _⟩ => ⟨S_, .f32⟩
  | .hbm, ⟨27, _⟩ => ⟨S328x128, .f32⟩
  | .hbm, ⟨28, _⟩ => ⟨S328x128, .f32⟩
  | .hbm, ⟨29, _⟩ => ⟨S328x128, .f32⟩
  | .hbm, ⟨30, _⟩ => ⟨S_, .f32⟩
  | .hbm, ⟨31, _⟩ => ⟨S328x128, .f32⟩
  | .hbm, ⟨32, _⟩ => ⟨S328x128, .f32⟩
  | .hbm, ⟨33, _⟩ => ⟨S328x128, .f32⟩
  | .hbm, ⟨34, _⟩ => ⟨S_, .f32⟩
  | .hbm, ⟨35, _⟩ => ⟨S328x128, .f32⟩
  | .hbm, ⟨36, _⟩ => ⟨S328x128, .f32⟩
  | _, _ => ⟨S328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S4096x2616 : Shape := ⟨2, ![4096, 2616]⟩
abbrev S3x4096x2616 : Shape := ⟨3, ![3, 4096, 2616]⟩
abbrev S128x2616 : Shape := ⟨2, ![128, 2616]⟩
abbrev S3x128x2616 : Shape := ⟨3, ![3, 128, 2616]⟩
abbrev S1x128x2616 : Shape := ⟨3, ![1, 128, 2616]⟩

abbrev nBuf : Space → Nat
  | .hbm => 9
  | .vmem => 18
  | .smem => 0
  | _ => 0

abbrev bufTy : (tb : Table) → Fin (tcTables nBuf tb) → BufTy
  | .hbm, ⟨0, _⟩ => ⟨S4096x2616, .f32⟩
  | .hbm, ⟨1, _⟩ => ⟨S4096x2616, .f32⟩
  | .hbm, ⟨2, _⟩ => ⟨S4096x2616, .f32⟩
  | .hbm, ⟨3, _⟩ => ⟨S4096x2616, .bf16⟩
  | .hbm, ⟨4, _⟩ => ⟨S3x4096x2616, .bf16⟩
  | .hbm, ⟨5, _⟩ => ⟨S4096x2616, .f32⟩
  | .hbm, ⟨6, _⟩ => ⟨S4096x2616, .f32⟩
  | .hbm, ⟨7, _⟩ => ⟨S4096x2616, .f32⟩
  | .hbm, ⟨8, _⟩ => ⟨S4096x2616, .f32⟩
  | .local _ .vmem, ⟨0, _⟩ => ⟨S128x2616, .f32⟩
  | .local _ .vmem, ⟨1, _⟩ => ⟨S128x2616, .f32⟩
  | .local _ .vmem, ⟨2, _⟩ => ⟨S128x2616, .f32⟩
  | .local _ .vmem, ⟨3, _⟩ => ⟨S128x2616, .f32⟩
  | .local _ .vmem, ⟨4, _⟩ => ⟨S128x2616, .f32⟩
  | .local _ .vmem, ⟨5, _⟩ => ⟨S128x2616, .f32⟩
  | .local _ .vmem, ⟨6, _⟩ => ⟨S128x2616, .bf16⟩
  | .local _ .vmem, ⟨7, _⟩ => ⟨S128x2616, .bf16⟩
  | .local _ .vmem, ⟨8, _⟩ => ⟨S3x128x2616, .bf16⟩
  | .local _ .vmem, ⟨9, _⟩ => ⟨S3x128x2616, .bf16⟩
  | .local _ .vmem, ⟨10, _⟩ => ⟨S128x2616, .f32⟩
  | .local _ .vmem, ⟨11, _⟩ => ⟨S128x2616, .f32⟩
  | .local _ .vmem, ⟨12, _⟩ => ⟨S128x2616, .f32⟩
  | .local _ .vmem, ⟨13, _⟩ => ⟨S128x2616, .f32⟩
  | .local _ .vmem, ⟨14, _⟩ => ⟨S128x2616, .f32⟩
  | .local _ .vmem, ⟨15, _⟩ => ⟨S128x2616, .f32⟩
  | .local _ .vmem, ⟨16, _⟩ => ⟨S128x2616, .f32⟩
  | .local _ .vmem, ⟨17, _⟩ => ⟨S128x2616, .f32⟩
  | _, _ => ⟨S4096x2616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2616 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2616 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2616 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2616 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x2616 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2616 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2616 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2616 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2616 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel11Ideal.lean ====
abbrev S4096x2616 : Shape := ⟨2, ![4096, 2616]⟩
abbrev S3x4096x2616 : Shape := ⟨3, ![3, 4096, 2616]⟩
abbrev S128x2616 : Shape := ⟨2, ![128, 2616]⟩
abbrev S3x128x2616 : Shape := ⟨3, ![3, 128, 2616]⟩
abbrev S1x128x2616 : Shape := ⟨3, ![1, 128, 2616]⟩

abbrev nBuf : Space → Nat
  | .hbm => 9
  | .vmem => 18
  | .smem => 0
  | _ => 0

abbrev bufTy : (tb : Table) → Fin (tcTables nBuf tb) → BufTy
  | .hbm, ⟨0, _⟩ => ⟨S4096x2616, .f32⟩
  | .hbm, ⟨1, _⟩ => ⟨S4096x2616, .f32⟩
  | .hbm, ⟨2, _⟩ => ⟨S4096x2616, .f32⟩
  | .hbm, ⟨3, _⟩ => ⟨S4096x2616, .bf16⟩
  | .hbm, ⟨4, _⟩ => ⟨S3x4096x2616, .bf16⟩
  | .hbm, ⟨5, _⟩ => ⟨S4096x2616, .f32⟩
  | .hbm, ⟨6, _⟩ => ⟨S4096x2616, .f32⟩
  | .hbm, ⟨7, _⟩ => ⟨S4096x2616, .f32⟩
  | .hbm, ⟨8, _⟩ => ⟨S4096x2616, .f32⟩
  | .local _ .vmem, ⟨0, _⟩ => ⟨S128x2616, .f32⟩
  | .local _ .vmem, ⟨1, _⟩ => ⟨S128x2616, .f32⟩
  | .local _ .vmem, ⟨2, _⟩ => ⟨S128x2616, .f32⟩
  | .local _ .vmem, ⟨3, _⟩ => ⟨S128x2616, .f32⟩
  | .local _ .vmem, ⟨4, _⟩ => ⟨S128x2616, .f32⟩
  | .local _ .vmem, ⟨5, _⟩ => ⟨S128x2616, .f32⟩
  | .local _ .vmem, ⟨6, _⟩ => ⟨S128x2616, .bf16⟩
  | .local _ .vmem, ⟨7, _⟩ => ⟨S128x2616, .bf16⟩
  | .local _ .vmem, ⟨8, _⟩ => ⟨S3x128x2616, .bf16⟩
  | .local _ .vmem, ⟨9, _⟩ => ⟨S3x128x2616, .bf16⟩
  | .local _ .vmem, ⟨10, _⟩ => ⟨S128x2616, .f32⟩
  | .local _ .vmem, ⟨11, _⟩ => ⟨S128x2616, .f32⟩
  | .local _ .vmem, ⟨12, _⟩ => ⟨S128x2616, .f32⟩
  | .local _ .vmem, ⟨13, _⟩ => ⟨S128x2616, .f32⟩
  | .local _ .vmem, ⟨14, _⟩ => ⟨S128x2616, .f32⟩
  | .local _ .vmem, ⟨15, _⟩ => ⟨S128x2616, .f32⟩
  | .local _ .vmem, ⟨16, _⟩ => ⟨S128x2616, .f32⟩
  | .local _ .vmem, ⟨17, _⟩ => ⟨S128x2616, .f32⟩
  | _, _ => ⟨S4096x2616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2616 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2616 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2616 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2616 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x2616 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2616 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2616 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2616 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2616 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4096x2616 : Shape := ⟨2, ![4096, 2616]⟩
abbrev S3x4096x2616 : Shape := ⟨3, ![3, 4096, 2616]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x2616, .f32⟩
  | .hbm, ⟨1, _⟩ => ⟨S4096x2616, .f32⟩
  | .hbm, ⟨2, _⟩ => ⟨S4096x2616, .f32⟩
  | .hbm, ⟨3, _⟩ => ⟨S4096x2616, .bf16⟩
  | .hbm, ⟨4, _⟩ => ⟨S3x4096x2616, .bf16⟩
  | .hbm, ⟨5, _⟩ => ⟨S4096x2616, .f32⟩
  | .hbm, ⟨6, _⟩ => ⟨S3x4096x2616, .f32⟩
  | .hbm, ⟨7, _⟩ => ⟨S_, .f32⟩
  | .hbm, ⟨8, _⟩ => ⟨S4096x2616, .f32⟩
  | .hbm, ⟨9, _⟩ => ⟨S4096x2616, .f32⟩
  | .hbm, ⟨10, _⟩ => ⟨S_, .f32⟩
  | .hbm, ⟨11, _⟩ => ⟨S4096x2616, .f32⟩
  | .hbm, ⟨12, _⟩ => ⟨S4096x2616, .f32⟩
  | .hbm, ⟨13, _⟩ => ⟨S_, .f32⟩
  | .hbm, ⟨14, _⟩ => ⟨S4096x2616, .f32⟩
  | .hbm, ⟨15, _⟩ => ⟨S4096x2616, .f32⟩
  | .hbm, ⟨16, _⟩ => ⟨S4096x2616, .f32⟩
  | .hbm, ⟨17, _⟩ => ⟨S_, .f32⟩
  | .hbm, ⟨18, _⟩ => ⟨S4096x2616, .f32⟩
  | .hbm, ⟨19, _⟩ => ⟨S4096x2616, .f32⟩
  | .hbm, ⟨20, _⟩ => ⟨S4096x2616, .f32⟩
  | .hbm, ⟨21, _⟩ => ⟨S_, .f32⟩
  | .hbm, ⟨22, _⟩ => ⟨S4096x2616, .f32⟩
  | .hbm, ⟨23, _⟩ => ⟨S4096x2616, .f32⟩
  | .hbm, ⟨24, _⟩ => ⟨S4096x2616, .f32⟩
  | .hbm, ⟨25, _⟩ => ⟨S_, .f32⟩
  | .hbm, ⟨26, _⟩ => ⟨S4096x2616, .f32⟩
  | .hbm, ⟨27, _⟩ => ⟨S4096x2616, .f32⟩
  | .hbm, ⟨28, _⟩ => ⟨S_, .f32⟩
  | .hbm, ⟨29, _⟩ => ⟨S4096x2616, .f32⟩
  | .hbm, ⟨30, _⟩ => ⟨S4096x2616, .f32⟩
  | .hbm, ⟨31, _⟩ => ⟨S4096x2616, .f32⟩
  | .hbm, ⟨32, _⟩ => ⟨S_, .f32⟩
  | .hbm, ⟨33, _⟩ => ⟨S4096x2616, .f32⟩
  | .hbm, ⟨34, _⟩ => ⟨S4096x2616, .f32⟩
  | .hbm, ⟨35, _⟩ => ⟨S4096x2616, .f32⟩
  | .hbm, ⟨36, _⟩ => ⟨S_, .f32⟩
  | .hbm, ⟨37, _⟩ => ⟨S4096x2616, .f32⟩
  | .hbm, ⟨38, _⟩ => ⟨S4096x2616, .f32⟩
  | .hbm, ⟨39, _⟩ => ⟨S4096x2616, .f32⟩
  | .hbm, ⟨40, _⟩ => ⟨S_, .f32⟩
  | .hbm, ⟨41, _⟩ => ⟨S4096x2616, .f32⟩
  | .hbm, ⟨42, _⟩ => ⟨S4096x2616, .f32⟩
  | _, _ => ⟨S4096x2616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel12.lean ====
abbrev S2048x512 : Shape := ⟨2, ![2048, 512]⟩
abbrev S7x2048x512 : Shape := ⟨3, ![7, 2048, 512]⟩
abbrev S512x512 : Shape := ⟨2, ![512, 512]⟩
abbrev S7x512x512 : Shape := ⟨3, ![7, 512, 512]⟩
abbrev S1x512x512 : Shape := ⟨3, ![1, 512, 512]⟩

abbrev nBuf : Space → Nat
  | .hbm => 9
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .bf16⟩
  | .hbm, ⟨4, _⟩ => ⟨S7x2048x512, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S7x512x512, .bf16⟩
  | .local _ .vmem, ⟨9, _⟩ => ⟨S7x512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel12Ideal.lean ====
abbrev S2048x512 : Shape := ⟨2, ![2048, 512]⟩
abbrev S7x2048x512 : Shape := ⟨3, ![7, 2048, 512]⟩
abbrev S512x512 : Shape := ⟨2, ![512, 512]⟩
abbrev S7x512x512 : Shape := ⟨3, ![7, 512, 512]⟩
abbrev S1x512x512 : Shape := ⟨3, ![1, 512, 512]⟩

abbrev nBuf : Space → Nat
  | .hbm => 9
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .bf16⟩
  | .hbm, ⟨4, _⟩ => ⟨S7x2048x512, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S7x512x512, .bf16⟩
  | .local _ .vmem, ⟨9, _⟩ => ⟨S7x512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S2048x512 : Shape := ⟨2, ![2048, 512]⟩
abbrev S7x2048x512 : Shape := ⟨3, ![7, 2048, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .bf16⟩
  | .hbm, ⟨4, _⟩ => ⟨S7x2048x512, .bf16⟩
  | .hbm, ⟨5, _⟩ => ⟨S2048x512, .f32⟩
  | .hbm, ⟨6, _⟩ => ⟨S7x2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel13.lean ====
abbrev S512x4096 : Shape := ⟨2, ![512, 4096]⟩
abbrev S7x512x4096 : Shape := ⟨3, ![7, 512, 4096]⟩
abbrev S64x4096 : Shape := ⟨2, ![64, 4096]⟩
abbrev S7x64x4096 : Shape := ⟨3, ![7, 64, 4096]⟩
abbrev S1x64x4096 : Shape := ⟨3, ![1, 64, 4096]⟩

abbrev nBuf : Space → Nat
  | .hbm => 9
  | .vmem => 18
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S512x4096, .bf16⟩
  | .hbm, ⟨4, _⟩ => ⟨S7x512x4096, .bf16⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .bf16⟩
  | .local _ .vmem, ⟨7, _⟩ => ⟨S64x4096, .bf16⟩
  | .local _ .vmem, ⟨8, _⟩ => ⟨S7x64x4096, .bf16⟩
  | .local _ .vmem, ⟨9, _⟩ => ⟨S7x64x4096, .bf16⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel13Ideal.lean ====
abbrev S512x4096 : Shape := ⟨2, ![512, 4096]⟩
abbrev S7x512x4096 : Shape := ⟨3, ![7, 512, 4096]⟩
abbrev S64x4096 : Shape := ⟨2, ![64, 4096]⟩
abbrev S7x64x4096 : Shape := ⟨3, ![7, 64, 4096]⟩
abbrev S1x64x4096 : Shape := ⟨3, ![1, 64, 4096]⟩

abbrev nBuf : Space → Nat
  | .hbm => 9
  | .vmem => 18
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S512x4096, .bf16⟩
  | .hbm, ⟨4, _⟩ => ⟨S7x512x4096, .bf16⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .bf16⟩
  | .local _ .vmem, ⟨7, _⟩ => ⟨S64x4096, .bf16⟩
  | .local _ .vmem, ⟨8, _⟩ => ⟨S7x64x4096, .bf16⟩
  | .local _ .vmem, ⟨9, _⟩ => ⟨S7x64x4096, .bf16⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S512x4096 : Shape := ⟨2, ![512, 4096]⟩
abbrev S7x512x4096 : Shape := ⟨3, ![7, 512, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S512x4096, .bf16⟩
  | .hbm, ⟨4, _⟩ => ⟨S7x512x4096, .bf16⟩
  | .hbm, ⟨5, _⟩ => ⟨S512x4096, .f32⟩
  | .hbm, ⟨6, _⟩ => ⟨S7x512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S_, .f32⟩
  | .hbm, ⟨14, _⟩ => ⟨S512x4096, .f32⟩
  | .hbm, ⟨15, _⟩ => ⟨S512x4096, .f32⟩
  | .hbm, ⟨16, _⟩ => ⟨S512x4096, .f32⟩
  | .hbm, ⟨17, _⟩ => ⟨S_, .f32⟩
  | .hbm, ⟨18, _⟩ => ⟨S512x4096, .f32⟩
  | .hbm, ⟨19, _⟩ => ⟨S512x4096, .f32⟩
  | .hbm, ⟨20, _⟩ => ⟨S512x4096, .f32⟩
  | .hbm, ⟨21, _⟩ => ⟨S_, .f32⟩
  | .hbm, ⟨22, _⟩ => ⟨S512x4096, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S_, .f32⟩
  | .hbm, ⟨29, _⟩ => ⟨S512x4096, .f32⟩
  | .hbm, ⟨30, _⟩ => ⟨S512x4096, .f32⟩
  | .hbm, ⟨31, _⟩ => ⟨S512x4096, .f32⟩
  | .hbm, ⟨32, _⟩ => ⟨S_, .f32⟩
  | .hbm, ⟨33, _⟩ => ⟨S512x4096, .f32⟩
  | .hbm, ⟨34, _⟩ => ⟨S512x4096, .f32⟩
  | .hbm, ⟨35, _⟩ => ⟨S512x4096, .f32⟩
  | .hbm, ⟨36, _⟩ => ⟨S_, .f32⟩
  | .hbm, ⟨37, _⟩ => ⟨S512x4096, .f32⟩
  | .hbm, ⟨38, _⟩ => ⟨S512x4096, .f32⟩
  | .hbm, ⟨39, _⟩ => ⟨S512x4096, .f32⟩
  | .hbm, ⟨40, _⟩ => ⟨S_, .f32⟩
  | .hbm, ⟨41, _⟩ => ⟨S512x4096, .f32⟩
  | .hbm, ⟨42, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel14.lean ====
abbrev S4096x2048 : Shape := ⟨2, ![4096, 2048]⟩
abbrev S3x4096x2048 : Shape := ⟨3, ![3, 4096, 2048]⟩
abbrev S128x2048 : Shape := ⟨2, ![128, 2048]⟩
abbrev S3x128x2048 : Shape := ⟨3, ![3, 128, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S3x4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | .local _ .vmem, ⟨8, _⟩ => ⟨S3x128x2048, .bf16⟩
  | .local _ .vmem, ⟨9, _⟩ => ⟨S3x128x2048, .bf16⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel14Ideal.lean ====
abbrev S4096x2048 : Shape := ⟨2, ![4096, 2048]⟩
abbrev S3x4096x2048 : Shape := ⟨3, ![3, 4096, 2048]⟩
abbrev S128x2048 : Shape := ⟨2, ![128, 2048]⟩
abbrev S3x128x2048 : Shape := ⟨3, ![3, 128, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S3x4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | .local _ .vmem, ⟨8, _⟩ => ⟨S3x128x2048, .bf16⟩
  | .local _ .vmem, ⟨9, _⟩ => ⟨S3x128x2048, .bf16⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S4096x2048 : Shape := ⟨2, ![4096, 2048]⟩
abbrev S3x4096x2048 : Shape := ⟨3, ![3, 4096, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S3x4096x2048, .bf16⟩
  | .hbm, ⟨5, _⟩ => ⟨S4096x2048, .f32⟩
  | .hbm, ⟨6, _⟩ => ⟨S3x4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel15.lean ====
abbrev S2048x4096 : Shape := ⟨2, ![2048, 4096]⟩
abbrev S3x2048x4096 : Shape := ⟨3, ![3, 2048, 4096]⟩
abbrev S64x4096 : Shape := ⟨2, ![64, 4096]⟩
abbrev S3x64x4096 : Shape := ⟨3, ![3, 64, 4096]⟩
abbrev S1x64x4096 : Shape := ⟨3, ![1, 64, 4096]⟩

abbrev nBuf : Space → Nat
  | .hbm => 9
  | .vmem => 18
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .bf16⟩
  | .hbm, ⟨4, _⟩ => ⟨S3x2048x4096, .bf16⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .bf16⟩
  | .local _ .vmem, ⟨7, _⟩ => ⟨S64x4096, .bf16⟩
  | .local _ .vmem, ⟨8, _⟩ => ⟨S3x64x4096, .bf16⟩
  | .local _ .vmem, ⟨9, _⟩ => ⟨S3x64x4096, .bf16⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel15Ideal.lean ====
abbrev S2048x4096 : Shape := ⟨2, ![2048, 4096]⟩
abbrev S3x2048x4096 : Shape := ⟨3, ![3, 2048, 4096]⟩
abbrev S64x4096 : Shape := ⟨2, ![64, 4096]⟩
abbrev S3x64x4096 : Shape := ⟨3, ![3, 64, 4096]⟩
abbrev S1x64x4096 : Shape := ⟨3, ![1, 64, 4096]⟩

abbrev nBuf : Space → Nat
  | .hbm => 9
  | .vmem => 18
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .bf16⟩
  | .hbm, ⟨4, _⟩ => ⟨S3x2048x4096, .bf16⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .bf16⟩
  | .local _ .vmem, ⟨7, _⟩ => ⟨S64x4096, .bf16⟩
  | .local _ .vmem, ⟨8, _⟩ => ⟨S3x64x4096, .bf16⟩
  | .local _ .vmem, ⟨9, _⟩ => ⟨S3x64x4096, .bf16⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S2048x4096 : Shape := ⟨2, ![2048, 4096]⟩
abbrev S3x2048x4096 : Shape := ⟨3, ![3, 2048, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .bf16⟩
  | .hbm, ⟨4, _⟩ => ⟨S3x2048x4096, .bf16⟩
  | .hbm, ⟨5, _⟩ => ⟨S2048x4096, .f32⟩
  | .hbm, ⟨6, _⟩ => ⟨S3x2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S_, .f32⟩
  | .hbm, ⟨26, _⟩ => ⟨S2048x4096, .f32⟩
  | .hbm, ⟨27, _⟩ => ⟨S2048x4096, .f32⟩
  | .hbm, ⟨28, _⟩ => ⟨S_, .f32⟩
  | .hbm, ⟨29, _⟩ => ⟨S2048x4096, .f32⟩
  | .hbm, ⟨30, _⟩ => ⟨S2048x4096, .f32⟩
  | .hbm, ⟨31, _⟩ => ⟨S2048x4096, .f32⟩
  | .hbm, ⟨32, _⟩ => ⟨S_, .f32⟩
  | .hbm, ⟨33, _⟩ => ⟨S2048x4096, .f32⟩
  | .hbm, ⟨34, _⟩ => ⟨S2048x4096, .f32⟩
  | .hbm, ⟨35, _⟩ => ⟨S2048x4096, .f32⟩
  | .hbm, ⟨36, _⟩ => ⟨S_, .f32⟩
  | .hbm, ⟨37, _⟩ => ⟨S2048x4096, .f32⟩
  | .hbm, ⟨38, _⟩ => ⟨S2048x4096, .f32⟩
  | .hbm, ⟨39, _⟩ => ⟨S2048x4096, .f32⟩
  | .hbm, ⟨40, _⟩ => ⟨S_, .f32⟩
  | .hbm, ⟨41, _⟩ => ⟨S2048x4096, .f32⟩
  | .hbm, ⟨42, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel16.lean ====
abbrev S456x256 : Shape := ⟨2, ![456, 256]⟩
abbrev S7x456x256 : Shape := ⟨3, ![7, 456, 256]⟩
abbrev S1x456x256 : Shape := ⟨3, ![1, 456, 256]⟩

abbrev nBuf : Space → Nat
  | .hbm => 9
  | .vmem => 9
  | .smem => 0
  | _ => 0

abbrev bufTy : (tb : Table) → Fin (tcTables nBuf tb) → BufTy
  | .hbm, ⟨0, _⟩ => ⟨S456x256, .f32⟩
  | .hbm, ⟨1, _⟩ => ⟨S456x256, .f32⟩
  | .hbm, ⟨2, _⟩ => ⟨S456x256, .f32⟩
  | .hbm, ⟨3, _⟩ => ⟨S456x256, .f32⟩
  | .hbm, ⟨4, _⟩ => ⟨S7x456x256, .f32⟩
  | .hbm, ⟨5, _⟩ => ⟨S456x256, .f32⟩
  | .hbm, ⟨6, _⟩ => ⟨S456x256, .f32⟩
  | .hbm, ⟨7, _⟩ => ⟨S456x256, .f32⟩
  | .hbm, ⟨8, _⟩ => ⟨S456x256, .f32⟩
  | .local _ .vmem, ⟨0, _⟩ => ⟨S456x256, .f32⟩
  | .local _ .vmem, ⟨1, _⟩ => ⟨S456x256, .f32⟩
  | .local _ .vmem, ⟨2, _⟩ => ⟨S456x256, .f32⟩
  | .local _ .vmem, ⟨3, _⟩ => ⟨S456x256, .f32⟩
  | .local _ .vmem, ⟨4, _⟩ => ⟨S7x456x256, .f32⟩
  | .local _ .vmem, ⟨5, _⟩ => ⟨S456x256, .f32⟩
  | .local _ .vmem, ⟨6, _⟩ => ⟨S456x256, .f32⟩
  | .local _ .vmem, ⟨7, _⟩ => ⟨S456x256, .f32⟩
  | .local _ .vmem, ⟨8, _⟩ => ⟨S456x256, .f32⟩
  | _, _ => ⟨S456x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S456x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S456x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S456x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S456x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S7x456x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S456x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S456x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S456x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S456x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference16Ideal.lean ====
abbrev S456x256 : Shape := ⟨2, ![456, 256]⟩
abbrev S7x456x256 : Shape := ⟨3, ![7, 456, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S456x256, .f32⟩
  | .hbm, ⟨1, _⟩ => ⟨S456x256, .f32⟩
  | .hbm, ⟨2, _⟩ => ⟨S456x256, .f32⟩
  | .hbm, ⟨3, _⟩ => ⟨S456x256, .f32⟩
  | .hbm, ⟨4, _⟩ => ⟨S7x456x256, .f32⟩
  | .hbm, ⟨5, _⟩ => ⟨S_, .f32⟩
  | .hbm, ⟨6, _⟩ => ⟨S456x256, .f32⟩
  | .hbm, ⟨7, _⟩ => ⟨S456x256, .f32⟩
  | .hbm, ⟨8, _⟩ => ⟨S_, .f32⟩
  | .hbm, ⟨9, _⟩ => ⟨S456x256, .f32⟩
  | .hbm, ⟨10, _⟩ => ⟨S456x256, .f32⟩
  | .hbm, ⟨11, _⟩ => ⟨S_, .f32⟩
  | .hbm, ⟨12, _⟩ => ⟨S456x256, .f32⟩
  | .hbm, ⟨13, _⟩ => ⟨S456x256, .f32⟩
  | .hbm, ⟨14, _⟩ => ⟨S456x256, .f32⟩
  | .hbm, ⟨15, _⟩ => ⟨S_, .f32⟩
  | .hbm, ⟨16, _⟩ => ⟨S456x256, .f32⟩
  | .hbm, ⟨17, _⟩ => ⟨S456x256, .f32⟩
  | .hbm, ⟨18, _⟩ => ⟨S456x256, .f32⟩
  | .hbm, ⟨19, _⟩ => ⟨S_, .f32⟩
  | .hbm, ⟨20, _⟩ => ⟨S456x256, .f32⟩
  | .hbm, ⟨21, _⟩ => ⟨S456x256, .f32⟩
  | .hbm, ⟨22, _⟩ => ⟨S456x256, .f32⟩
  | .hbm, ⟨23, _⟩ => ⟨S_, .f32⟩
  | .hbm, ⟨24, _⟩ => ⟨S456x256, .f32⟩
  | .hbm, ⟨25, _⟩ => ⟨S456x256, .f32⟩
  | .hbm, ⟨26, _⟩ => ⟨S_, .f32⟩
  | .hbm, ⟨27, _⟩ => ⟨S456x256, .f32⟩
  | .hbm, ⟨28, _⟩ => ⟨S456x256, .f32⟩
  | .hbm, ⟨29, _⟩ => ⟨S456x256, .f32⟩
  | .hbm, ⟨30, _⟩ => ⟨S_, .f32⟩
  | .hbm, ⟨31, _⟩ => ⟨S456x256, .f32⟩
  | .hbm, ⟨32, _⟩ => ⟨S456x256, .f32⟩
  | .hbm, ⟨33, _⟩ => ⟨S456x256, .f32⟩
  | .hbm, ⟨34, _⟩ => ⟨S_, .f32⟩
  | .hbm, ⟨35, _⟩ => ⟨S456x256, .f32⟩
  | .hbm, ⟨36, _⟩ => ⟨S456x256, .f32⟩
  | .hbm, ⟨37, _⟩ => ⟨S456x256, .f32⟩
  | .hbm, ⟨38, _⟩ => ⟨S_, .f32⟩
  | .hbm, ⟨39, _⟩ => ⟨S456x256, .f32⟩
  | .hbm, ⟨40, _⟩ => ⟨S456x256, .f32⟩
  | _, _ => ⟨S456x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel17.lean ====
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S4096x2048 : Shape := ⟨2, ![4096, 2048]⟩
abbrev S4096x4096 : Shape := ⟨2, ![4096, 4096]⟩
abbrev S8x2048x512 : Shape := ⟨3, ![8, 2048, 512]⟩
abbrev S4096x1024 : Shape := ⟨2, ![4096, 1024]⟩
abbrev S4096x512 : Shape := ⟨2, ![4096, 512]⟩
abbrev S1x1024x512 : Shape := ⟨3, ![1, 1024, 512]⟩
abbrev S1024x4096 : Shape := ⟨2, ![1024, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .bf16⟩
  | .hbm, ⟨3, _⟩ => ⟨S4096x4096, .bf16⟩
  | .hbm, ⟨4, _⟩ => ⟨S8x2048x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x4096, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S_, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S2048x4096, .f32⟩
  | .hbm, ⟨7, _⟩ => ⟨S2048x8x512, .f32⟩
  | .hbm, ⟨8, _⟩ => ⟨S8x2048x512, .f32⟩
  | .hbm, ⟨9, _⟩ => ⟨S8x2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x4096 : Shape := ⟨2, ![4096, 4096]⟩
abbrev S4096x16384 : Shape := ⟨2, ![4096, 16384]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x16384, .bf16⟩
  | .hbm, ⟨4, _⟩ => ⟨S4096x16384, .f32⟩
  | .hbm, ⟨5, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x4096 : Shape := ⟨2, ![4096, 4096]⟩
abbrev S4096x16384 : Shape := ⟨2, ![4096, 16384]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x16384, .f32⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S4096x16384, .f32⟩
  | .hbm, ⟨7, _⟩ => ⟨S4096x16384, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel20.lean ====
abbrev S4096x16384 : Shape := ⟨2, ![4096, 16384]⟩
abbrev S16384x4096 : Shape := ⟨2, ![16384, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S4096x16384, .bf16⟩
  | .hbm, ⟨3, _⟩ => ⟨S16384x4096, .bf16⟩
  | .hbm, ⟨4, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S4096x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S4096x2048 : Shape := ⟨2, ![4096, 2048]⟩
abbrev S2048x21504 : Shape := ⟨2, ![2048, 21504]⟩
abbrev S4096x21504 : Shape := ⟨2, ![4096, 21504]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x21504, .f32⟩
  | .hbm, ⟨2, _⟩ => ⟨S4096x2048, .bf16⟩
  | .hbm, ⟨3, _⟩ => ⟨S2048x21504, .bf16⟩
  | .hbm, ⟨4, _⟩ => ⟨S4096x21504, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 42, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S2048x21504 : Shape := ⟨2, ![2048, 21504]⟩
abbrev S4096x21504 : Shape := ⟨2, ![4096, 21504]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x21504, .f32⟩
  | .hbm, ⟨2, _⟩ => ⟨S4096x21504, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S4096x21504 : Shape := ⟨2, ![4096, 21504]⟩
abbrev S2048x21504 : Shape := ⟨2, ![2048, 21504]⟩
abbrev S4096x4096 : Shape := ⟨2, ![4096, 4096]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x21504, .f32⟩
  | .hbm, ⟨1, _⟩ => ⟨S4096x21504, .f32⟩
  | .hbm, ⟨2, _⟩ => ⟨S4096x21504, .bf16⟩
  | .hbm, ⟨3, _⟩ => ⟨S4096x21504, .bf16⟩
  | .hbm, ⟨4, _⟩ => ⟨S2048x21504, .bf16⟩
  | .hbm, ⟨5, _⟩ => ⟨S2048x21504, .bf16⟩
  | .hbm, ⟨6, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x21504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 21], ![false, false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_cond4 (i : grid0.Coords) : BitVec 1 :=
  let arg2 : BitVec 32 := BitVec.ofNat 32 (i 2).val
  let c20_i32_9 : BitVec 32 := 20#32
  let v19 : BitVec 1 := Scalar.cmpi .eq arg2 c20_i32_9
  let v20 : BitVec 32 := Scalar.extui v19
  let c0_i32_10 : BitVec 32 := 0#32
  let v21 : BitVec 1 := Scalar.cmpi .ne v20 c0_i32_10
  v21

def k0_cond5 (i : grid0.Coords) : BitVec 1 :=
  let arg1 : BitVec 32 := BitVec.ofNat 32 (i 1).val
  let c2_i32_0 : BitVec 32 := 2#32
  let v3 : BitVec 1 := Scalar.cmpi .sge arg1 c2_i32_0
  let v4 : BitVec 32 := Scalar.extui v3
  let c0_i32_1 : BitVec 32 := 0#32
  let v5 : BitVec 1 := Scalar.cmpi .ne v4 c0_i32_1
  v5

def k0_cond8 (i : grid0.Coords) : BitVec 1 :=
  let arg2 : BitVec 32 := BitVec.ofNat 32 (i 2).val
  let c20_i32_9 : BitVec 32 := 20#32
  let v19 : BitVec 1 := Scalar.cmpi .eq arg2 c20_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg1 c1_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x21504 : Shape := ⟨2, ![4096, 21504]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x21504, .f32⟩
  | .hbm, ⟨1, _⟩ => ⟨S4096x21504, .f32⟩
  | .hbm, ⟨2, _⟩ => ⟨S_, .f32⟩
  | .hbm, ⟨3, _⟩ => ⟨S4096x4096, .f32⟩
  | .hbm, ⟨4, _⟩ => ⟨S4096x21504, .f32⟩
  | .hbm, ⟨5, _⟩ => ⟨S4096x4096, .f32⟩
  | _, _ => ⟨S4096x21504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x4096 : Shape := ⟨2, ![4096, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S4096x4096 : Shape := ⟨2, ![4096, 4096]⟩
abbrev S2048x4096 : Shape := ⟨2, ![2048, 4096]⟩
abbrev S4096x2048 : Shape := ⟨2, ![4096, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S2048x4096, .f32⟩
  | .hbm, ⟨2, _⟩ => ⟨S4096x4096, .bf16⟩
  | .hbm, ⟨3, _⟩ => ⟨S2048x4096, .bf16⟩
  | .hbm, ⟨4, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2048x4096, .f32⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel25.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x2048, .bf16⟩
  | .hbm, ⟨3, _⟩ => ⟨S2048x4096, .bf16⟩
  | .hbm, ⟨4, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S4096x21504 : Shape := ⟨2, ![4096, 21504]⟩
abbrev S1x8192 : Shape := ⟨2, ![1, 8192]⟩
abbrev S4096x4096 : Shape := ⟨2, ![4096, 4096]⟩
abbrev S1x4096 : Shape := ⟨2, ![1, 4096]⟩
abbrev S512x512 : Shape := ⟨2, ![512, 512]⟩
abbrev S1x512 : Shape := ⟨2, ![1, 512]⟩
abbrev S512 : Shape := ⟨1, ![512]⟩

abbrev nBuf : Space → Nat
  | .hbm => 11
  | .vmem => 26
  | .smem => 0
  | _ => 0

abbrev bufTy : (tb : Table) → Fin (tcTables nBuf tb) → BufTy
  | .hbm, ⟨0, _⟩ => ⟨S4096x21504, .f32⟩
  | .hbm, ⟨1, _⟩ => ⟨S1x8192, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x4096, .bf16⟩
  | .hbm, ⟨7, _⟩ => ⟨S4096x4096, .bf16⟩
  | .hbm, ⟨8, _⟩ => ⟨S4096x4096, .bf16⟩
  | .hbm, ⟨9, _⟩ => ⟨S1x4096, .f32⟩
  | .hbm, ⟨10, _⟩ => ⟨S1x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S4096x21504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v65 : BitVec 1 := Scalar.cmpi .eq arg1 c0_i32
  let v66 : BitVec 32 := Scalar.extui v65
  let c0_i32_36 : BitVec 32 := 0#32
  let v67 : BitVec 1 := Scalar.cmpi .ne v66 c0_i32_36
  v67

def k0_cond2 (i : grid0.Coords) : BitVec 1 :=
  let arg1 : BitVec 32 := BitVec.ofNat 32 (i 1).val
  let c0_i32 : BitVec 32 := 0#32
  let v65 : BitVec 1 := Scalar.cmpi .eq arg1 c0_i32
  let v_true : BitVec 1 := 1#1
  let v68 : BitVec 1 := Scalar.xori v65 v_true
  let v69 : BitVec 32 := Scalar.extui v68
  let c0_i32_37 : BitVec 32 := 0#32
  let v70 : BitVec 1 := Scalar.cmpi .ne v69 c0_i32_37
  v70

def k0_cond3 (i : grid0.Coords) : BitVec 1 :=
  let arg1 : BitVec 32 := BitVec.ofNat 32 (i 1).val
  let c0_i32 : BitVec 32 := 0#32
  let v65 : BitVec 1 := Scalar.cmpi .eq arg1 c0_i32
  let v71 : BitVec 32 := Scalar.extui v65
  let c0_i32_38 : BitVec 32 := 0#32
  let v72 : BitVec 1 := Scalar.cmpi .ne v71 c0_i32_38
  v72

def k0_cond4 (i : grid0.Coords) : BitVec 1 :=
  let arg1 : BitVec 32 := BitVec.ofNat 32 (i 1).val
  let c0_i32 : BitVec 32 := 0#32
  let v65 : BitVec 1 := Scalar.cmpi .eq arg1 c0_i32
  let true_39 : BitVec 1 := 1#1
  let v73 : BitVec 1 := Scalar.xori v65 true_39
  let v74 : BitVec 32 := Scalar.extui v73
  let c0_i32_40 : BitVec 32 := 0#32
  let v75 : BitVec 1 := Scalar.cmpi .ne v74 c0_i32_40
  v75

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference27Ideal.lean ====
abbrev S4096x21504 : Shape := ⟨2, ![4096, 21504]⟩
abbrev S1x8192 : Shape := ⟨2, ![1, 8192]⟩
abbrev S4096x4096 : Shape := ⟨2, ![4096, 4096]⟩
abbrev S4096x8192 : Shape := ⟨2, ![4096, 8192]⟩
abbrev S_ : Shape := ⟨0, ![]⟩
abbrev S8192 : Shape := ⟨1, ![8192]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x21504, .f32⟩
  | .hbm, ⟨1, _⟩ => ⟨S1x8192, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x8192, .f32⟩
  | .hbm, ⟨32, _⟩ => ⟨S4096x8192, .f32⟩
  | .hbm, ⟨33, _⟩ => ⟨S_, .f32⟩
  | .hbm, ⟨34, _⟩ => ⟨S8192, .f32⟩
  | .hbm, ⟨35, _⟩ => ⟨S1x8192, .f32⟩
  | .hbm, ⟨36, _⟩ => ⟨S4096x8192, .bf16⟩
  | .hbm, ⟨37, _⟩ => ⟨S4096x4096, .bf16⟩
  | .hbm, ⟨38, _⟩ => ⟨S4096x4096, .bf16⟩
  | .hbm, ⟨39, _⟩ => ⟨S1x4096, .f32⟩
  | .hbm, ⟨40, _⟩ => ⟨S1x4096, .f32⟩
  | .hbm, ⟨41, _⟩ => ⟨S4096x4096, .bf16⟩
  | .hbm, ⟨42, _⟩ => ⟨S4096x4096, .bf16⟩
  | _, _ => ⟨S4096x21504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel28.lean ====
abbrev S4096x2048 : Shape := ⟨2, ![4096, 2048]⟩
abbrev S2048x21504 : Shape := ⟨2, ![2048, 21504]⟩
abbrev S4096x21504 : Shape := ⟨2, ![4096, 21504]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x21504, .f32⟩
  | .hbm, ⟨2, _⟩ => ⟨S4096x21504, .f32⟩
  | .hbm, ⟨3, _⟩ => ⟨S4096x2048, .bf16⟩
  | .hbm, ⟨4, _⟩ => ⟨S2048x21504, .bf16⟩
  | .hbm, ⟨5, _⟩ => ⟨S4096x21504, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 42, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference28Ideal.lean ====
abbrev S4096x2048 : Shape := ⟨2, ![4096, 2048]⟩
abbrev S2048x21504 : Shape := ⟨2, ![2048, 21504]⟩
abbrev S4096x21504 : Shape := ⟨2, ![4096, 21504]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x21504, .f32⟩
  | .hbm, ⟨2, _⟩ => ⟨S4096x21504, .f32⟩
  | .hbm, ⟨3, _⟩ => ⟨S4096x21504, .f32⟩
  | .hbm, ⟨4, _⟩ => ⟨S4096x21504, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel29.lean ====
abbrev S4096x2048 : Shape := ⟨2, ![4096, 2048]⟩
abbrev S4096x21504 : Shape := ⟨2, ![4096, 21504]⟩
abbrev S1x2048 : Shape := ⟨2, ![1, 2048]⟩
abbrev S512x512 : Shape := ⟨2, ![512, 512]⟩
abbrev S8x512 : Shape := ⟨2, ![8, 512]⟩
abbrev S1x512 : Shape := ⟨2, ![1, 512]⟩
abbrev S512 : Shape := ⟨1, ![512]⟩

abbrev nBuf : Space → Nat
  | .hbm => 5
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x21504, .f32⟩
  | .hbm, ⟨2, _⟩ => ⟨S1x2048, .f32⟩
  | .hbm, ⟨3, _⟩ => ⟨S4096x2048, .bf16⟩
  | .hbm, ⟨4, _⟩ => ⟨S1x2048, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S8x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_19 : BitVec 32 := 0#32
  let v42 : BitVec 1 := Scalar.cmpi .eq arg1 c0_i32_19
  let v43 : BitVec 32 := Scalar.extui v42
  let c0_i32_20 : BitVec 32 := 0#32
  let v44 : BitVec 1 := Scalar.cmpi .ne v43 c0_i32_20
  v44

def k0_cond2 (i : grid0.Coords) : BitVec 1 :=
  let arg1 : BitVec 32 := BitVec.ofNat 32 (i 1).val
  let c0_i32_19 : BitVec 32 := 0#32
  let v42 : BitVec 1 := Scalar.cmpi .eq arg1 c0_i32_19
  let v_true : BitVec 1 := 1#1
  let v45 : BitVec 1 := Scalar.xori v42 v_true
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference29Ideal.lean ====
abbrev S4096x2048 : Shape := ⟨2, ![4096, 2048]⟩
abbrev S4096x21504 : Shape := ⟨2, ![4096, 21504]⟩
abbrev S1x2048 : Shape := ⟨2, ![1, 2048]⟩
abbrev S4095x2048 : Shape := ⟨2, ![4095, 2048]⟩
abbrev S_ : Shape := ⟨0, ![]⟩
abbrev S2048 : Shape := ⟨1, ![2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x21504, .f32⟩
  | .hbm, ⟨2, _⟩ => ⟨S1x2048, .f32⟩
  | .hbm, ⟨3, _⟩ => ⟨S4096x2048, .f32⟩
  | .hbm, ⟨4, _⟩ => ⟨S4095x2048, .f32⟩
  | .hbm, ⟨5, _⟩ => ⟨S_, .i32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S2048, .f32⟩
  | .hbm, ⟨15, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel30.lean ====
abbrev S4096x2048 : Shape := ⟨2, ![4096, 2048]⟩
abbrev S4096x21504 : Shape := ⟨2, ![4096, 21504]⟩
abbrev S1x2048 : Shape := ⟨2, ![1, 2048]⟩
abbrev S512x512 : Shape := ⟨2, ![512, 512]⟩
abbrev S8x512 : Shape := ⟨2, ![8, 512]⟩
abbrev S1x512 : Shape := ⟨2, ![1, 512]⟩
abbrev S512 : Shape := ⟨1, ![512]⟩

abbrev nBuf : Space → Nat
  | .hbm => 5
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x21504, .f32⟩
  | .hbm, ⟨2, _⟩ => ⟨S1x2048, .f32⟩
  | .hbm, ⟨3, _⟩ => ⟨S4096x2048, .bf16⟩
  | .hbm, ⟨4, _⟩ => ⟨S1x2048, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S8x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_19 : BitVec 32 := 0#32
  let v42 : BitVec 1 := Scalar.cmpi .eq arg1 c0_i32_19
  let v43 : BitVec 32 := Scalar.extui v42
  let c0_i32_20 : BitVec 32 := 0#32
  let v44 : BitVec 1 := Scalar.cmpi .ne v43 c0_i32_20
  v44

def k0_cond2 (i : grid0.Coords) : BitVec 1 :=
  let arg1 : BitVec 32 := BitVec.ofNat 32 (i 1).val
  let c0_i32_19 : BitVec 32 := 0#32
  let v42 : BitVec 1 := Scalar.cmpi .eq arg1 c0_i32_19
  let v_true : BitVec 1 := 1#1
  let v45 : BitVec 1 := Scalar.xori v42 v_true
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference30Ideal.lean ====
abbrev S4096x2048 : Shape := ⟨2, ![4096, 2048]⟩
abbrev S4096x21504 : Shape := ⟨2, ![4096, 21504]⟩
abbrev S1x2048 : Shape := ⟨2, ![1, 2048]⟩
abbrev S4095x2048 : Shape := ⟨2, ![4095, 2048]⟩
abbrev S_ : Shape := ⟨0, ![]⟩
abbrev S2048 : Shape := ⟨1, ![2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x21504, .f32⟩
  | .hbm, ⟨2, _⟩ => ⟨S1x2048, .f32⟩
  | .hbm, ⟨3, _⟩ => ⟨S4096x2048, .f32⟩
  | .hbm, ⟨4, _⟩ => ⟨S4095x2048, .f32⟩
  | .hbm, ⟨5, _⟩ => ⟨S_, .i32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S2048, .f32⟩
  | .hbm, ⟨15, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel31.lean ====
abbrev S4096x2048 : Shape := ⟨2, ![4096, 2048]⟩
abbrev S4096x21504 : Shape := ⟨2, ![4096, 21504]⟩
abbrev S1x2048 : Shape := ⟨2, ![1, 2048]⟩
abbrev S512x512 : Shape := ⟨2, ![512, 512]⟩
abbrev S8x512 : Shape := ⟨2, ![8, 512]⟩
abbrev S1x512 : Shape := ⟨2, ![1, 512]⟩
abbrev S512 : Shape := ⟨1, ![512]⟩

abbrev nBuf : Space → Nat
  | .hbm => 5
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x21504, .f32⟩
  | .hbm, ⟨2, _⟩ => ⟨S1x2048, .f32⟩
  | .hbm, ⟨3, _⟩ => ⟨S4096x2048, .bf16⟩
  | .hbm, ⟨4, _⟩ => ⟨S1x2048, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S8x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_19 : BitVec 32 := 0#32
  let v42 : BitVec 1 := Scalar.cmpi .eq arg1 c0_i32_19
  let v43 : BitVec 32 := Scalar.extui v42
  let c0_i32_20 : BitVec 32 := 0#32
  let v44 : BitVec 1 := Scalar.cmpi .ne v43 c0_i32_20
  v44

def k0_cond2 (i : grid0.Coords) : BitVec 1 :=
  let arg1 : BitVec 32 := BitVec.ofNat 32 (i 1).val
  let c0_i32_19 : BitVec 32 := 0#32
  let v42 : BitVec 1 := Scalar.cmpi .eq arg1 c0_i32_19
  let v_true : BitVec 1 := 1#1
  let v45 : BitVec 1 := Scalar.xori v42 v_true
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference31Ideal.lean ====
abbrev S4096x2048 : Shape := ⟨2, ![4096, 2048]⟩
abbrev S4096x21504 : Shape := ⟨2, ![4096, 21504]⟩
abbrev S1x2048 : Shape := ⟨2, ![1, 2048]⟩
abbrev S4095x2048 : Shape := ⟨2, ![4095, 2048]⟩
abbrev S_ : Shape := ⟨0, ![]⟩
abbrev S2048 : Shape := ⟨1, ![2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x21504, .f32⟩
  | .hbm, ⟨2, _⟩ => ⟨S1x2048, .f32⟩
  | .hbm, ⟨3, _⟩ => ⟨S4096x2048, .f32⟩
  | .hbm, ⟨4, _⟩ => ⟨S4095x2048, .f32⟩
  | .hbm, ⟨5, _⟩ => ⟨S_, .i32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S2048, .f32⟩
  | .hbm, ⟨15, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel32.lean ====
abbrev S4x4096x512 : Shape := ⟨3, ![4, 4096, 512]⟩
abbrev S4096x21504 : Shape := ⟨2, ![4096, 21504]⟩
abbrev S1x512 : Shape := ⟨2, ![1, 512]⟩
abbrev S1x4096x512 : Shape := ⟨3, ![1, 4096, 512]⟩
abbrev S4096x512 : Shape := ⟨2, ![4096, 512]⟩
abbrev S512x512 : Shape := ⟨2, ![512, 512]⟩
abbrev S8x512 : Shape := ⟨2, ![8, 512]⟩
abbrev S512 : Shape := ⟨1, ![512]⟩

abbrev nBuf : Space → Nat
  | .hbm => 13
  | .vmem => 25
  | .smem => 0
  | _ => 0

abbrev bufTy : (tb : Table) → Fin (tcTables nBuf tb) → BufTy
  | .hbm, ⟨0, _⟩ => ⟨S4x4096x512, .f32⟩
  | .hbm, ⟨1, _⟩ => ⟨S4096x21504, .f32⟩
  | .hbm, ⟨2, _⟩ => ⟨S1x512, .f32⟩
  | .hbm, ⟨3, _⟩ => ⟨S1x4096x512, .f32⟩
  | .hbm, ⟨4, _⟩ => ⟨S4096x512, .f32⟩
  | .hbm, ⟨5, _⟩ => ⟨S1x4096x512, .f32⟩
  | .hbm, ⟨6, _⟩ => ⟨S4096x512, .f32⟩
  | .hbm, ⟨7, _⟩ => ⟨S1x4096x512, .f32⟩
  | .hbm, ⟨8, _⟩ => ⟨S4096x512, .f32⟩
  | .hbm, ⟨9, _⟩ => ⟨S1x4096x512, .f32⟩
  | .hbm, ⟨10, _⟩ => ⟨S4096x512, .f32⟩
  | .hbm, ⟨11, _⟩ => ⟨S4096x512, .bf16⟩
  | .hbm, ⟨12, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S512x512, .f32⟩
  | .local _ .vmem, ⟨17, _⟩ => ⟨S512x512, .f32⟩
  | .local _ .vmem, ⟨18, _⟩ => ⟨S8x512, .f32⟩
  | .local _ .vmem, ⟨19, _⟩ => ⟨S8x512, .f32⟩
  | .local _ .vmem, ⟨20, _⟩ => ⟨S1x512, .f32⟩
  | .local _ .vmem, ⟨21, _⟩ => ⟨S512x512, .bf16⟩
  | .local _ .vmem, ⟨22, _⟩ => ⟨S512x512, .bf16⟩
  | .local _ .vmem, ⟨23, _⟩ => ⟨S1x512, .f32⟩
  | .local _ .vmem, ⟨24, _⟩ => ⟨S8x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32_31 : BitVec 32 := 0#32
  let v62 : BitVec 1 := Scalar.cmpi .eq arg1 c0_i32_31
  let v63 : BitVec 32 := Scalar.extui v62
  let c0_i32_32 : BitVec 32 := 0#32
  let v64 : BitVec 1 := Scalar.cmpi .ne v63 c0_i32_32
  v64

def k0_cond2 (i : grid0.Coords) : BitVec 1 :=
  let arg1 : BitVec 32 := BitVec.ofNat 32 (i 1).val
  let c0_i32_31 : BitVec 32 := 0#32
  let v62 : BitVec 1 := Scalar.cmpi .eq arg1 c0_i32_31
  let v_true : BitVec 1 := 1#1
  let v65 : BitVec 1 := Scalar.xori v62 v_true
  let v66 : BitVec 32 := Scalar.extui v65
  let c0_i32_33 : BitVec 32 := 0#32
  let v67 : BitVec 1 := Scalar.cmpi .ne v66 c0_i32_33
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let v3 : BitVec 32 := Scalar.addi c12_i32 arg0
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== Reference32Ideal.lean ====
abbrev S4x4096x512 : Shape := ⟨3, ![4, 4096, 512]⟩
abbrev S4096x21504 : Shape := ⟨2, ![4096, 21504]⟩
abbrev S1x512 : Shape := ⟨2, ![1, 512]⟩
abbrev S4096x512 : Shape := ⟨2, ![4096, 512]⟩
abbrev S4095x512 : Shape := ⟨2, ![4095, 512]⟩
abbrev S_ : Shape := ⟨0, ![]⟩
abbrev S512 : Shape := ⟨1, ![512]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4096x21504, .f32⟩
  | .hbm, ⟨2, _⟩ => ⟨S1x512, .f32⟩
  | .hbm, ⟨3, _⟩ => ⟨S4096x512, .f32⟩
  | .hbm, ⟨4, _⟩ => ⟨S4095x512, .f32⟩
  | .hbm, ⟨5, _⟩ => ⟨S_, .i32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S512, .f32⟩
  | .hbm, ⟨17, _⟩ => ⟨S1x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Proof.ConvTile.lean ====
module

public import proofs.«01_k».proof.Defs
public import proofs.«01_k».proof.Proof.Gen.Kernel2Ideal.Skeleton
public import Idealize.ShloMosaic.Lib.Pipeline.Value
public import Idealize.ShloMosaic.Lib.Tactic
public import Idealize.ShloMosaic.Lib.Pointwise

/-!
What one grid point of the convolution's backward call computes, as formulas over the whole arrays: rows and columns are
natural numbers, the gates `B`, `C`, the input `U`, the taps `W` and the incoming gradient `D` are functions of them.
-/

@[expose] public section

noncomputable section

open Idealize.ShloMosaic Idealize.ShloMosaic.TcCoe Idealize.SL.Sem

namespace Cert.Proof.Conv

open Cert.Kernel2Ideal Cert.Kernel2Ideal.Gen

/-- The five arrays the call reads, as functions of row and column. -/
structure Src where
  B : ℕ → ℕ → EReal
  C : ℕ → ℕ → EReal
  U : ℕ → ℕ → EReal
  D : ℕ → ℕ → EReal
  W : ℕ → ℕ → EReal

namespace Src
variable (s : Src)

/-- The gated input `c * u`. -/
def Z (r l : ℕ) : EReal := s.C r l * s.U r l
/-- The gated input `n` rows earlier, zero before the first row. -/
def Zs (n r l : ℕ) : EReal := if r < n then 0 else s.Z (r - n) l
/-- The short convolution of the gated input. -/
def O (r l : ℕ) : EReal := s.W 2 l * s.Z r l + s.W 1 l * s.Zs 1 r l + s.W 0 l * s.Zs 2 r l
/-- The gradient of the convolution's output. -/
def dO (r l : ℕ) : EReal := s.D r l * s.B r l
/-- That gradient `n` rows later, zero after the last row. -/
def dOs (n r l : ℕ) : EReal := if r + n < 4096 then s.dO (r + n) l else 0
/-- The gradient of the gated input. -/
def dZ (r l : ℕ) : EReal := s.W 2 l * s.dO r l + s.W 1 l * s.dOs 1 r l + s.W 0 l * s.dOs 2 r l

end Src

/-- The input blocks of the grid point of row tile `I` and first column `c0`, as entries of the arrays. -/
structure IsBlocks (s : Src) (I c0 : ℕ) (x0 : Vec Ideal S512x512 .f32) (x1 : Vec Ideal S8x512 .f32) (x2 : Vec Ideal S512x512 .f32)
    (x3 : Vec Ideal S8x512 .f32) (x4 : Vec Ideal S512x512 .f32) (x5 x6 : Vec Ideal S8x512 .f32) (x7 : Vec Ideal S512x512 .f32)
    (x8 : Vec Ideal S8x512 .f32) : Prop where
  h0 : ∀ r l : Fin 512, x0 (ix2 r l) = s.B (512 * I + r) (c0 + l)
  h1 : I < 7 → ∀ (q : Fin 8) (l : Fin 512), x1 (ix2 q l) = s.B (512 * I + 512 + q) (c0 + l)
  h2 : ∀ r l : Fin 512, x2 (ix2 r l) = s.C (512 * I + r) (c0 + l)
  h3 : 0 < I → ∀ (q : Fin 8) (l : Fin 512), x3 (ix2 q l) = s.C (512 * I - 8 + q) (c0 + l)
  h4 : ∀ r l : Fin 512, x4 (ix2 r l) = s.U (512 * I + r) (c0 + l)
  h5 : 0 < I → ∀ (q : Fin 8) (l : Fin 512), x5 (ix2 q l) = s.U (512 * I - 8 + q) (c0 + l)
  h6 : ∀ (q : Fin 8) (l : Fin 512), q.val < 3 → x6 (ix2 q l) = s.W q (c0 + l)
  h7 : ∀ r l : Fin 512, x7 (ix2 r l) = s.D (512 * I + r) (c0 + l)
  h8 : I < 7 → ∀ (q : Fin 8) (l : Fin 512), x8 (ix2 q l) = s.D (512 * I + 512 + q) (c0 + l)

/-- A comparison of two small words chooses by the numbers' equality. -/
theorem sel_eq {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  unfold IntOp.cmpi
  simp only [Scalar.select_ofBool, beq_iff_eq]
  congr 1
  rw [← BitVec.toNat_inj, BitVec.toNat_ofNat, BitVec.toNat_ofNat, Nat.mod_eq_of_lt ha, Nat.mod_eq_of_lt hb]

/-- The same of two scalar words. -/
theorem sel_eq' {α : Type} (a b : ℕ) (ha : a < 2 ^ 32) (hb : b < 2 ^ 32) (x y : α) :
    Scalar.select (Scalar.cmpi CmpIPredicate.eq (BitVec.ofNat 32 a) (BitVec.ofNat 32 b)) x y = if a = b then x else y :=
  sel_eq a b ha hb x y

/-- A row of an eight-row block, loaded alone. -/
theorem ld_row (x : Vec Ideal S8x512 .f32) (q : ℕ) (hq : q < 8) (inb) (l : Fin 512) :
    View.ld x (Rect.unit ![q, 0] ![1, 512] inb) (ix2 0 l) = x (ix2 ⟨q, hq⟩ l) := by
  show x _ = _
  congr 1
  funext a
  apply Fin.ext
  match a with
  | ⟨0, _⟩ => show q + 1 * 0 = q; omega
  | ⟨1, _⟩ => show 0 + 1 * l.val = l.val; omega

variable {s : Src} {I c0 : ℕ} {x0 : Vec Ideal S512x512 .f32} {x1 : Vec Ideal S8x512 .f32} {x2 : Vec Ideal S512x512 .f32}
    {x3 : Vec Ideal S8x512 .f32} {x4 : Vec Ideal S512x512 .f32} {x5 x6 : Vec Ideal S8x512 .f32} {x7 : Vec Ideal S512x512 .f32}
    {x8 : Vec Ideal S8x512 .f32}

theorem pay3 (h : IsBlocks s I c0 x0 x1 x2 x3 x4 x5 x6 x7 x8) (r l : Fin 512) :
    k0_pay3 (F := Ideal) x2 x4 (ix2 r l) = s.Z (512 * I + r) (c0 + l) := by
  unfold k0_pay3
  pointwise
  rw [h.h2, h.h4]; rfl

theorem pay5 (h : IsBlocks s I c0 x0 x1 x2 x3 x4 x5 x6 x7 x8) (i : grid0.Coords) (hi : (i 1).val = I) (v : Vec Ideal S1x512 .f32)
    (hv : ∀ l : Fin 512, v (ix2 0 l) = x3 (ix2 7 l) * x5 (ix2 7 l)) (r l : Fin 512) :
    k0_pay5 (F := Ideal) i x2 x4 v (ix2 r l) = s.Zs 1 (512 * I + r) (c0 + l) := by
  have hI : (i 1).val < 8 := (i 1).isLt
  have hr := r.isLt
  unfold k0_pay5
  simp only [shapeCast_self]
  pointwise
  simp only [pay3 h]
  rw [sel_eq _ _ (by omega) (by omega), sel_eq' _ _ (by omega) (by omega), hi]
  unfold Src.Zs
  by_cases h0 : r.val = 0
  · rw [if_pos h0]
    by_cases h1 : I = 0
    · rw [if_pos h1, if_pos (by omega)]
    · rw [if_neg h1, if_neg (by omega), hv, h.h3 (by omega), h.h5 (by omega)]
      show s.Z _ _ = _
      congr 1
      simp only [Fin.isValue, Fin.coe_ofNat_eq_mod] <;> omega
  · rw [if_neg h0, if_neg (by omega)]
    congr 1
    omega

theorem pay9 (h : IsBlocks s I c0 x0 x1 x2 x3 x4 x5 x6 x7 x8) (i : grid0.Coords) (hi : (i 1).val = I) (v v' : Vec Ideal S1x512 .f32)
    (hv : ∀ l : Fin 512, v (ix2 0 l) = x3 (ix2 6 l) * x5 (ix2 6 l))
    (hv' : ∀ l : Fin 512, v' (ix2 0 l) = x3 (ix2 7 l) * x5 (ix2 7 l)) (r l : Fin 512) :
    k0_pay9 (F := Ideal) (Scalar.cmpi CmpIPredicate.eq (BitVec.ofNat 32 (i 1).val) 0#32) (k0_pay6 x2 x4)
      (iota Kind.tc S512x512 32 [0] iota_S512x512_d0_w32) k0_pay7 (k0_pay8 i v) v' (ix2 r l) = s.Zs 2 (512 * I + r) (c0 + l) := by
  have hI : (i 1).val < 8 := (i 1).isLt
  have hr := r.isLt
  unfold k0_pay9 k0_pay6 k0_pay7 k0_pay8
  simp only [shapeCast_self]
  pointwise
  simp only [pay3 h]
  rw [sel_eq _ _ (by omega) (by omega), sel_eq' _ _ (by omega) (by omega), sel_eq _ _ (by omega) (by omega),
    sel_eq' _ _ (by omega) (by omega), hi]
  unfold Src.Zs
  by_cases h0 : r.val = 1
  · rw [if_pos h0]
    by_cases h1 : I = 0
    · rw [if_pos h1, if_pos (by omega)]
    · rw [if_neg h1, if_neg (by omega), hv', h.h3 (by omega), h.h5 (by omega)]
      show s.Z _ _ = _
      congr 1
      simp only [Fin.isValue, Fin.coe_ofNat_eq_mod] <;> omega
  · rw [if_neg h0]
    by_cases h2 : r.val = 0
    · rw [if_pos h2]
      by_cases h1 : I = 0
      · rw [if_pos h1, if_pos (by omega)]
      · rw [if_neg h1, if_neg (by omega), hv, h.h3 (by omega), h.h5 (by omega)]
        show s.Z _ _ = _
        congr 1
        simp only [Fin.isValue, Fin.coe_ofNat_eq_mod] <;> omega
    · rw [if_neg h2, if_neg (by omega)]
      congr 1
      omega

theorem pay14 (h : IsBlocks s I c0 x0 x1 x2 x3 x4 x5 x6 x7 x8) (r l : Fin 512) :
    k0_pay14 (F := Ideal) x0 x7 (ix2 r l) = s.dO (512 * I + r) (c0 + l) := by
  unfold k0_pay14
  pointwise
  rw [h.h0, h.h7]; rfl

/-- The three taps, as loaded from the block of taps. -/
abbrev tap (x6 : Vec Ideal S8x512 .f32) (q : ℕ) (inb : ∀ a, (![q, 0] : Fin 2 → ℕ) a + (![1, 512] : Fin 2 → ℕ) a ≤ S8x512.size a) : Vec Ideal S1x512 .f32 := View.ld x6 (Rect.unit ![q, 0] ![1, 512] inb)

theorem tap_apply (x6 : Vec Ideal S8x512 .f32) (q : ℕ) (hq : q < 8) (inb) (l : Fin 512) :
    tap x6 q inb (ix2 0 l) = x6 (ix2 ⟨q, hq⟩ l) := ld_row x6 q hq inb l

theorem pay13 (h : IsBlocks s I c0 x0 x1 x2 x3 x4 x5 x6 x7 x8) (i : grid0.Coords) (hi : (i 1).val = I) (v v' : Vec Ideal S1x512 .f32)
    (hv : ∀ l : Fin 512, v (ix2 0 l) = x3 (ix2 6 l) * x5 (ix2 6 l))
    (hv' : ∀ l : Fin 512, v' (ix2 0 l) = x3 (ix2 7 l) * x5 (ix2 7 l)) (b0 b1 b2) (r l : Fin 512) :
    k0_pay13 (F := Ideal) (Scalar.cmpi CmpIPredicate.eq (BitVec.ofNat 32 (i 1).val) 0#32) (k0_pay3 x2 x4) (k0_pay5 i x2 x4 v')
      (k0_pay6 x2 x4) (iota Kind.tc S512x512 32 [0] iota_S512x512_d0_w32) k0_pay7 (k0_pay8 i v) v' (tap x6 0 b0) (tap x6 1 b1)
      (tap x6 2 b2) (ix2 r l) = s.O (512 * I + r) (c0 + l) := by
  unfold k0_pay13 k0_pay12 k0_pay11 k0_pay10
  simp only [shapeCast_self]
  pointwise
  rw [pay3 h, pay5 h i hi v' hv', pay9 h i hi v v' hv hv', tap_apply x6 0 (by omega), tap_apply x6 1 (by omega), tap_apply x6 2 (by omega),
    h.h6 _ _ (by norm_num), h.h6 _ _ (by norm_num), h.h6 _ _ (by norm_num)]
  rfl

theorem pay19 (h : IsBlocks s I c0 x0 x1 x2 x3 x4 x5 x6 x7 x8) (i : grid0.Coords) (hi : (i 1).val = I) (v v' : Vec Ideal S1x512 .f32)
    (hv : ∀ l : Fin 512, v (ix2 0 l) = x8 (ix2 0 l) * x1 (ix2 0 l))
    (hv' : ∀ l : Fin 512, v' (ix2 0 l) = x8 (ix2 1 l) * x1 (ix2 1 l)) (b0 b1 b2) (r l : Fin 512) :
    k0_pay19 (F := Ideal) (Scalar.cmpi CmpIPredicate.eq (BitVec.ofNat 32 (i 1).val) 7#32) (k0_pay10 (tap x6 0 b0))
      (k0_pay11 (tap x6 1 b1)) (k0_pay14 x0 x7) (k0_pay16 x0 x7 (tap x6 2 b2)) (k0_pay17 x0 x7)
      (iota Kind.tc S512x512 32 [0] iota_S512x512_d0_w32)
      (k0_pay18 (Scalar.cmpi CmpIPredicate.eq (BitVec.ofNat 32 (i 1).val) 7#32) v) 511#32 v v' (ix2 r l)
      = s.dZ (512 * I + r) (c0 + l) := by
  have hI : (i 1).val < 8 := (i 1).isLt
  have hr := r.isLt
  subst hi
  unfold k0_pay19 k0_pay18 k0_pay17 k0_pay16 k0_pay12 k0_pay11 k0_pay10
  simp only [shapeCast_self]
  pointwise
  simp only [pay14 h, tap_apply x6 0 (by omega : 0 < 8), tap_apply x6 1 (by omega : 1 < 8), tap_apply x6 2 (by omega : 2 < 8), h.h6 ⟨0, by omega⟩ _ (by norm_num), h.h6 ⟨1, by omega⟩ _ (by norm_num), h.h6 ⟨2, by omega⟩ _ (by norm_num)]
  simp only [sel_eq _ 511 (lt_trans r.isLt (by norm_num)) (by norm_num : 511 < 2 ^ 32), sel_eq _ 510 (lt_trans r.isLt (by norm_num)) (by norm_num : 510 < 2 ^ 32),
    sel_eq' _ 7 (lt_trans hI (by norm_num)) (by norm_num : 7 < 2 ^ 32)]
  have e1 : (if r.val = 511 then (if (i 1).val = 7 then 0 else v (ix2 0 l)) else s.dO (512 * (i 1).val + (r.val + 512 - 511) % 512) (c0 + l))
      = s.dOs 1 (512 * (i 1).val + r) (c0 + l) := by
    unfold Src.dOs
    by_cases h0 : r.val = 511
    · rw [if_pos h0]
      by_cases h1 : (i 1).val = 7
      · rw [if_pos h1, if_neg (by omega)]
      · rw [if_neg h1, if_pos (by omega), hv, h.h1 (by omega), h.h8 (by omega)]
        show s.dO _ _ = _
        congr 1
        simp only [Fin.isValue, Fin.coe_ofNat_eq_mod] <;> omega
    · rw [if_neg h0, if_pos (by omega)]
      congr 1
      omega
  have e2 : (if r.val = 511 then (if (i 1).val = 7 then 0 else v' (ix2 0 l)) else if r.val = 510 then (if (i 1).val = 7 then 0 else v (ix2 0 l))
      else s.dO (512 * (i 1).val + (r.val + 512 - 510) % 512) (c0 + l)) = s.dOs 2 (512 * (i 1).val + r) (c0 + l) := by
    unfold Src.dOs
    by_cases h0 : r.val = 511
    · rw [if_pos h0]
      by_cases h1 : (i 1).val = 7
      · rw [if_pos h1, if_neg (by omega)]
      · rw [if_neg h1, if_pos (by omega), hv', h.h1 (by omega), h.h8 (by omega)]
        show s.dO _ _ = _
        congr 1
        simp only [Fin.isValue, Fin.coe_ofNat_eq_mod] <;> omega
    · rw [if_neg h0]
      by_cases h2 : r.val = 510
      · rw [if_pos h2]
        by_cases h1 : (i 1).val = 7
        · rw [if_pos h1, if_neg (by omega)]
        · rw [if_neg h1, if_pos (by omega), hv, h.h1 (by omega), h.h8 (by omega)]
          show s.dO _ _ = _
          congr 1
          simp only [Fin.isValue, Fin.coe_ofNat_eq_mod] <;> omega
      · rw [if_neg h2, if_pos (by omega)]
        congr 1
        omega
  unfold Src.dZ
  rw [← e1, ← e2]

theorem red (x : FVec Ideal S512x512 .f32) (h1 h2) (l : Fin 512) :
    multiReduction (F := Ideal) FKind.add [0] S512 x (0#32) reduces_S512x512_S512 h1 h2 (ix1 l) = ∑ r : Fin 512, x (ix2 r l) := by
  pointwise
  done

theorem pay1 (x y z w : FVec Ideal S512x512 .f32) (q : Fin 8) (l : Fin 512) :
    k0_pay1 (F := Ideal) x y z (iota Kind.tc S8x512 32 [0] iota_S8x512_d0_w32) (k0_pay23 w z) (ix2 q l)
      = if q.val = 0 then ∑ r : Fin 512, z (ix2 r l) * w (ix2 r l) else if q.val = 1 then ∑ r : Fin 512, z (ix2 r l) * y (ix2 r l)
        else if q.val = 2 then ∑ r : Fin 512, z (ix2 r l) * x (ix2 r l) else 0 := by
  have hq := q.isLt
  unfold k0_pay1 k0_pay23
  simp only [shapeCast_self]
  pointwise
  simp only [sel_eq _ 0 (lt_trans q.isLt (by norm_num)) (by norm_num : 0 < 2 ^ 32), sel_eq _ 1 (lt_trans q.isLt (by norm_num)) (by norm_num : 1 < 2 ^ 32), sel_eq _ 2 (lt_trans q.isLt (by norm_num)) (by norm_num : 2 < 2 ^ 32)]

end Cert.Proof.Conv
-- ==== Proof.ConvRef.lean ====
module

public import proofs.«01_k».proof.Proof.ConvTile
public import proofs.«01_k».proof.Proof.Gen.Reference2Ideal.Read

/-!
The reference of the convolution's backward pass, read entry by entry in the same formulas.
-/

@[expose] public section

noncomputable section

open Idealize.ShloMosaic Idealize.ShloMosaic.TcCoe Idealize.SL.Sem

namespace Cert.Proof.Conv

open Cert.Reference2Ideal Cert.Reference2Ideal.Gen Cert.Reference2Ideal.Read

/-- An array's entry at natural coordinates, zero outside. -/
def at2 {n k : ℕ} (x : (⟨2, ![n, k]⟩ : Shape).Idx → EReal) (r c : ℕ) : EReal :=
  if h : r < n ∧ c < k then x (ix2 ⟨r, h.1⟩ ⟨c, h.2⟩) else 0

theorem at2_ix {n k : ℕ} (x : (⟨2, ![n, k]⟩ : Shape).Idx → EReal) (r : Fin n) (c : Fin k) : x (ix2 r c) = at2 x r c := by
  unfold at2
  rw [dif_pos ⟨r.isLt, c.isLt⟩]

theorem at2_mk {n k : ℕ} (x : (⟨2, ![n, k]⟩ : Shape).Idx → EReal) (r c : ℕ) (hr : r < n) (hc : c < k) :
    x (ix2 ⟨r, hr⟩ ⟨c, hc⟩) = at2 x r c := at2_ix x ⟨r, hr⟩ ⟨c, hc⟩

/-- The arrays of the call, cut out of the arguments. -/
def src (P : Vec Ideal S4096x21504 .f32) (W : Vec Ideal S3x2048 .f32) (D : Vec Ideal S4096x2048 .f32) : Src where
  B r l := at2 P r (6656 + l)
  C r l := at2 P r (8704 + l)
  U r l := at2 P r (10752 + l)
  D r l := at2 D r l
  W k l := at2 W k l

variable (P : Vec Ideal S4096x21504 .f32) (W : Vec Ideal S3x2048 .f32) (D : Vec Ideal S4096x2048 .f32)

theorem ref_Z (r : Fin 4096) (l : Fin 2048) : val_main_v4 (F := Ideal) P (ix2 r l) = (src P W D).Z r l := by
  pointwise [val_main_v4, val_main_v3, val_main_v2, val_main_v0]
  simp only [at2_mk, at2_ix]
  unfold Src.Z src
  dsimp only
  congr 2 <;> omega

theorem ref_Zs2 (r : Fin 4096) (l : Fin 2048) : val_main_v9 (F := Ideal) P (ix2 r l) = (src P W D).Zs 2 r l := by
  have hr := r.isLt
  pointwise [val_main_v9, val_main_v7, val_main_v8, val_main_cst]
  unfold Src.Zs
  by_cases h : r.val < 2
  · simp only [dif_pos h, if_pos h]
  · simp only [dif_neg h, if_neg h]
    rw [ref_Z P W D]

theorem ref_Zs1 (r : Fin 4096) (l : Fin 2048) : val_main_v18 (F := Ideal) P (ix2 r l) = (src P W D).Zs 1 r l := by
  have hr := r.isLt
  pointwise [val_main_v18, val_main_v16, val_main_v17, val_main_cst_1]
  unfold Src.Zs
  by_cases h : r.val < 1
  · simp only [dif_pos h, if_pos h]
  · simp only [dif_neg h, if_neg h]
    rw [ref_Z P W D]

theorem ref_w0 (r : Fin 4096) (l : Fin 2048) : val_main_v12 (F := Ideal) W (ix2 r l) = (src P W D).W 0 l := by
  pointwise [val_main_v12, val_main_v11, val_main_v6, val_main_v5]
  exact at2_ix W 0 l

theorem ref_w1 (r : Fin 4096) (l : Fin 2048) : val_main_v21 (F := Ideal) W (ix2 r l) = (src P W D).W 1 l := by
  pointwise [val_main_v21, val_main_v20, val_main_v15, val_main_v14]
  exact at2_ix W 1 l

theorem ref_w2 (r : Fin 4096) (l : Fin 2048) : val_main_v27 (F := Ideal) W (ix2 r l) = (src P W D).W 2 l := by
  pointwise [val_main_v27, val_main_v26, val_main_v25, val_main_v24]
  exact at2_ix W 2 l

theorem ref_O (r : Fin 4096) (l : Fin 2048) : val_main_v29 (F := Ideal) P W (ix2 r l) = (src P W D).O r l := by
  pointwise [val_main_v29, val_main_v28, val_main_v23, val_main_v22, val_main_v13]
  rw [ref_w0 P W D, ref_w1 P W D, ref_w2 P W D, ref_Z P W D, ref_Zs1 P W D, ref_Zs2 P W D]
  unfold Src.O
  ac_rfl

theorem ref_dO (r : Fin 4096) (l : Fin 2048) : val_main_v31 (F := Ideal) P D (ix2 r l) = (src P W D).dO r l := by
  pointwise [val_main_v31, val_main_v1, val_main_v0]
  rw [at2_ix D r l, mul_comm]
  show at2 D r l * P (ix2 r ⟨_, _⟩) = _
  rw [at2_ix P]
  rfl

theorem ref_dZ (r : Fin 4096) (l : Fin 2048) : val_main_v63 (F := Ideal) P W D (ix2 r l) = (src P W D).dZ r l := by
  have hr := r.isLt
  have e33 : val_main_v33 (F := Ideal) W = val_main_v27 W := rfl
  have e41 : val_main_v41 (F := Ideal) W = val_main_v21 W := rfl
  have e54 : val_main_v54 (F := Ideal) W = val_main_v12 W := rfl
  pointwise [val_main_v63, val_main_v62, val_main_v61, val_main_v55, val_main_v50, val_main_v49, val_main_v48, val_main_v42,
    val_main_v34, val_main_cst_8, val_main_cst_12]
  rw [e33, e41, e54]
  simp only [ref_w0 P W D, ref_w1 P W D, ref_w2 P W D, ref_dO P W D]
  unfold Src.dZ Src.dOs
  have e1 : (if h : r.val < 4095 then (src P W D).W 1 l * (src P W D).dO (1 + r.val) l else 0)
      = (src P W D).W 1 l * if r.val + 1 < 4096 then (src P W D).dO (r.val + 1) l else 0 := by
    by_cases h : r.val < 4095
    · rw [dif_pos h, if_pos (by omega), Nat.add_comm 1]
    · rw [dif_neg h, if_neg (by omega), mul_zero]
  have e2 : (if h : r.val < 4094 then (src P W D).W 0 l * (src P W D).dO (2 + r.val) l else 0)
      = (src P W D).W 0 l * if r.val + 2 < 4096 then (src P W D).dO (r.val + 2) l else 0 := by
    by_cases h : r.val < 4094
    · rw [dif_pos h, if_pos (by omega), Nat.add_comm 2]
    · rw [dif_neg h, if_neg (by omega), mul_zero]
  rw [e1, e2]

theorem ref_out0 (r : Fin 4096) (l : Fin 2048) : val_main_v71 (F := Ideal) P W D (ix2 r l) = (src P W D).D r l * (src P W D).O r l := by
  have hl := l.isLt
  pointwise [val_main_v71, val_main_v70, val_main_v69, val_main_v32]
  rw [ref_O P W D, at2_ix D]
  rfl

theorem ref_out1 (r : Fin 4096) (l : Fin 2048) : val_main_v72 (F := Ideal) P W D (ix2 r l) = (src P W D).dZ r l * (src P W D).U r l := by
  have hl := l.isLt
  pointwise [val_main_v72, val_main_v70, val_main_v69, val_main_v68, val_main_v3, val_main_v0]
  rw [ref_dZ P W D, at2_ix P]
  unfold src
  dsimp only
  congr 2 <;> omega

theorem ref_out2 (r : Fin 4096) (l : Fin 2048) : val_main_v73 (F := Ideal) P W D (ix2 r l) = (src P W D).dZ r l * (src P W D).C r l := by
  have hl := l.isLt
  pointwise [val_main_v73, val_main_v70, val_main_v69, val_main_v67, val_main_v2, val_main_v0]
  rw [dif_neg (by omega), dif_neg (by omega)]
  refine (mul_comm _ _).trans (congrArg₂ (· * ·) ?_ ?_)
  · exact (congrArg (val_main_v63 P W D) (congrArg (ix2 r) (Fin.ext (by dsimp only; omega)))).trans (ref_dZ P W D r l)
  · rw [at2_ix P]
    have e : 6656 + (2048 + (4096 + l.val - 2048 - 2048)) = 8704 + l.val := by omega
    exact congrArg (at2 P r) e

/-- The gradient of the taps: three sums over the rows, and five rows of zeros. -/
def dW (s : Src) (q l : ℕ) : EReal :=
  if q = 0 then ∑ r : Fin 4096, s.dO r l * s.Zs 2 r l else if q = 1 then ∑ r : Fin 4096, s.dO r l * s.Zs 1 r l
  else if q = 2 then ∑ r : Fin 4096, s.dO r l * s.Z r l else 0

theorem ref_s2 (l : Fin 2048) : val_main_v38 (F := Ideal) P D (ix1 l) = ∑ r : Fin 4096, (src P W D).dO r l * (src P W D).Z r l := by
  pointwise [val_main_v38, val_main_v37, val_main_v36, val_main_v35, val_main_cst_3, val_main_cst_4]
  simp only [ref_dO P W D, ref_Z P W D, Finset.univ_unique, Finset.sum_singleton]

theorem ref_s1 (l : Fin 2048) : val_main_v46 (F := Ideal) P D (ix1 l) = ∑ r : Fin 4096, (src P W D).dO r l * (src P W D).Zs 1 r l := by
  pointwise [val_main_v46, val_main_v45, val_main_v44, val_main_v43, val_main_cst_6, val_main_cst_7]
  simp only [ref_dO P W D, ref_Zs1 P W D, Finset.univ_unique, Finset.sum_singleton]

theorem ref_s0 (l : Fin 2048) : val_main_v59 (F := Ideal) P D (ix1 l) = ∑ r : Fin 4096, (src P W D).dO r l * (src P W D).Zs 2 r l := by
  pointwise [val_main_v59, val_main_v58, val_main_v57, val_main_v56, val_main_cst_10, val_main_cst_11]
  simp only [ref_dO P W D, ref_Zs2 P W D, Finset.univ_unique, Finset.sum_singleton]

theorem ref_out3 (q : Fin 8) (l : Fin 2048) : val_main_v74 (F := Ideal) P D (ix2 q l) = dW (src P W D) q l := by
  have hq := q.isLt
  pointwise [val_main_v74, val_main_call0_v0, val_main_c, val_main_v66, val_main_v65, val_main_v64, val_main_v53, val_main_v52,
    val_main_v51, val_main_v40, val_main_v39, val_main_cst_5, val_main_cst_9, val_main_cst_13]
  rw [ref_s0 P W D, ref_s1 P W D, ref_s2 P W D]
  unfold dW
  match q with
  | 0 => simp
  | 1 => simp
  | 2 => simp
  | ⟨k + 3, hk⟩ => simp; show (((0#32 : BitVec 32).toInt : ℝ) : EReal) = 0; simp

end Cert.Proof.Conv
-- ==== Proof.ConvOut.lean ====
module

public import proofs.«01_k».proof.Proof.ConvRef
public import proofs.«01_k».proof.Proof.Gen.Kernel2Ideal.Value
public import Idealize.ShloMosaic.Lib.Pipeline.ValueKit

/-!
The convolution's backward call: what each grid point leaves in its output blocks, and the four result arrays.
-/

@[expose] public section

noncomputable section

open Idealize.ShloMosaic Idealize.ShloMosaic.TcCoe Idealize.SL.Sem
open Idealize.ShloMosaic.Pipeline (Dat)

namespace Cert.Proof.Conv

open Cert.Kernel2Ideal Cert.Kernel2Ideal.Gen

variable (m : (ℓ : Loc nD τ sig) → Buf (Elt Ideal) ℓ)

theorem hz : (![0, 0] : Fin 2 → Nat) = fun _ => 0 := funext fun a => by fin_cases a <;> rfl

/-- The arrays of the call, cut out of the arguments as launched. -/
abbrev ksrc (c : Dev nD) : Src :=
  src (m ((c : Thread nD τ).loc main_arg0)) (m ((c : Thread nD τ).loc main_arg1)) (m ((c : Thread nD τ).loc main_arg2))

/-! ### The blocks -/

theorem i0 : ∀ t : Fin cfg0.N, win0_0.index t = ![t.val % 8, 13 + t.val / 8] := (by decide +kernel : ∀ t : Fin grid0.N, _)
theorem i1 : ∀ t : Fin cfg0.N, t.val % 8 < 7 → win0_1.index t = ![64 * (t.val % 8) + 64, 13 + t.val / 8] := (by decide +kernel : ∀ t : Fin grid0.N, _)
theorem i2 : ∀ t : Fin cfg0.N, win0_2.index t = ![t.val % 8, 17 + t.val / 8] := (by decide +kernel : ∀ t : Fin grid0.N, _)
theorem i3 : ∀ t : Fin cfg0.N, 0 < t.val % 8 → win0_3.index t = ![64 * (t.val % 8) - 1, 17 + t.val / 8] := (by decide +kernel : ∀ t : Fin grid0.N, _)
theorem i4 : ∀ t : Fin cfg0.N, win0_4.index t = ![t.val % 8, 21 + t.val / 8] := (by decide +kernel : ∀ t : Fin grid0.N, _)
theorem i5 : ∀ t : Fin cfg0.N, 0 < t.val % 8 → win0_5.index t = ![64 * (t.val % 8) - 1, 21 + t.val / 8] := (by decide +kernel : ∀ t : Fin grid0.N, _)
theorem i6 : ∀ t : Fin cfg0.N, win0_6.index t = ![0, t.val / 8] := (by decide +kernel : ∀ t : Fin grid0.N, _)
theorem i7 : ∀ t : Fin cfg0.N, win0_7.index t = ![t.val % 8, t.val / 8] := (by decide +kernel : ∀ t : Fin grid0.N, _)
theorem i8 : ∀ t : Fin cfg0.N, t.val % 8 < 7 → win0_8.index t = ![64 * (t.val % 8) + 64, t.val / 8] := (by decide +kernel : ∀ t : Fin grid0.N, _)
theorem ci : ∀ t : Fin cfg0.N, (grid0.coords t 1).val = t.val % 8 := (by decide +kernel : ∀ t : Fin grid0.N, _)

theorem at2_of {n k : ℕ} (x : (⟨2, ![n, k]⟩ : Shape).Idx → EReal) (j : (⟨2, ![n, k]⟩ : Shape).Idx) (r c : ℕ)
    (hr : (j 0 : ℕ) = r) (hc : (j 1 : ℕ) = c) : x j = at2 x r c := by
  subst hr hc
  conv_lhs => rw [← ix2_eta j]
  exact at2_ix x (j 0) (j 1)

theorem V_taps (c : Dev nD) : V m c main_v0 = pad S8x2048 ![0, 0] ![5, 0] ![0, 0] (m ((c : Thread nD τ).loc main_arg1) : S3x2048.Idx → EReal)
    (sitofp (F := Ideal) .f32 (constantI S_ 32 0#32)) pads_S3x2048_S8x2048_050_000 h_S_ := by
  unfold V
  simp only [hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp <;> rfl

theorem taps (c : Dev nD) (q k : ℕ) (hq : q < 3) (hk : k < 2048) (j : S8x2048.Idx) (h0 : (j 0 : ℕ) = q) (h1 : (j 1 : ℕ) = k) :
    V m c main_v0 j = (ksrc m c).W q k := by
  have e : j = ix2 (⟨q, by omega⟩ : Fin 8) (⟨k, hk⟩ : Fin 2048) := by
    refine (ix2_eta (n0 := 8) (n1 := 2048) j).symm.trans ?_
    congr 1
    · exact Fin.ext h0
    · exact Fin.ext h1
  rw [V_taps, e]
  pointwise
  refine (dif_pos (fun a : Fin 2 => match a with
    | ⟨0, _⟩ => (by show 0 ≤ q ∧ (q - 0) % (0 + 1) = 0 ∧ (q - 0) / (0 + 1) < 3; omega)
    | ⟨1, _⟩ => (by show 0 ≤ k ∧ (k - 0) % (0 + 1) = 0 ∧ (k - 0) / (0 + 1) < 2048; omega))).trans ?_
  exact at2_mk _ _ _ (by omega) hk

theorem blocks (c : Dev nD) (t : Fin cfg0.N) :
    IsBlocks (ksrc m c) (t.val % 8) (512 * (t.val / 8)) (iblk m c 0 t) (iblk m c 1 t) (iblk m c 2 t) (iblk m c 3 t) (iblk m c 4 t)
      (iblk m c 5 t) (iblk m c 6 t) (iblk m c 7 t) (iblk m c 8 t) where
  h0 r l := by
    blk_simp [iblk]
    rw [V_main_arg0]
    refine at2_of _ _ _ _ ?_ ?_
    · blk_simp [i0]; omega
    · blk_simp [i0]; omega
  h1 hI q l := by
    blk_simp [iblk]
    rw [V_main_arg0]
    refine at2_of _ _ _ _ ?_ ?_
    · blk_simp [i1 t hI]; omega
    · blk_simp [i1 t hI]; omega
  h2 r l := by
    blk_simp [iblk]
    rw [V_main_arg0]
    refine at2_of _ _ _ _ ?_ ?_
    · blk_simp [i2]; omega
    · blk_simp [i2]; omega
  h3 hI q l := by
    blk_simp [iblk]
    rw [V_main_arg0]
    refine at2_of _ _ _ _ ?_ ?_
    · blk_simp [i3 t hI]; omega
    · blk_simp [i3 t hI]; omega
  h4 r l := by
    blk_simp [iblk]
    rw [V_main_arg0]
    refine at2_of _ _ _ _ ?_ ?_
    · blk_simp [i4]; omega
    · blk_simp [i4]; omega
  h5 hI q l := by
    blk_simp [iblk]
    rw [V_main_arg0]
    refine at2_of _ _ _ _ ?_ ?_
    · blk_simp [i5 t hI]; omega
    · blk_simp [i5 t hI]; omega
  h6 q l hq := by
    have hN : t.val < 32 := lt_of_lt_of_eq t.isLt (show cfg0.N = 32 from N_0)
    have hl := l.isLt
    blk_simp [iblk]
    refine taps m c _ _ hq (by omega) _ ?_ ?_
    · blk_simp [i6]
    · blk_simp [i6]; omega
  h7 r l := by
    blk_simp [iblk]
    rw [V_main_arg2]
    refine at2_of _ _ _ _ ?_ ?_
    · blk_simp [i7]; omega
    · blk_simp [i7]; omega
  h8 hI q l := by
    blk_simp [iblk]
    rw [V_main_arg2]
    refine at2_of _ _ _ _ ?_ ?_
    · blk_simp [i8 t hI]; omega
    · blk_simp [i8 t hI]; omega

/-! ### What a grid point leaves -/

/-- A row of an eight-row buffer just filled, read back. -/
theorem readCov_row (v : View sig .tc .vmem S8x512 .f32) (x : Vec Ideal S8x512 .f32) (q : ℕ) (hq : q < 8) (inb) (inb') (l : Fin 512) :
    v.readCov (Val := Elt Ideal) [⟨Rect.unit ![0, 0] ![8, 512] inb, x⟩] (Rect.unit (s := S8x512) ![q, 0] ![1, 512] inb').toLoadRect (ix2 0 l) = x (ix2 ⟨q, hq⟩ l) := by
  have hc : View.canon (Val := Elt Ideal) (e := .f32) [⟨Rect.unit (s := S8x512) ![0, 0] ![8, 512] inb, x⟩] = x := View.canon_unit_zero (S := S8x512) hz _ x
  have h : ∀ y : S8x512.Idx, ∃ p ∈ [(⟨Rect.unit (s := S8x512) ![0, 0] ![8, 512] inb, x⟩ : View.Piece (Elt Ideal) S8x512 .f32)], y ∈ p.1.set := fun y =>
    ⟨_, List.mem_singleton_self _, by
      rw [Rect.mem_set_unit]
      intro a
      exact ⟨by rw [congrFun hz a]; omega, by rw [congrFun hz a]; have := (y a).isLt; match a with | ⟨0, _⟩ => exact this | ⟨1, _⟩ => exact this⟩⟩
  rw [View.readCov_eq_canon_ld v _ _ h, hc]
  exact ld_row x q hq inb' l

theorem prev_row (v : View sig .tc .vmem S8x512 .f32) (x y : Vec Ideal S8x512 .f32) (q : ℕ) (hq : q < 8) (inb) (inb') (l : Fin 512) :
    v.readCov (Val := Elt Ideal) [⟨Rect.unit ![0, 0] ![8, 512] inb, k0_pay4 (F := Ideal) x y⟩] (Rect.unit (s := S8x512) ![q, 0] ![1, 512] inb').toLoadRect (ix2 0 l)
      = x (ix2 ⟨q, hq⟩ l) * y (ix2 ⟨q, hq⟩ l) := by
  rw [readCov_row v _ q hq]
  unfold k0_pay4
  pointwise

theorem next_row (v : View sig .tc .vmem S8x512 .f32) (x y : Vec Ideal S8x512 .f32) (q : ℕ) (hq : q < 8) (inb) (inb') (l : Fin 512) :
    v.readCov (Val := Elt Ideal) [⟨Rect.unit ![0, 0] ![8, 512] inb, k0_pay15 (F := Ideal) x y⟩] (Rect.unit (s := S8x512) ![q, 0] ![1, 512] inb').toLoadRect (ix2 0 l)
      = x (ix2 ⟨q, hq⟩ l) * y (ix2 ⟨q, hq⟩ l) := by
  rw [readCov_row v _ q hq]
  unfold k0_pay15
  pointwise

theorem out9_A (c : Dev nD) (t : Fin cfg0.N) (h0 : t.val % 8 = 0) (h1 : ¬1 ≤ t.val % 8) (r l : Fin 512) :
    (outsAt0 m c t.val t.isLt).1 (ix2 r l) = (ksrc m c).D (512 * (t.val % 8) + r) (512 * (t.val / 8) + l) * (ksrc m c).O (512 * (t.val % 8) + r) (512 * (t.val / 8) + l) := by
  have hb := blocks m c t
  rw [outsAt0_A m c t h0 h1]
  dsimp only
  unfold out0_A_9
  refine (congrFun (View.read_writes_eq_canon _ _ _ (fun y => cover0_A_9 ..)) _).trans ?_
  unfold kernelRun0_A
  dsimp only
  sl_unfold_words
  simp only [View.canon_unit_zero (S := S512x512) hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S8x512) hz, View.ld_unit_zero (S := S512x512) hz, shapeCast_self]
  unfold k0_pay20
  pointwise
  rw [pay13 hb (grid0.coords t) (ci t) _ _ (fun l => ?_) (fun l => ?_), hb.h7]
  · exact prev_row _ _ _ 6 (by omega) _ _ l
  · exact prev_row _ _ _ 7 (by omega) _ _ l

theorem out10_A (c : Dev nD) (t : Fin cfg0.N) (h0 : t.val % 8 = 0) (h1 : ¬1 ≤ t.val % 8) (r l : Fin 512) :
    (outsAt0 m c t.val t.isLt).2.1 (ix2 r l) = (ksrc m c).dZ (512 * (t.val % 8) + r) (512 * (t.val / 8) + l) * (ksrc m c).U (512 * (t.val % 8) + r) (512 * (t.val / 8) + l) := by
  have hb := blocks m c t
  rw [outsAt0_A m c t h0 h1]
  dsimp only
  unfold out0_A_10
  refine (congrFun (View.read_writes_eq_canon _ _ _ (fun y => cover0_A_10 ..)) _).trans ?_
  unfold kernelRun0_A
  dsimp only
  sl_unfold_words
  simp only [View.canon_unit_zero (S := S512x512) hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S8x512) hz, View.ld_unit_zero (S := S512x512) hz, shapeCast_self]
  unfold k0_pay21
  pointwise
  rw [pay19 hb (grid0.coords t) (ci t) _ _ (fun l => ?_) (fun l => ?_), hb.h4]
  · exact next_row _ _ _ 0 (by omega) _ _ l
  · exact next_row _ _ _ 1 (by omega) _ _ l

theorem out11_A (c : Dev nD) (t : Fin cfg0.N) (h0 : t.val % 8 = 0) (h1 : ¬1 ≤ t.val % 8) (r l : Fin 512) :
    (outsAt0 m c t.val t.isLt).2.2.1 (ix2 r l) = (ksrc m c).dZ (512 * (t.val % 8) + r) (512 * (t.val / 8) + l) * (ksrc m c).C (512 * (t.val % 8) + r) (512 * (t.val / 8) + l) := by
  have hb := blocks m c t
  rw [outsAt0_A m c t h0 h1]
  dsimp only
  unfold out0_A_11
  refine (congrFun (View.read_writes_eq_canon _ _ _ (fun y => cover0_A_11 ..)) _).trans ?_
  unfold kernelRun0_A
  dsimp only
  sl_unfold_words
  simp only [View.canon_unit_zero (S := S512x512) hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S8x512) hz, View.ld_unit_zero (S := S512x512) hz, shapeCast_self]
  unfold k0_pay22
  pointwise
  rw [pay19 hb (grid0.coords t) (ci t) _ _ (fun l => ?_) (fun l => ?_), hb.h2]
  · exact next_row _ _ _ 0 (by omega) _ _ l
  · exact next_row _ _ _ 1 (by omega) _ _ l

theorem out9_B (c : Dev nD) (t : Fin cfg0.N) (h0 : ¬t.val % 8 = 0) (h1 : 1 ≤ t.val % 8) (r l : Fin 512) :
    (outsAt0 m c t.val t.isLt).1 (ix2 r l) = (ksrc m c).D (512 * (t.val % 8) + r) (512 * (t.val / 8) + l) * (ksrc m c).O (512 * (t.val % 8) + r) (512 * (t.val / 8) + l) := by
  have hb := blocks m c t
  rw [outsAt0_B m c t h0 h1]
  dsimp only
  unfold out0_B_9
  refine (congrFun (View.read_writes_eq_canon _ _ _ (fun y => cover0_B_9 ..)) _).trans ?_
  unfold kernelRun0_B
  dsimp only
  sl_unfold_words
  simp only [View.canon_unit_zero (S := S512x512) hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S8x512) hz, View.ld_unit_zero (S := S512x512) hz, shapeCast_self]
  unfold k0_pay20
  pointwise
  rw [pay13 hb (grid0.coords t) (ci t) _ _ (fun l => ?_) (fun l => ?_), hb.h7]
  · exact prev_row _ _ _ 6 (by omega) _ _ l
  · exact prev_row _ _ _ 7 (by omega) _ _ l

theorem out10_B (c : Dev nD) (t : Fin cfg0.N) (h0 : ¬t.val % 8 = 0) (h1 : 1 ≤ t.val % 8) (r l : Fin 512) :
    (outsAt0 m c t.val t.isLt).2.1 (ix2 r l) = (ksrc m c).dZ (512 * (t.val % 8) + r) (512 * (t.val / 8) + l) * (ksrc m c).U (512 * (t.val % 8) + r) (512 * (t.val / 8) + l) := by
  have hb := blocks m c t
  rw [outsAt0_B m c t h0 h1]
  dsimp only
  unfold out0_B_10
  refine (congrFun (View.read_writes_eq_canon _ _ _ (fun y => cover0_B_10 ..)) _).trans ?_
  unfold kernelRun0_B
  dsimp only
  sl_unfold_words
  simp only [View.canon_unit_zero (S := S512x512) hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S8x512) hz, View.ld_unit_zero (S := S512x512) hz, shapeCast_self]
  unfold k0_pay21
  pointwise
  rw [pay19 hb (grid0.coords t) (ci t) _ _ (fun l => ?_) (fun l => ?_), hb.h4]
  · exact next_row _ _ _ 0 (by omega) _ _ l
  · exact next_row _ _ _ 1 (by omega) _ _ l

theorem out11_B (c : Dev nD) (t : Fin cfg0.N) (h0 : ¬t.val % 8 = 0) (h1 : 1 ≤ t.val % 8) (r l : Fin 512) :
    (outsAt0 m c t.val t.isLt).2.2.1 (ix2 r l) = (ksrc m c).dZ (512 * (t.val % 8) + r) (512 * (t.val / 8) + l) * (ksrc m c).C (512 * (t.val % 8) + r) (512 * (t.val / 8) + l) := by
  have hb := blocks m c t
  rw [outsAt0_B m c t h0 h1]
  dsimp only
  unfold out0_B_11
  refine (congrFun (View.read_writes_eq_canon _ _ _ (fun y => cover0_B_11 ..)) _).trans ?_
  unfold kernelRun0_B
  dsimp only
  sl_unfold_words
  simp only [View.canon_unit_zero (S := S512x512) hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S8x512) hz, View.ld_unit_zero (S := S512x512) hz, shapeCast_self]
  unfold k0_pay22
  pointwise
  rw [pay19 hb (grid0.coords t) (ci t) _ _ (fun l => ?_) (fun l => ?_), hb.h2]
  · exact next_row _ _ _ 0 (by omega) _ _ l
  · exact next_row _ _ _ 1 (by omega) _ _ l

/-- What one grid point adds to the taps' gradient: the three sums over its own rows. -/
def dWt (s : Src) (I c0 q l : ℕ) : EReal :=
  if q = 0 then ∑ r : Fin 512, s.dO (512 * I + r) (c0 + l) * s.Zs 2 (512 * I + r) (c0 + l)
  else if q = 1 then ∑ r : Fin 512, s.dO (512 * I + r) (c0 + l) * s.Zs 1 (512 * I + r) (c0 + l)
  else if q = 2 then ∑ r : Fin 512, s.dO (512 * I + r) (c0 + l) * s.Z (512 * I + r) (c0 + l) else 0

theorem out12_A (c : Dev nD) (t : Fin cfg0.N) (h0 : t.val % 8 = 0) (h1 : ¬1 ≤ t.val % 8) (q : Fin 8) (l : Fin 512) :
    (outsAt0 m c t.val t.isLt).2.2.2 (ix2 q l) = dWt (ksrc m c) (t.val % 8) (512 * (t.val / 8)) q l := by
  have hb := blocks m c t
  rw [outsAt0_A m c t h0 h1]
  dsimp only
  unfold out0_A_12
  refine (congrFun (View.read_writes_eq_canon _ _ _ (fun y => cover0_A_12 ..)) _).trans ?_
  unfold kernelRun0_A
  dsimp only
  sl_unfold_words
  simp only [View.canon_unit_zero (S := S8x512) hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_12 t).read_unread, View.ld_unit_zero (S := S8x512) hz, View.ld_unit_zero (S := S512x512) hz, shapeCast_self]
  rw [pay1]
  unfold dWt
  simp only [pay14 hb, pay3 hb]
  have h7 := prev_row (View.whole cc0_scratch0) (iblk m c 3 t) (iblk m c 5 t) 7 (by omega) inb_S8x512_S8x512_0_0 inb_S8x512_S1x512_7_0
  have h6 := prev_row (View.whole cc0_scratch0) (iblk m c 3 t) (iblk m c 5 t) 6 (by omega) inb_S8x512_S8x512_0_0 inb_S8x512_S1x512_6_0
  simp only [pay5 hb (grid0.coords t) (ci t) _ h7, pay9 hb (grid0.coords t) (ci t) _ _ h6 h7]

theorem out12_B (c : Dev nD) (t : Fin cfg0.N) (h0 : ¬t.val % 8 = 0) (h1 : 1 ≤ t.val % 8) (q : Fin 8) (l : Fin 512) :
    (outsAt0 m c t.val t.isLt).2.2.2 (ix2 q l) = (outsAt0 m c (t.val - 1) (lt_of_le_of_lt (Nat.sub_le _ _) t.isLt)).2.2.2 (ix2 q l) + dWt (ksrc m c) (t.val % 8) (512 * (t.val / 8)) q l := by
  have hb := blocks m c t
  rw [outsAt0_B m c t h0 h1]
  dsimp only
  unfold out0_B_12
  refine (congrFun (View.read_writes_eq_canon _ _ _ (fun y => cover0_B_12 ..)) _).trans ?_
  unfold kernelRun0_B
  dsimp only
  sl_unfold_words
  simp only [View.canon_unit_zero (S := S8x512) hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_12 t).read_unread, View.ld_unit_zero (S := S8x512) hz, View.ld_unit_zero (S := S512x512) hz, shapeCast_self]
  unfold k0_pay2
  simp only [shapeCast_self]
  pointwise
  congr 1
  rw [pay1]
  unfold dWt
  simp only [pay14 hb, pay3 hb]
  have h7 := prev_row (View.whole cc0_scratch0) (iblk m c 3 t) (iblk m c 5 t) 7 (by omega) inb_S8x512_S8x512_0_0 inb_S8x512_S1x512_7_0
  have h6 := prev_row (View.whole cc0_scratch0) (iblk m c 3 t) (iblk m c 5 t) 6 (by omega) inb_S8x512_S8x512_0_0 inb_S8x512_S1x512_6_0
  simp only [pay5 hb (grid0.coords t) (ci t) _ h7, pay9 hb (grid0.coords t) (ci t) _ _ h6 h7]

end Cert.Proof.Conv
-- ==== Proof.ConvArr.lean ====
module

public import proofs.«01_k».proof.Proof.ConvOut

/-!
The four arrays the convolution's backward call leaves are the reference's four results.
-/

@[expose] public section

noncomputable section

open Idealize.ShloMosaic Idealize.ShloMosaic.TcCoe Idealize.SL.Sem
open Idealize.ShloMosaic.Pipeline (Dat)

namespace Cert.Proof.Conv

open Cert.Kernel2Ideal Cert.Kernel2Ideal.Gen

variable (m : (ℓ : Loc nD τ sig) → Buf (Elt Ideal) ℓ)

theorem i9 : ∀ t : Fin cfg0.N, win0_9.index t = ![t.val % 8, t.val / 8] := (by decide +kernel : ∀ t : Fin grid0.N, _)
theorem i10 : ∀ t : Fin cfg0.N, win0_10.index t = ![t.val % 8, t.val / 8] := (by decide +kernel : ∀ t : Fin grid0.N, _)
theorem i11 : ∀ t : Fin cfg0.N, win0_11.index t = ![t.val % 8, t.val / 8] := (by decide +kernel : ∀ t : Fin grid0.N, _)
theorem i12 : ∀ t : Fin cfg0.N, win0_12.index t = ![0, t.val / 8] := (by decide +kernel : ∀ t : Fin grid0.N, _)

/-- An array given by a formula at row and column, at an index known by its coordinates. -/
theorem of_ix {n k : ℕ} (G : (⟨2, ![n, k]⟩ : Shape).Idx → EReal) (f : ℕ → ℕ → EReal) (h : ∀ (r : Fin n) (l : Fin k), G (ix2 r l) = f r l)
    (j : (⟨2, ![n, k]⟩ : Shape).Idx) (r l : ℕ) (hr : (j 0 : ℕ) = r) (hl : (j 1 : ℕ) = l) : G j = f r l := by
  subst hr hl
  conv_lhs => rw [← ix2_eta j]
  exact h (j 0) (j 1)

theorem out9 (c : Dev nD) (t : Fin cfg0.N) (r l : Fin 512) :
    (outsAt0 m c t.val t.isLt).1 (ix2 r l) = (ksrc m c).D (512 * (t.val % 8) + r) (512 * (t.val / 8) + l) * (ksrc m c).O (512 * (t.val % 8) + r) (512 * (t.val / 8) + l) := by
  by_cases h : t.val % 8 = 0
  · exact out9_A m c t h (by omega) r l
  · exact out9_B m c t h (by omega) r l

theorem out10 (c : Dev nD) (t : Fin cfg0.N) (r l : Fin 512) :
    (outsAt0 m c t.val t.isLt).2.1 (ix2 r l) = (ksrc m c).dZ (512 * (t.val % 8) + r) (512 * (t.val / 8) + l) * (ksrc m c).U (512 * (t.val % 8) + r) (512 * (t.val / 8) + l) := by
  by_cases h : t.val % 8 = 0
  · exact out10_A m c t h (by omega) r l
  · exact out10_B m c t h (by omega) r l

theorem out11 (c : Dev nD) (t : Fin cfg0.N) (r l : Fin 512) :
    (outsAt0 m c t.val t.isLt).2.2.1 (ix2 r l) = (ksrc m c).dZ (512 * (t.val % 8) + r) (512 * (t.val / 8) + l) * (ksrc m c).C (512 * (t.val % 8) + r) (512 * (t.val / 8) + l) := by
  by_cases h : t.val % 8 = 0
  · exact out11_A m c t h (by omega) r l
  · exact out11_B m c t h (by omega) r l

/-- The gradient of the gate on the convolution's output: `dy` times the convolution. -/
theorem arr9 (c : Dev nD) (G : S4096x2048.Idx → EReal) (h : ∀ (r : Fin 4096) (l : Fin 2048), G (ix2 r l) = (ksrc m c).D r l * (ksrc m c).O r l) :
    (dats m 0 c).arrAt 9 cfg0.N = G := by
  refine (dats m 0 c).arrAt_eq_of_covers 9 _ (by decide +kernel) fun t hf y => ?_
  blk_simp
  rw [after0_9]
  refine (of_ix _ (fun r l => (ksrc m c).D (512 * (t.val % 8) + r) (512 * (t.val / 8) + l) * (ksrc m c).O (512 * (t.val % 8) + r) (512 * (t.val / 8) + l)) (fun r l => out9 m c t r l) y (y 0) (y 1) rfl rfl).trans
    (of_ix G (fun r l => (ksrc m c).D r l * (ksrc m c).O r l) h _ _ _ ?_ ?_).symm
  · blk_simp [i9]; omega
  · blk_simp [i9]; omega

/-- The gradient of the gate on the convolution's input. -/
theorem arr10 (c : Dev nD) (G : S4096x2048.Idx → EReal) (h : ∀ (r : Fin 4096) (l : Fin 2048), G (ix2 r l) = (ksrc m c).dZ r l * (ksrc m c).U r l) :
    (dats m 0 c).arrAt 10 cfg0.N = G := by
  refine (dats m 0 c).arrAt_eq_of_covers 10 _ (by decide +kernel) fun t hf y => ?_
  blk_simp
  rw [after0_10]
  refine (of_ix _ (fun r l => (ksrc m c).dZ (512 * (t.val % 8) + r) (512 * (t.val / 8) + l) * (ksrc m c).U (512 * (t.val % 8) + r) (512 * (t.val / 8) + l)) (fun r l => out10 m c t r l) y (y 0) (y 1) rfl rfl).trans
    (of_ix G (fun r l => (ksrc m c).dZ r l * (ksrc m c).U r l) h _ _ _ ?_ ?_).symm
  · blk_simp [i10]; omega
  · blk_simp [i10]; omega

/-- The gradient of the convolution's other factor. -/
theorem arr11 (c : Dev nD) (G : S4096x2048.Idx → EReal) (h : ∀ (r : Fin 4096) (l : Fin 2048), G (ix2 r l) = (ksrc m c).dZ r l * (ksrc m c).C r l) :
    (dats m 0 c).arrAt 11 cfg0.N = G := by
  refine (dats m 0 c).arrAt_eq_of_covers 11 _ (by decide +kernel) fun t hf y => ?_
  blk_simp
  rw [after0_11]
  refine (of_ix _ (fun r l => (ksrc m c).dZ (512 * (t.val % 8) + r) (512 * (t.val / 8) + l) * (ksrc m c).C (512 * (t.val % 8) + r) (512 * (t.val / 8) + l)) (fun r l => out11 m c t r l) y (y 0) (y 1) rfl rfl).trans
    (of_ix G (fun r l => (ksrc m c).dZ r l * (ksrc m c).C r l) h _ _ _ ?_ ?_).symm
  · blk_simp [i11]; omega
  · blk_simp [i11]; omega

/-- The row tiles' sums are the sum over all rows. -/
theorem sum_tiles (f : ℕ → EReal) : (∑ I ∈ Finset.range 8, ∑ r : Fin 512, f (512 * I + r)) = ∑ r : Fin 4096, f r := by
  rw [Fin.sum_univ_eq_sum_range (fun r => f r) 4096]
  simp only [fun I => Fin.sum_univ_eq_sum_range (fun r => f (512 * I + r)) 512]
  have e : ∀ n : ℕ, (∑ I ∈ Finset.range n, ∑ r ∈ Finset.range 512, f (512 * I + r)) = ∑ r ∈ Finset.range (512 * n), f r := by
    intro n
    induction n with
    | zero => simp
    | succ n ih => rw [Finset.sum_range_succ, ih, Nat.mul_succ, Finset.sum_range_add]
  exact e 8

theorem sum_dWt (s : Src) (c0 q l : ℕ) : (∑ I ∈ Finset.range 8, dWt s I c0 q l) = dW s q (c0 + l) := by
  unfold dWt dW
  split_ifs
  · exact sum_tiles fun r => s.dO r (c0 + l) * s.Zs 2 r (c0 + l)
  · exact sum_tiles fun r => s.dO r (c0 + l) * s.Zs 1 r (c0 + l)
  · exact sum_tiles fun r => s.dO r (c0 + l) * s.Z r (c0 + l)
  · simp

theorem out12 (c : Dev nD) (t : Fin cfg0.N) (h : t.val % 8 = 7) (q : Fin 8) (l : Fin 512) :
    (outsAt0 m c t.val t.isLt).2.2.2 (ix2 q l) = dW (ksrc m c) q (512 * (t.val / 8) + l) := by
  have e := Pipeline.eq_sum_of_reset_step (fun n hn => ((outsAt0 m c n hn).2.2.2 (ix2 q l) : EReal)) 8 0
    (fun n => dWt (ksrc m c) (n % 8) (512 * (n / 8)) q l)
    (fun t h => (out12_A m c t h (by omega) q l).trans (zero_add _).symm) (fun t h => out12_B m c t h (by omega) q l) t
  refine e.trans ?_
  rw [zero_add, h, ← sum_dWt]
  refine Finset.sum_congr rfl fun k hk => ?_
  have hk := Finset.mem_range.mp hk
  rw [show (8 * (t.val / 8) + k) % 8 = k by omega, show (8 * (t.val / 8) + k) / 8 = t.val / 8 by omega]

/-- The gradient of the taps. -/
theorem arr12 (c : Dev nD) (G : S8x2048.Idx → EReal) (h : ∀ (q : Fin 8) (l : Fin 2048), G (ix2 q l) = dW (ksrc m c) q l) :
    (dats m 0 c).arrAt 12 cfg0.N = G := by
  refine (dats m 0 c).arrAt_eq_of_covers 12 _ (by decide +kernel) fun t hf y => ?_
  have h7 := (flush0_12 t).mp hf
  blk_simp
  rw [after0_12]
  refine (of_ix _ (fun r l => dW (ksrc m c) r (512 * (t.val / 8) + l)) (fun r l => out12 m c t h7 r l) y (y 0) (y 1) rfl rfl).trans
    (of_ix G (fun r l => dW (ksrc m c) r l) h _ _ _ ?_ ?_).symm
  · blk_simp [i12]
  · blk_simp [i12]; omega

end Cert.Proof.Conv
-- ==== Proof.ConvClaim.lean ====
module

public import proofs.«01_k».proof.Proof.ConvArr

/-!
The claims about the convolution's backward call: the frame of its reference, and the equality of the two programs' results.
-/

@[expose] public section

noncomputable section

open Idealize.ShloMosaic Idealize.ShloMosaic.TcCoe Idealize.SL.Sem

namespace Cert.Proof.Conv

/-- The reference runs, keeps its arguments, and has no semaphore. -/
theorem ref_frame :
    Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- Every result of the call is, on the ideal reals, the reference's. -/
theorem value : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Reference2Ideal.Read.val_main_v71 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)),
    fun c => Cert.Reference2Ideal.Read.val_main_v72 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)),
    fun c => Cert.Reference2Ideal.Read.val_main_v73 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)),
    fun c => Cert.Reference2Ideal.Read.val_main_v74 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)), ?_, ?_⟩
  · refine (θ_run Cert.Kernel2Ideal.defs _ _).mono (fun _ h c => ?_) (Cert.Kernel2Ideal.Value.run_blocks m g)
    obtain ⟨a0, a1, a2⟩ := hag c
    refine ⟨(h c).1.trans ?_, (h c).2.1.trans ?_, (h c).2.2.1.trans ?_, (h c).2.2.2.1.trans ?_, (h c).2.2.2.2⟩
    · refine arr9 m c _ fun r l => ?_
      refine (ref_out0 _ _ _ r l).trans ?_
      rw [a0, a1, a2]
    · refine arr10 m c _ fun r l => ?_
      refine (ref_out1 _ _ _ r l).trans ?_
      rw [a0, a1, a2]
    · refine arr11 m c _ fun r l => ?_
      refine (ref_out2 _ _ _ r l).trans ?_
      rw [a0, a1, a2]
    · refine arr12 m c _ fun r l => ?_
      refine (ref_out3 _ (m' ((c.tc : Thread Cert.Reference2Ideal.nD Cert.Reference2Ideal.τ).loc Cert.Reference2Ideal.main_arg1)) _ r l).trans ?_
      rw [a0, a1, a2]
  · refine (θ_run Cert.Reference2Ideal.defs _ _).mono (fun _ h c => ?_) (Cert.Reference2Ideal.Value.run (F := Ideal) m' g')
    exact ⟨(h c).1.trans (Cert.Reference2Ideal.Read.val_main_v71_eq m' c), (h c).2.1.trans (Cert.Reference2Ideal.Read.val_main_v72_eq m' c),
      (h c).2.2.1.trans (Cert.Reference2Ideal.Read.val_main_v73_eq m' c), (h c).2.2.2.1.trans (Cert.Reference2Ideal.Read.val_main_v74_eq _ _), (h c).2.2.2.2⟩

end Cert.Proof.Conv
-- ==== Proof.Entries.lean ====
module

public import Idealize.ShloMosaic.Lib.Pipeline.ValueKit
public import Idealize.ShloMosaic.Lib.Pointwise
public import Idealize.ShloMosaic.Lib.Tactic

/-!
Arrays of two axes read at natural-number coordinates, so that a block's entry and the whole array's entry are named alike.
-/

@[expose] public section

noncomputable section

open Idealize.ShloMosaic Idealize.ShloMosaic.TcCoe Idealize.SL.Sem

namespace Cert.Proof.Entries

theorem zero2 : (![0, 0] : Fin 2 → Nat) = fun _ => 0 := funext fun a => by fin_cases a <;> rfl

theorem zero3 : (![0, 0, 0] : Fin 3 → Nat) = fun _ => 0 := funext fun a => by fin_cases a <;> rfl

/-- An entry of an array at natural coordinates, zero outside of it. -/
def at2 {n k : ℕ} (x : (⟨2, ![n, k]⟩ : Shape).Idx → EReal) (r c : ℕ) : EReal :=
  if h : r < n ∧ c < k then x (ix2 ⟨r, h.1⟩ ⟨c, h.2⟩) else 0

theorem at2_ix {n k : ℕ} (x : (⟨2, ![n, k]⟩ : Shape).Idx → EReal) (r : Fin n) (c : Fin k) : x (ix2 r c) = at2 x r c := by
  unfold at2
  rw [dif_pos ⟨r.isLt, c.isLt⟩]

/-- An entry at an index known by its coordinates. -/
theorem at2_of {n k : ℕ} (x : (⟨2, ![n, k]⟩ : Shape).Idx → EReal) (j : (⟨2, ![n, k]⟩ : Shape).Idx) (r c : ℕ)
    (hr : (j 0 : ℕ) = r) (hc : (j 1 : ℕ) = c) : x j = at2 x r c := by
  subst hr hc
  conv_lhs => rw [← ix2_eta j]
  exact at2_ix x (j 0) (j 1)

/-- An array given by a formula at row and column, at an index known by its coordinates. -/
theorem of_ix {n k : ℕ} (G : (⟨2, ![n, k]⟩ : Shape).Idx → EReal) (f : ℕ → ℕ → EReal) (h : ∀ (r : Fin n) (l : Fin k), G (ix2 r l) = f r l)
    (j : (⟨2, ![n, k]⟩ : Shape).Idx) (r l : ℕ) (hr : (j 0 : ℕ) = r) (hl : (j 1 : ℕ) = l) : G j = f r l := by
  subst hr hl
  conv_lhs => rw [← ix2_eta j]
  exact h (j 0) (j 1)

theorem ix2_of {n k : ℕ} (a : Fin n) (b : Fin k) (j : (⟨2, ![n, k]⟩ : Shape).Idx) (ha : (j 0 : ℕ) = a) (hb : (j 1 : ℕ) = b) : ix2 a b = j := by
  rw [← ix2_eta j, show j 0 = a from Fin.ext ha, show j 1 = b from Fin.ext hb]

/-- The same for an array of three axes. -/
theorem of_ix3 {p n k : ℕ} (G : (⟨3, ![p, n, k]⟩ : Shape).Idx → EReal) (f : ℕ → ℕ → ℕ → EReal)
    (h : ∀ (s : Fin p) (r : Fin n) (l : Fin k), G (ix3 s r l) = f s r l)
    (j : (⟨3, ![p, n, k]⟩ : Shape).Idx) (s r l : ℕ) (hs : (j 0 : ℕ) = s) (hr : (j 1 : ℕ) = r) (hl : (j 2 : ℕ) = l) : G j = f s r l := by
  subst hs hr hl
  conv_lhs => rw [eq_ix3 j]
  exact h (j 0) (j 1) (j 2)

/-- A sum over `Q` tiles of `n` places each is the sum over all places. -/
theorem sum_tiles (n Q : ℕ) (f : ℕ → EReal) : ∑ q ∈ Finset.range Q, ∑ k : Fin n, f (n * q + k) = ∑ k : Fin (n * Q), f k := by
  rw [← Finset.sum_range (n := n * Q) f]
  induction Q with
  | zero => simp
  | succ Q ih => rw [Finset.sum_range_succ, ih, Nat.mul_succ, Finset.sum_range_add, ← Finset.sum_range (n := n) fun k => f (n * Q + k)]

end Cert.Proof.Entries
-- ==== Proof.DownDx.lean ====
module

public import proofs.«01_k».proof.Defs
public import proofs.«01_k».proof.Proof.Entries
public import proofs.«01_k».proof.Proof.Gen.Kernel3Ideal.Value
public import proofs.«01_k».proof.Proof.Gen.Reference3Ideal.Run
public import proofs.«01_k».proof.Proof.Gen.Reference3Ideal.Read

/-!
The gradient of the channel mixer's hidden layer, `(dh2 · w_downᵀ) ⊙ 2 max(u, 0)`.
-/

@[expose] public section

noncomputable section

open Idealize.ShloMosaic Idealize.ShloMosaic.TcCoe Idealize.SL.Sem
open Idealize.ShloMosaic.Pipeline (Dat)

namespace Cert.Proof.DownDx

open Cert.Kernel3Ideal Cert.Kernel3Ideal.Gen Cert.Proof.Entries

variable (m : (ℓ : Loc nD τ sig) → Buf (Elt Ideal) ℓ)

abbrev U (c : Dev nD) : ℕ → ℕ → EReal := at2 (n := 4096) (k := 16384) (m ((c : Thread nD τ).loc main_arg0))
abbrev W (c : Dev nD) : ℕ → ℕ → EReal := at2 (n := 16384) (k := 4096) (m ((c : Thread nD τ).loc main_arg1))
abbrev D (c : Dev nD) : ℕ → ℕ → EReal := at2 (n := 4096) (k := 4096) (m ((c : Thread nD τ).loc main_arg2))

theorem i0 : ∀ t : Fin cfg0.N, win0_0.index t = ![t.val / 32, 0] := (by decide +kernel : ∀ t : Fin grid0.N, _)
theorem i1 : ∀ t : Fin cfg0.N, win0_1.index t = ![t.val % 32, 0] := (by decide +kernel : ∀ t : Fin grid0.N, _)
theorem i2 : ∀ t : Fin cfg0.N, win0_2.index t = ![t.val / 32, t.val % 32] := (by decide +kernel : ∀ t : Fin grid0.N, _)
theorem i3 : ∀ t : Fin cfg0.N, win0_3.index t = ![t.val / 32, t.val % 32] := (by decide +kernel : ∀ t : Fin grid0.N, _)

theorem V0 (c : Dev nD) : (V m c main_v0 : S4096x4096.Idx → EReal) = m ((c : Thread nD τ).loc main_arg2) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S16384x4096.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V2 (c : Dev nD) : (V m c main_arg0 : S4096x16384.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (r : Fin 1024) (k : Fin 4096) :
    (iblk m c 0 t : S1024x4096.Idx → EReal) (ix2 r k) = D m c (1024 * (t.val / 32) + r) k := by
  blk_simp [iblk]
  refine (congrFun (V0 m c) _).trans (at2_of _ _ _ _ ?_ ?_)
  · blk_simp [i0]; omega
  · blk_simp [i0]

theorem block1 (c : Dev nD) (t : Fin cfg0.N) (l : Fin 512) (k : Fin 4096) :
    (iblk m c 1 t : S512x4096.Idx → EReal) (ix2 l k) = W m c (512 * (t.val % 32) + l) k := by
  blk_simp [iblk]
  refine (congrFun (V1 m c) _).trans (at2_of _ _ _ _ ?_ ?_)
  · blk_simp [i1]; omega
  · blk_simp [i1]

theorem block2 (c : Dev nD) (t : Fin cfg0.N) (r : Fin 1024) (l : Fin 512) :
    (iblk m c 2 t : S1024x512.Idx → EReal) (ix2 r l) = U m c (1024 * (t.val / 32) + r) (512 * (t.val % 32) + l) := by
  blk_simp [iblk]
  refine (congrFun (V2 m c) _).trans (at2_of _ _ _ _ ?_ ?_)
  · blk_simp [i2]; omega
  · blk_simp [i2]; omega

/-- The number two, as kernel and reference write it. -/
abbrev two : EReal := Ideal.ofBits .f32 0x40000000#32

/-- The product of the two blocks times the gradient of the squared positive part. -/
theorem pay (x : Vec Ideal S1024x4096 .bf16) (y : Vec Ideal S512x4096 .bf16) (z : Vec Ideal S1024x512 .f32) (r : Fin 1024) (l : Fin 512) :
    k0_pay1 x y z (ix2 r l) = (∑ k : Fin 4096, x (ix2 r k) * y (ix2 l k)) * (two * max (z (ix2 r l)) 0) := by
  unfold k0_pay1
  simp only [shapeCast_self]
  pointwise

/-- What a grid point leaves in its output block. -/
theorem out (c : Dev nD) (t : Fin cfg0.N) (r : Fin 1024) (l : Fin 512) :
    out0_3 (iblk m c 0 t) (iblk m c 1 t) (iblk m c 2 t) (ix2 r l)
      = (∑ k : Fin 4096, D m c (1024 * (t.val / 32) + r) k * W m c (512 * (t.val % 32) + l) k)
        * (two * max (U m c (1024 * (t.val / 32) + r) (512 * (t.val % 32) + l)) 0) := by
  unfold out0_3
  simp only [View.canon_unit_zero (S := S1024x512) zero2, View.ld_unit_zero (S := S1024x4096) zero2, View.ld_unit_zero (S := S512x4096) zero2, View.ld_unit_zero (S := S1024x512) zero2]
  rw [pay, block2]
  simp only [block0, block1]

/-- The array the call leaves. -/
theorem arr (c : Dev nD) (G : S4096x16384.Idx → EReal)
    (h : ∀ (r : Fin 4096) (l : Fin 16384), G (ix2 r l) = (∑ k : Fin 4096, D m c r k * W m c l k) * (two * max (U m c r l) 0)) :
    (dats m 0 c).arrAt 3 cfg0.N = G := by
  refine (dats m 0 c).arrAt_eq_of_covers 3 _ (by decide +kernel) fun t hf y => ?_
  blk_simp
  rw [after0_3]
  refine (of_ix _ (fun r l => (∑ k : Fin 4096, D m c (1024 * (t.val / 32) + r) k * W m c (512 * (t.val % 32) + l) k)
        * (two * max (U m c (1024 * (t.val / 32) + r) (512 * (t.val % 32) + l)) 0)) (fun r l => out m c t r l) y (y 0) (y 1) rfl rfl).trans
    (of_ix G (fun r l => (∑ k : Fin 4096, D m c r k * W m c l k) * (two * max (U m c r l) 0)) h _ _ _ ?_ ?_).symm
  · blk_simp [i3]; omega
  · blk_simp [i3]; omega

/-- The reference's result at an entry. -/
theorem ref_out (X : S4096x16384.Idx → EReal) (Y : S16384x4096.Idx → EReal) (Z : S4096x4096.Idx → EReal) (r : Fin 4096) (l : Fin 16384) :
    Cert.Reference3Ideal.Read.val_main_v12 (F := Ideal) X Y Z (ix2 r l) = (∑ k : Fin 4096, at2 Z r k * at2 Y l k) * (two * max (at2 X r l) 0) := by
  unfold Cert.Reference3Ideal.Read.val_main_v12 Cert.Reference3Ideal.Read.val_main_v11 Cert.Reference3Ideal.Read.val_main_v10 Cert.Reference3Ideal.Read.val_main_v9 Cert.Reference3Ideal.Read.val_main_v8 Cert.Reference3Ideal.Read.val_main_v6 Cert.Reference3Ideal.Read.val_main_v5 Cert.Reference3Ideal.Read.val_main_v2 Cert.Reference3Ideal.Read.val_main_v1 Cert.Reference3Ideal.Read.val_main_v0 Cert.Reference3Ideal.Read.val_main_cst Cert.Reference3Ideal.Read.val_main_cst_1 Cert.Reference3Ideal.Read.val_main_cst_2 Cert.Reference3Ideal.Read.val_main_call0_v0 Cert.Reference3Ideal.Read.val_main_call0_cst
  pointwise
  simp only [at2_ix Z, at2_ix Y, at2_ix X]
  split
  · rfl
  · next h => rw [max_eq_right (not_lt.mp h), mul_zero, mul_zero]

/-- The reference runs, keeps its arguments, and has no semaphore. -/
theorem ref_frame :
    Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The call's result is, on the ideal reals, the reference's. -/
theorem value : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Reference3Ideal.Read.val_main_v12 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)), ?_, ?_⟩
  · refine (θ_run Cert.Kernel3Ideal.defs _ _).mono (fun _ h c => ?_) (Cert.Kernel3Ideal.Value.run_blocks m g)
    obtain ⟨a0, a1, a2⟩ := hag c
    refine ⟨(h c).1.trans (arr m c _ fun r l => ?_), (h c).2⟩
    refine (ref_out _ _ _ r l).trans ?_
    rw [a0, a1, a2]
  · refine (θ_run Cert.Reference3Ideal.defs _ _).mono (fun _ h c => ?_) (Cert.Reference3Ideal.Value.run (F := Ideal) m' g')
    exact ⟨(h c).1.trans (Cert.Reference3Ideal.Read.val_main_v12_eq _ _ _), (h c).2⟩

end Cert.Proof.DownDx
-- ==== Proof.DownDw.lean ====
module

public import proofs.«01_k».proof.Defs
public import proofs.«01_k».proof.Proof.Entries
public import proofs.«01_k».proof.Proof.Gen.Kernel4Ideal.Value
public import proofs.«01_k».proof.Proof.Gen.Reference4Ideal.Run
public import proofs.«01_k».proof.Proof.Gen.Reference4Ideal.Read

/-!
The gradient of the channel mixer's second weight, `act ᵀ · dh2`.
-/

@[expose] public section

noncomputable section

open Idealize.ShloMosaic Idealize.ShloMosaic.TcCoe Idealize.SL.Sem
open Idealize.ShloMosaic.Pipeline (Dat)

namespace Cert.Proof.DownDw

open Cert.Kernel4Ideal Cert.Kernel4Ideal.Gen Cert.Proof.Entries

variable (m : (ℓ : Loc nD τ sig) → Buf (Elt Ideal) ℓ)

abbrev A (c : Dev nD) : ℕ → ℕ → EReal := at2 (n := 4096) (k := 16384) (m ((c : Thread nD τ).loc main_arg0))
abbrev B (c : Dev nD) : ℕ → ℕ → EReal := at2 (n := 4096) (k := 4096) (m ((c : Thread nD τ).loc main_arg1))

theorem i0 : ∀ t : Fin cfg0.N, win0_0.index t = ![0, t.val / 8] := (by decide +kernel : ∀ t : Fin grid0.N, _)
theorem i1 : ∀ t : Fin cfg0.N, win0_1.index t = ![0, t.val % 8] := (by decide +kernel : ∀ t : Fin grid0.N, _)
theorem i2 : ∀ t : Fin cfg0.N, win0_2.index t = ![t.val / 8, t.val % 8] := (by decide +kernel : ∀ t : Fin grid0.N, _)

theorem V0 (c : Dev nD) : (V m c main_v0 : S4096x16384.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S4096x4096.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (k : Fin 4096) (r : Fin 1024) :
    (iblk m c 0 t : S4096x1024.Idx → EReal) (ix2 k r) = A m c k (1024 * (t.val / 8) + r) := by
  blk_simp [iblk]
  refine (congrFun (V0 m c) _).trans (at2_of _ _ _ _ ?_ ?_)
  · blk_simp [i0]
  · blk_simp [i0]; omega

theorem block1 (c : Dev nD) (t : Fin cfg0.N) (k : Fin 4096) (l : Fin 512) :
    (iblk m c 1 t : S4096x512.Idx → EReal) (ix2 k l) = B m c k (512 * (t.val % 8) + l) := by
  blk_simp [iblk]
  refine (congrFun (V1 m c) _).trans (at2_of _ _ _ _ ?_ ?_)
  · blk_simp [i1]
  · blk_simp [i1]; omega

/-- The block turned over. -/
theorem pay1 (x : Vec Ideal S4096x1024 .bf16) (r : Fin 1024) (k : Fin 4096) : k0_pay1 x (ix2 r k) = x (ix2 k r) := by
  unfold k0_pay1
  simp only [shapeCast_self]
  pointwise

/-- The product of the two blocks. -/
theorem pay2 (x : Vec Ideal S1024x4096 .bf16) (y : Vec Ideal S4096x512 .bf16) (r : Fin 1024) (l : Fin 512) :
    k0_pay2 x y (ix2 r l) = ∑ k : Fin 4096, x (ix2 r k) * y (ix2 k l) := by
  unfold k0_pay2
  simp only [shapeCast_self]
  pointwise

theorem scratch_A (c : Dev nD) (t : Fin cfg0.N) (h0 : t.val % 8 = 0) (r : Fin 1024) (k : Fin 4096) :
    (outsAt0 m c t.val t.isLt).2 (ix2 r k) = A m c k (1024 * (t.val / 8) + r) := by
  rw [outsAt0_A m c t h0]
  dsimp only
  unfold sout0_A_0
  refine (congrFun (View.read_writes_eq_canon _ _ _ (fun y => scover0_A_0 ..)) _).trans ?_
  unfold kernelRun0_A
  dsimp only
  sl_unfold_words
  simp only [View.canon_unit_zero (S := S1024x4096) zero2, View.readAt_eq_ld, (hs0_0 t).read_unread, View.ld_unit_zero (S := S4096x1024) zero2]
  rw [pay1, block0]

/-- The scratch holds the left block turned over, at every point of a row of tiles. -/
theorem scratch (c : Dev nD) : ∀ (n : ℕ) (hn : n < cfg0.N) (r : Fin 1024) (k : Fin 4096),
    (outsAt0 m c n hn).2 (ix2 r k) = A m c k (1024 * (n / 8) + r) := by
  intro n
  induction n with
  | zero => intro hn r k; exact scratch_A m c ⟨0, hn⟩ rfl r k
  | succ n ih =>
    intro hn r k
    by_cases h0 : (n + 1) % 8 = 0
    · exact scratch_A m c ⟨n + 1, hn⟩ h0 r k
    · rw [outsAt0_B m c ⟨n + 1, hn⟩ h0]
      dsimp only
      unfold sout0_B_0
      refine (ih (by omega) r k).trans ?_
      rw [show (n + 1) / 8 = n / 8 by omega]

/-- What a grid point leaves in its output block. -/
theorem out (c : Dev nD) (t : Fin cfg0.N) (r : Fin 1024) (l : Fin 512) :
    (outsAt0 m c t.val t.isLt).1 (ix2 r l)
      = ∑ k : Fin 4096, A m c k (1024 * (t.val / 8) + r) * B m c k (512 * (t.val % 8) + l) := by
  by_cases h0 : t.val % 8 = 0
  · rw [outsAt0_A m c t h0]
    dsimp only
    unfold out0_A_2
    refine (congrFun (View.read_writes_eq_canon _ _ _ (fun y => cover0_A_2 ..)) _).trans ?_
    unfold kernelRun0_A
    dsimp only
    sl_unfold_words
    simp only [View.canon_unit_zero (S := S1024x512) zero2, View.readAt_eq_ld, (hs0_0 t).read_unread, (hs0_1 t).read_unread, View.ld_unit_zero (S := S4096x1024) zero2, View.ld_unit_zero (S := S4096x512) zero2]
    rw [pay2]
    refine Finset.sum_congr rfl fun k _ => ?_
    rw [block1]
    rw [View.readCov_cons_toLoadRect, pay1, block0]
  · rw [outsAt0_B m c t h0]
    dsimp only
    unfold out0_B_2
    refine (congrFun (View.read_writes_eq_canon _ _ _ (fun y => cover0_B_2 ..)) _).trans ?_
    unfold kernelRun0_B
    dsimp only
    sl_unfold_words
    simp only [View.canon_unit_zero (S := S1024x512) zero2, View.readAt_eq_ld, (hs0_1 t).read_unread, View.ld_unit_zero (S := S1024x4096) zero2, View.ld_unit_zero (S := S4096x512) zero2]
    rw [pay2]
    refine Finset.sum_congr rfl fun k _ => ?_
    rw [block1]
    refine congrArg (· * _) ?_
    refine (congrFun ((Memref.isWhole_whole cc0_scratch0).read_unread _) _).trans ((scratch m c _ _ r k).trans ?_)
    rw [show (t.val - 1) / 8 = t.val / 8 by omega]

/-- The array the call leaves. -/
theorem arr (c : Dev nD) (G : S16384x4096.Idx → EReal) (h : ∀ (r : Fin 16384) (l : Fin 4096), G (ix2 r l) = ∑ k : Fin 4096, A m c k r * B m c k l) :
    (dats m 0 c).arrAt 2 cfg0.N = G := by
  refine (dats m 0 c).arrAt_eq_of_covers 2 _ (by decide +kernel) fun t hf y => ?_
  blk_simp
  rw [after0_2]
  refine (of_ix _ (fun r l => ∑ k : Fin 4096, A m c k (1024 * (t.val / 8) + r) * B m c k (512 * (t.val % 8) + l)) (fun r l => out m c t r l) y (y 0) (y 1) rfl rfl).trans
    (of_ix G (fun r l => ∑ k : Fin 4096, A m c k r * B m c k l) h _ _ _ ?_ ?_).symm
  · blk_simp [i2]; omega
  · blk_simp [i2]; omega

/-- The reference's result at an entry. -/
theorem ref_out (X : S4096x16384.Idx → EReal) (Y : S4096x4096.Idx → EReal) (r : Fin 16384) (l : Fin 4096) :
    Cert.Reference4Ideal.Read.val_main_v4 (F := Ideal) X Y (ix2 r l) = ∑ k : Fin 4096, at2 X k r * at2 Y k l := by
  unfold Cert.Reference4Ideal.Read.val_main_v4 Cert.Reference4Ideal.Read.val_main_v3 Cert.Reference4Ideal.Read.val_main_v2
  pointwise
  refine Finset.sum_congr rfl fun k _ => ?_
  rw [mul_comm, at2_ix X, at2_ix Y]

/-- The reference runs, keeps its arguments, and has no semaphore. -/
theorem ref_frame :
    Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The call's result is, on the ideal reals, the reference's. -/
theorem value : Cert.algebraic_Kernel4Ideal_Reference4Ideal (hKernel4Ideal := Cert.Kernel4Ideal.Gen.facts)
    (hReference4Ideal := Cert.Reference4Ideal.Gen.facts) := by
  intro m g m' g' _ hag
  refine ⟨fun c => Cert.Reference4Ideal.Read.val_main_v4 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)), ?_, ?_⟩
  · refine (θ_run Cert.Kernel4Ideal.defs _ _).mono (fun _ h c => ?_) (Cert.Kernel4Ideal.Value.run_blocks m g)
    obtain ⟨a0, a1⟩ := hag c
    refine ⟨(h c).1.trans (arr m c _ fun r l => ?_), (h c).2⟩
    refine (ref_out _ _ r l).trans ?_
    rw [a0, a1]
  · refine (θ_run Cert.Reference4Ideal.defs _ _).mono (fun _ h c => ?_) (Cert.Reference4Ideal.Value.run (F := Ideal) m' g')
    exact ⟨(h c).1.trans (Cert.Reference4Ideal.Read.val_main_v4_eq _ _), (h c).2⟩

end Cert.Proof.DownDw
-- ==== Proof.UpDw.lean ====
module

public import proofs.«01_k».proof.Defs
public import proofs.«01_k».proof.Proof.Entries
public import proofs.«01_k».proof.Proof.Gen.Kernel5Ideal.Value
public import proofs.«01_k».proof.Proof.Gen.Reference5Ideal.Run
public import proofs.«01_k».proof.Proof.Gen.Reference5Ideal.Read

/-!
The gradient of the channel mixer's first weight, `hn ᵀ · du`, cut into eight slabs of columns.
-/

@[expose] public section

noncomputable section

open Idealize.ShloMosaic Idealize.ShloMosaic.TcCoe Idealize.SL.Sem
open Idealize.ShloMosaic.Pipeline (Dat)

namespace Cert.Proof.UpDw

open Cert.Kernel5Ideal Cert.Kernel5Ideal.Gen Cert.Proof.Entries

variable (m : (ℓ : Loc nD τ sig) → Buf (Elt Ideal) ℓ)

abbrev A (c : Dev nD) : ℕ → ℕ → EReal := at2 (n := 4096) (k := 4096) (m ((c : Thread nD τ).loc main_arg0))
abbrev B (c : Dev nD) : ℕ → ℕ → EReal := at2 (n := 4096) (k := 16384) (m ((c : Thread nD τ).loc main_arg1))

theorem i0 : ∀ t : Fin cfg0.N, win0_0.index t = ![0, t.val / 32] := (by decide +kernel : ∀ t : Fin grid0.N, _)
theorem i1 : ∀ t : Fin cfg0.N, win0_1.index t = ![0, t.val % 32] := (by decide +kernel : ∀ t : Fin grid0.N, _)
theorem i2 : ∀ t : Fin cfg0.N, win0_2.index t = ![t.val % 32 / 4, t.val / 32, t.val % 32 % 4] := (by decide +kernel : ∀ t : Fin grid0.N, _)

theorem V0 (c : Dev nD) : (V m c main_v0 : S4096x4096.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S4096x16384.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (k : Fin 4096) (r : Fin 1024) :
    (iblk m c 0 t : S4096x1024.Idx → EReal) (ix2 k r) = A m c k (1024 * (t.val / 32) + r) := by
  blk_simp [iblk]
  refine (congrFun (V0 m c) _).trans (at2_of _ _ _ _ ?_ ?_)
  · blk_simp [i0]
  · blk_simp [i0]; omega

theorem block1 (c : Dev nD) (t : Fin cfg0.N) (k : Fin 4096) (l : Fin 512) :
    (iblk m c 1 t : S4096x512.Idx → EReal) (ix2 k l) = B m c k (512 * (t.val % 32) + l) := by
  blk_simp [iblk]
  refine (congrFun (V1 m c) _).trans (at2_of _ _ _ _ ?_ ?_)
  · blk_simp [i1]
  · blk_simp [i1]; omega

/-- The block turned over. -/
theorem pay1 (x : Vec Ideal S4096x1024 .bf16) (r : Fin 1024) (k : Fin 4096) : k0_pay1 x (ix2 r k) = x (ix2 k r) := by
  unfold k0_pay1
  simp only [shapeCast_self]
  pointwise

/-- The product of the two blocks. -/
theorem pay2 (x : Vec Ideal S1024x4096 .bf16) (y : Vec Ideal S4096x512 .bf16) (r : Fin 1024) (l : Fin 512) :
    k0_pay2 x y (ix3 0 r l) = ∑ k : Fin 4096, x (ix2 r k) * y (ix2 k l) := by
  unfold k0_pay2
  simp only [shapeCast_self]
  pointwise

theorem scratch_A (c : Dev nD) (t : Fin cfg0.N) (h0 : t.val % 32 = 0) (r : Fin 1024) (k : Fin 4096) :
    (outsAt0 m c t.val t.isLt).2 (ix2 r k) = A m c k (1024 * (t.val / 32) + r) := by
  rw [outsAt0_A m c t h0]
  dsimp only
  unfold sout0_A_0
  refine (congrFun (View.read_writes_eq_canon _ _ _ (fun y => scover0_A_0 ..)) _).trans ?_
  unfold kernelRun0_A
  dsimp only
  sl_unfold_words
  simp only [View.canon_unit_zero (S := S1024x4096) zero2, View.readAt_eq_ld, (hs0_0 t).read_unread, View.ld_unit_zero (S := S4096x1024) zero2]
  rw [pay1, block0]

/-- The scratch holds the left block turned over, at every point of a row of tiles. -/
theorem scratch (c : Dev nD) : ∀ (n : ℕ) (hn : n < cfg0.N) (r : Fin 1024) (k : Fin 4096),
    (outsAt0 m c n hn).2 (ix2 r k) = A m c k (1024 * (n / 32) + r) := by
  intro n
  induction n with
  | zero => intro hn r k; exact scratch_A m c ⟨0, hn⟩ rfl r k
  | succ n ih =>
    intro hn r k
    by_cases h0 : (n + 1) % 32 = 0
    · exact scratch_A m c ⟨n + 1, hn⟩ h0 r k
    · rw [outsAt0_B m c ⟨n + 1, hn⟩ h0]
      dsimp only
      unfold sout0_B_0
      refine (ih (by omega) r k).trans ?_
      rw [show (n + 1) / 32 = n / 32 by omega]

/-- What a grid point leaves in its output block. -/
theorem out (c : Dev nD) (t : Fin cfg0.N) (r : Fin 1024) (l : Fin 512) :
    (outsAt0 m c t.val t.isLt).1 (ix3 0 r l)
      = ∑ k : Fin 4096, A m c k (1024 * (t.val / 32) + r) * B m c k (512 * (t.val % 32) + l) := by
  by_cases h0 : t.val % 32 = 0
  · rw [outsAt0_A m c t h0]
    dsimp only
    unfold out0_A_2
    refine (congrFun (View.read_writes_eq_canon _ _ _ (fun y => cover0_A_2 ..)) _).trans ?_
    unfold kernelRun0_A
    dsimp only
    sl_unfold_words
    simp only [View.canon_unit_zero (S := S1x1024x512) zero3, View.readAt_eq_ld, (hs0_0 t).read_unread, (hs0_1 t).read_unread, View.ld_unit_zero (S := S4096x1024) zero2, View.ld_unit_zero (S := S4096x512) zero2]
    rw [pay2]
    refine Finset.sum_congr rfl fun k _ => ?_
    rw [block1]
    rw [View.readCov_cons_toLoadRect, pay1, block0]
  · rw [outsAt0_B m c t h0]
    dsimp only
    unfold out0_B_2
    refine (congrFun (View.read_writes_eq_canon _ _ _ (fun y => cover0_B_2 ..)) _).trans ?_
    unfold kernelRun0_B
    dsimp only
    sl_unfold_words
    simp only [View.canon_unit_zero (S := S1x1024x512) zero3, View.readAt_eq_ld, (hs0_1 t).read_unread, View.ld_unit_zero (S := S1024x4096) zero2, View.ld_unit_zero (S := S4096x512) zero2]
    rw [pay2]
    refine Finset.sum_congr rfl fun k _ => ?_
    rw [block1]
    refine congrArg (· * _) ?_
    refine (congrFun ((Memref.isWhole_whole cc0_scratch0).read_unread _) _).trans ((scratch m c _ _ r k).trans ?_)
    rw [show (t.val - 1) / 32 = t.val / 32 by omega]

/-- The array the call leaves: slab `s` is columns `2048 s` onwards of the product. -/
theorem arr (c : Dev nD) (G : S8x4096x2048.Idx → EReal)
    (h : ∀ (s : Fin 8) (r : Fin 4096) (l : Fin 2048), G (ix3 s r l) = ∑ k : Fin 4096, A m c k r * B m c k (2048 * s + l)) :
    (dats m 0 c).arrAt 2 cfg0.N = G := by
  refine (dats m 0 c).arrAt_eq_of_covers 2 _ (by decide +kernel) fun t hf y => ?_
  blk_simp
  rw [after0_2]
  refine (of_ix3 _ (fun _ r l => ∑ k : Fin 4096, A m c k (1024 * (t.val / 32) + r) * B m c k (512 * (t.val % 32) + l))
    (fun s r l => by rw [show s = 0 from Subsingleton.elim _ _]; exact out m c t r l) y (y 0) (y 1) (y 2) rfl rfl rfl).trans
    ((of_ix3 G (fun s r l => ∑ k : Fin 4096, A m c k r * B m c k (2048 * s + l)) h _ (t.val % 32 / 4) (1024 * (t.val / 32) + (y 1 : ℕ)) (512 * (t.val % 32 % 4) + (y 2 : ℕ)) ?_ ?_ ?_).trans ?_).symm
  · blk_simp [i2]
  · blk_simp [i2]; omega
  · blk_simp [i2]; omega
  · dsimp only
    rw [show 2048 * (t.val % 32 / 4) + (512 * (t.val % 32 % 4) + (y 2 : ℕ)) = 512 * (t.val % 32) + (y 2 : ℕ) by omega]

/-- The reference's result at an entry. -/
theorem ref_out (X : S4096x4096.Idx → EReal) (Y : S4096x16384.Idx → EReal) (s : Fin 8) (r : Fin 4096) (l : Fin 2048) :
    Cert.Reference5Ideal.Read.val_main_v6 (F := Ideal) X Y (ix3 s r l) = ∑ k : Fin 4096, at2 X k r * at2 Y k (2048 * s + l) := by
  have e : Cert.Reference5Ideal.Read.val_main_v6 (F := Ideal) X Y (ix3 s r l)
      = Cert.Reference5Ideal.Read.val_main_v3 (F := Ideal) X Y (ix2 r ⟨2048 * s + l, by omega⟩) := by
    unfold Cert.Reference5Ideal.Read.val_main_v6
    pointwise
    rw [Cert.Reference5Ideal.Read.val_main_v5_apply, Cert.Reference5Ideal.Read.val_main_v4_apply]
    refine congrArg _ (funext fun a => ?_)
    have hs := s.isLt; have hl := l.isLt; have hr := r.isLt
    match a with
    | ⟨0, _⟩ => exact Fin.ext (show (((r : ℕ) * 8 + s) * 2048 + l) / 16384 = r by omega)
    | ⟨1, _⟩ => exact Fin.ext (show (((r : ℕ) * 8 + s) * 2048 + l) % 16384 = 2048 * s + l by omega)
  rw [e]
  unfold Cert.Reference5Ideal.Read.val_main_v3 Cert.Reference5Ideal.Read.val_main_v2
  pointwise
  refine Finset.sum_congr rfl fun k _ => ?_
  rw [mul_comm, at2_ix X, at2_ix Y]

/-- The reference runs, keeps its arguments, and has no semaphore. -/
theorem ref_frame :
    Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The call's result is, on the ideal reals, the reference's. -/
theorem value : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Reference5Ideal.Read.val_main_v6 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)), ?_, ?_⟩
  · refine (θ_run Cert.Kernel5Ideal.defs _ _).mono (fun _ h c => ?_) (Cert.Kernel5Ideal.Value.run_blocks m g)
    obtain ⟨a0, a1⟩ := hag c
    refine ⟨(h c).1.trans (arr m c _ fun s r l => ?_), (h c).2⟩
    refine (ref_out _ _ s r l).trans ?_
    rw [a0, a1]
  · refine (θ_run Cert.Reference5Ideal.defs _ _).mono (fun _ h c => ?_) (Cert.Reference5Ideal.Value.run (F := Ideal) m' g')
    exact ⟨(h c).1.trans (Cert.Reference5Ideal.Read.val_main_v6_eq _ _), (h c).2⟩

end Cert.Proof.UpDw
-- ==== Proof.InDw.lean ====
module

public import proofs.«01_k».proof.Defs
public import proofs.«01_k».proof.Proof.Entries
public import proofs.«01_k».proof.Proof.Gen.Kernel6Ideal.Value
public import proofs.«01_k».proof.Proof.Gen.Reference6Ideal.Run
public import proofs.«01_k».proof.Proof.Gen.Reference6Ideal.Read

/-!
The gradient of the input weight, `xn ᵀ · dp`.
-/

@[expose] public section

noncomputable section

open Idealize.ShloMosaic Idealize.ShloMosaic.TcCoe Idealize.SL.Sem
open Idealize.ShloMosaic.Pipeline (Dat)

namespace Cert.Proof.InDw

open Cert.Kernel6Ideal Cert.Kernel6Ideal.Gen Cert.Proof.Entries

variable (m : (ℓ : Loc nD τ sig) → Buf (Elt Ideal) ℓ)

abbrev A (c : Dev nD) : ℕ → ℕ → EReal := at2 (n := 4096) (k := 4096) (m ((c : Thread nD τ).loc main_arg0))
abbrev B (c : Dev nD) : ℕ → ℕ → EReal := at2 (n := 4096) (k := 21504) (m ((c : Thread nD τ).loc main_arg1))

theorem i0 : ∀ t : Fin cfg0.N, win0_0.index t = ![0, t.val / 42] := (by decide +kernel : ∀ t : Fin grid0.N, _)
theorem i1 : ∀ t : Fin cfg0.N, win0_1.index t = ![0, t.val % 42] := (by decide +kernel : ∀ t : Fin grid0.N, _)
theorem i2 : ∀ t : Fin cfg0.N, win0_2.index t = ![t.val / 42, t.val % 42] := (by decide +kernel : ∀ t : Fin grid0.N, _)

theorem V0 (c : Dev nD) : (V m c main_v0 : S4096x4096.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S4096x21504.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (k : Fin 4096) (r : Fin 1024) :
    (iblk m c 0 t : S4096x1024.Idx → EReal) (ix2 k r) = A m c k (1024 * (t.val / 42) + r) := by
  blk_simp [iblk]
  refine (congrFun (V0 m c) _).trans (at2_of _ _ _ _ ?_ ?_)
  · blk_simp [i0]
  · blk_simp [i0]; omega

theorem block1 (c : Dev nD) (t : Fin cfg0.N) (k : Fin 4096) (l : Fin 512) :
    (iblk m c 1 t : S4096x512.Idx → EReal) (ix2 k l) = B m c k (512 * (t.val % 42) + l) := by
  blk_simp [iblk]
  refine (congrFun (V1 m c) _).trans (at2_of _ _ _ _ ?_ ?_)
  · blk_simp [i1]
  · blk_simp [i1]; omega

/-- The block turned over. -/
theorem pay1 (x : Vec Ideal S4096x1024 .bf16) (r : Fin 1024) (k : Fin 4096) : k0_pay1 x (ix2 r k) = x (ix2 k r) := by
  unfold k0_pay1
  simp only [shapeCast_self]
  pointwise

/-- The product of the two blocks. -/
theorem pay2 (x : Vec Ideal S1024x4096 .bf16) (y : Vec Ideal S4096x512 .bf16) (r : Fin 1024) (l : Fin 512) :
    k0_pay2 x y (ix2 r l) = ∑ k : Fin 4096, x (ix2 r k) * y (ix2 k l) := by
  unfold k0_pay2
  simp only [shapeCast_self]
  pointwise

theorem scratch_A (c : Dev nD) (t : Fin cfg0.N) (h0 : t.val % 42 = 0) (r : Fin 1024) (k : Fin 4096) :
    (outsAt0 m c t.val t.isLt).2 (ix2 r k) = A m c k (1024 * (t.val / 42) + r) := by
  rw [outsAt0_A m c t h0]
  dsimp only
  unfold sout0_A_0
  refine (congrFun (View.read_writes_eq_canon _ _ _ (fun y => scover0_A_0 ..)) _).trans ?_
  unfold kernelRun0_A
  dsimp only
  sl_unfold_words
  simp only [View.canon_unit_zero (S := S1024x4096) zero2, View.readAt_eq_ld, (hs0_0 t).read_unread, View.ld_unit_zero (S := S4096x1024) zero2]
  rw [pay1, block0]

/-- The scratch holds the left block turned over, at every point of a row of tiles. -/
theorem scratch (c : Dev nD) : ∀ (n : ℕ) (hn : n < cfg0.N) (r : Fin 1024) (k : Fin 4096),
    (outsAt0 m c n hn).2 (ix2 r k) = A m c k (1024 * (n / 42) + r) := by
  intro n
  induction n with
  | zero => intro hn r k; exact scratch_A m c ⟨0, hn⟩ rfl r k
  | succ n ih =>
    intro hn r k
    by_cases h0 : (n + 1) % 42 = 0
    · exact scratch_A m c ⟨n + 1, hn⟩ h0 r k
    · rw [outsAt0_B m c ⟨n + 1, hn⟩ h0]
      dsimp only
      unfold sout0_B_0
      refine (ih (by omega) r k).trans ?_
      rw [show (n + 1) / 42 = n / 42 by omega]

/-- What a grid point leaves in its output block. -/
theorem out (c : Dev nD) (t : Fin cfg0.N) (r : Fin 1024) (l : Fin 512) :
    (outsAt0 m c t.val t.isLt).1 (ix2 r l)
      = ∑ k : Fin 4096, A m c k (1024 * (t.val / 42) + r) * B m c k (512 * (t.val % 42) + l) := by
  by_cases h0 : t.val % 42 = 0
  · rw [outsAt0_A m c t h0]
    dsimp only
    unfold out0_A_2
    refine (congrFun (View.read_writes_eq_canon _ _ _ (fun y => cover0_A_2 ..)) _).trans ?_
    unfold kernelRun0_A
    dsimp only
    sl_unfold_words
    simp only [View.canon_unit_zero (S := S1024x512) zero2, View.readAt_eq_ld, (hs0_0 t).read_unread, (hs0_1 t).read_unread, View.ld_unit_zero (S := S4096x1024) zero2, View.ld_unit_zero (S := S4096x512) zero2]
    rw [pay2]
    refine Finset.sum_congr rfl fun k _ => ?_
    rw [block1]
    rw [View.readCov_cons_toLoadRect, pay1, block0]
  · rw [outsAt0_B m c t h0]
    dsimp only
    unfold out0_B_2
    refine (congrFun (View.read_writes_eq_canon _ _ _ (fun y => cover0_B_2 ..)) _).trans ?_
    unfold kernelRun0_B
    dsimp only
    sl_unfold_words
    simp only [View.canon_unit_zero (S := S1024x512) zero2, View.readAt_eq_ld, (hs0_1 t).read_unread, View.ld_unit_zero (S := S1024x4096) zero2, View.ld_unit_zero (S := S4096x512) zero2]
    rw [pay2]
    refine Finset.sum_congr rfl fun k _ => ?_
    rw [block1]
    refine congrArg (· * _) ?_
    refine (congrFun ((Memref.isWhole_whole cc0_scratch0).read_unread _) _).trans ((scratch m c _ _ r k).trans ?_)
    rw [show (t.val - 1) / 42 = t.val / 42 by omega]

/-- The array the call leaves. -/
theorem arr (c : Dev nD) (G : S4096x21504.Idx → EReal) (h : ∀ (r : Fin 4096) (l : Fin 21504), G (ix2 r l) = ∑ k : Fin 4096, A m c k r * B m c k l) :
    (dats m 0 c).arrAt 2 cfg0.N = G := by
  refine (dats m 0 c).arrAt_eq_of_covers 2 _ (by decide +kernel) fun t hf y => ?_
  blk_simp
  rw [after0_2]
  refine (of_ix _ (fun r l => ∑ k : Fin 4096, A m c k (1024 * (t.val / 42) + r) * B m c k (512 * (t.val % 42) + l)) (fun r l => out m c t r l) y (y 0) (y 1) rfl rfl).trans
    (of_ix G (fun r l => ∑ k : Fin 4096, A m c k r * B m c k l) h _ _ _ ?_ ?_).symm
  · blk_simp [i2]; omega
  · blk_simp [i2]; omega

/-- The reference's result at an entry. -/
theorem ref_out (X : S4096x4096.Idx → EReal) (Y : S4096x21504.Idx → EReal) (r : Fin 4096) (l : Fin 21504) :
    Cert.Reference6Ideal.Read.val_main_v4 (F := Ideal) X Y (ix2 r l) = ∑ k : Fin 4096, at2 X k r * at2 Y k l := by
  unfold Cert.Reference6Ideal.Read.val_main_v4 Cert.Reference6Ideal.Read.val_main_v3 Cert.Reference6Ideal.Read.val_main_v2
  pointwise
  refine Finset.sum_congr rfl fun k _ => ?_
  rw [mul_comm, at2_ix X, at2_ix Y]

/-- The reference runs, keeps its arguments, and has no semaphore. -/
theorem ref_frame :
    Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The call's result is, on the ideal reals, the reference's. -/
theorem value : Cert.algebraic_Kernel6Ideal_Reference6Ideal (hKernel6Ideal := Cert.Kernel6Ideal.Gen.facts)
    (hReference6Ideal := Cert.Reference6Ideal.Gen.facts) := by
  intro m g m' g' _ hag
  refine ⟨fun c => Cert.Reference6Ideal.Read.val_main_v4 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)), ?_, ?_⟩
  · refine (θ_run Cert.Kernel6Ideal.defs _ _).mono (fun _ h c => ?_) (Cert.Kernel6Ideal.Value.run_blocks m g)
    obtain ⟨a0, a1⟩ := hag c
    refine ⟨(h c).1.trans (arr m c _ fun r l => ?_), (h c).2⟩
    refine (ref_out _ _ r l).trans ?_
    rw [a0, a1]
  · refine (θ_run Cert.Reference6Ideal.defs _ _).mono (fun _ h c => ?_) (Cert.Reference6Ideal.Value.run (F := Ideal) m' g')
    exact ⟨(h c).1.trans (Cert.Reference6Ideal.Read.val_main_v4_eq _ _), (h c).2⟩

end Cert.Proof.InDw
-- ==== Proof.Rms.lean ====
module

public import proofs.«01_k».proof.Proof.Entries

/-!
One row of the root-mean-square norm over 4096 channels, and its gradient.
-/

@[expose] public section

noncomputable section

open Idealize.ShloMosaic Idealize.ShloMosaic.TcCoe Idealize.SL.Sem

namespace Cert.Proof.Rms

/-- The number of channels, 4096, as kernel and reference write it. -/
abbrev channels : EReal := Ideal.ofBits .f32 0x45800000#32

/-- A row's mean square plus the norm's small constant. -/
def den (x : Fin 4096 → EReal) : EReal := Ideal.div (∑ k, x k * x k) channels + Ideal.ofBits .f32 0x3727C5AC#32

/-- The gradient in a row `x` of `x / √(den x)`, pulled back along `g`. -/
def pull (x g : Fin 4096 → EReal) (l : Fin 4096) : EReal :=
  g l * Ideal.rsqrt (den x)
    + x l * ∑ _ : Fin 1, Ideal.div ((∑ k, x k * g k) * (Ideal.ofBits .f32 0xBF000000#32 * Ideal.div (Ideal.rsqrt (den x)) (den x))) channels
    + (∑ _ : Fin 1, Ideal.div ((∑ k, x k * g k) * (Ideal.ofBits .f32 0xBF000000#32 * Ideal.div (Ideal.rsqrt (den x)) (den x))) channels) * x l

/-- A half and two, as kernel and reference write them. -/
abbrev half : EReal := Ideal.ofBits .f32 0x3F000000#32
abbrev two : EReal := Ideal.ofBits .f32 0x40000000#32

theorem half_eq : half = (((1 : ℝ) / 2 : ℝ) : EReal) := by
  simp [half, Ideal.ofBits, Ideal.ieee, -EReal.coe_mul]; norm_num

theorem two_eq : two = 1 + 1 := by
  have h : two = ((2 : ℝ) : EReal) := by
    simp [two, Ideal.ofBits, Ideal.ieee, -EReal.coe_mul]; norm_num
  rw [h, show (2 : ℝ) = 1 + 1 by norm_num]
  rfl

/-- The normed row times the weight, less the target. -/
def err (x w tg : Fin 4096 → EReal) (l : Fin 4096) : EReal := x l * Ideal.rsqrt (den x) * w l - tg l

/-- The gradient of half the mean square in the error `e`. -/
def slope (e : EReal) : EReal := Ideal.div half channels * (two * e)

/-- Both halves of the square's gradient, added, are twice the one. -/
theorem slope_eq (e v : EReal) : e * v + v * e = v * (two * e) := by
  rw [mul_left_comm, two_eq, EReal.right_distrib_of_nonneg (by norm_num) (by norm_num), one_mul, mul_comm e v]

/-- Half of a sum is the sum of the halves. -/
theorem half_sum {n : ℕ} (f : ℕ → EReal) : half * ∑ q ∈ Finset.range n, f q = ∑ q ∈ Finset.range n, half * f q := by
  have h0 : (0 : EReal) ≤ half := by rw [half_eq]; exact_mod_cast (by norm_num : (0 : ℝ) ≤ 1 / 2)
  have h1 : half ≠ ⊤ := by rw [half_eq]; exact EReal.coe_ne_top _
  induction n with
  | zero => simp
  | succ n ih => rw [Finset.sum_range_succ, Finset.sum_range_succ, EReal.left_distrib_of_nonneg_of_ne_top h0 h1, ih]

end Cert.Proof.Rms
-- ==== Proof.NormBwd.lean ====
module

public import proofs.«01_k».proof.Defs
public import proofs.«01_k».proof.Proof.Rms
public import proofs.«01_k».proof.Proof.Gen.Kernel7Ideal.Value
public import proofs.«01_k».proof.Proof.Gen.Reference7Ideal.Run
public import proofs.«01_k».proof.Proof.Gen.Reference7Ideal.Read

/-!
The gradient of the root-mean-square norm, in its input (the residual's gradient added) and in its weight.
-/

@[expose] public section

noncomputable section

open Idealize.ShloMosaic Idealize.ShloMosaic.TcCoe Idealize.SL.Sem
open Idealize.ShloMosaic.Pipeline (Dat)

namespace Cert.Proof.NormBwd

open Cert.Kernel7Ideal Cert.Kernel7Ideal.Gen Cert.Proof.Entries Cert.Proof.Rms

/-- An entry of the gradient in the input: the norm's gradient of row `r`, plus the residual's. -/
def inAt (x dy dres w : ℕ → ℕ → EReal) (r : ℕ) (l : Fin 4096) : EReal :=
  pull (fun k => x r k) (fun k => dy r k * w 0 k) l + dres r l

/-- Row `r`'s part of the gradient in the weight at channel `l`. -/
def wtAt (x dy : ℕ → ℕ → EReal) (r l : ℕ) : EReal :=
  x r l * Ideal.rsqrt (den fun k => x r k) * dy r l

variable (m : (ℓ : Loc nD τ sig) → Buf (Elt Ideal) ℓ)

abbrev X (c : Dev nD) : ℕ → ℕ → EReal := at2 (n := 4096) (k := 4096) (m ((c : Thread nD τ).loc main_arg0))
abbrev Y (c : Dev nD) : ℕ → ℕ → EReal := at2 (n := 4096) (k := 4096) (m ((c : Thread nD τ).loc main_arg1))
abbrev D (c : Dev nD) : ℕ → ℕ → EReal := at2 (n := 4096) (k := 4096) (m ((c : Thread nD τ).loc main_arg2))
abbrev W (c : Dev nD) : ℕ → ℕ → EReal := at2 (n := 1) (k := 4096) (m ((c : Thread nD τ).loc main_arg3))

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)
theorem i3 : ∀ t : Fin cfg0.N, win0_3.index t = ![0, 0] := (by decide +kernel : ∀ t : Fin grid0.N, _)
theorem i6 : ∀ t : Fin cfg0.N, win0_6.index t = ![0, 0] := (by decide +kernel : ∀ t : Fin grid0.N, _)

theorem block0 (c : Dev nD) (t : Fin cfg0.N) (r : Fin 128) (k : Fin 4096) :
    (iblk m c 0 t : S128x4096.Idx → EReal) (ix2 r k) = X m c (128 * t.val + r) k := by
  blk_simp [iblk]
  refine at2_of _ _ _ _ ?_ ?_
  · blk_simp [i0]; omega
  · blk_simp [i0]

theorem block1 (c : Dev nD) (t : Fin cfg0.N) (r : Fin 128) (k : Fin 4096) :
    (iblk m c 1 t : S128x4096.Idx → EReal) (ix2 r k) = Y m c (128 * t.val + r) k := by
  blk_simp [iblk]
  refine at2_of _ _ _ _ ?_ ?_
  · blk_simp [i1]; omega
  · blk_simp [i1]

theorem block2 (c : Dev nD) (t : Fin cfg0.N) (r : Fin 128) (k : Fin 4096) :
    (iblk m c 2 t : S128x4096.Idx → EReal) (ix2 r k) = D m c (128 * t.val + r) k := by
  blk_simp [iblk]
  refine at2_of _ _ _ _ ?_ ?_
  · blk_simp [i2]; omega
  · blk_simp [i2]

theorem block3 (c : Dev nD) (t : Fin cfg0.N) (k : Fin 4096) :
    (iblk m c 3 t : S1x4096.Idx → EReal) (ix2 0 k) = W m c 0 k := by
  blk_simp [iblk]
  refine at2_of _ _ _ _ ?_ ?_
  · blk_simp [i3]; rfl
  · blk_simp [i3]

theorem pay1 (x y : Vec Ideal S1x4096 .f32) (l : Fin 4096) : k0_pay1 x y (ix2 0 l) = y (ix2 0 l) + x (ix2 0 l) := by
  unfold k0_pay1
  simp only [shapeCast_self]
  rfl

/-- The weight's gradient of a block of rows. -/
theorem pay4 (x dy : Vec Ideal S128x4096 .f32) (l : Fin 4096) :
    k0_pay4 x dy (ix2 0 l) = ∑ r : Fin 128, x (ix2 r l) * Ideal.rsqrt (den fun k => x (ix2 r k)) * dy (ix2 r l) := by
  unfold k0_pay4 k0_pay3 k0_pay2
  pointwise
  rfl

/-- The input's gradient of a block of rows. -/
theorem pay5 (x : Vec Ideal S128x4096 .f32) (w : Vec Ideal S1x4096 .f32) (dy dres : Vec Ideal S128x4096 .f32) (r : Fin 128) (l : Fin 4096) :
    k0_pay5 x w dy dres (ix2 r l) = pull (fun k => x (ix2 r k)) (fun k => dy (ix2 r k) * w (ix2 0 k)) l + dres (ix2 r l) := by
  unfold k0_pay5 k0_pay3 k0_pay2
  pointwise
  rfl

theorem pay6 (x : Vec Ideal S128x4096 .f32) (w : Vec Ideal S1x4096 .f32) (dy dres : Vec Ideal S128x4096 .f32) (r : Fin 128) (l : Fin 4096) :
    k0_pay6 x w dy dres (ix2 r l) = pull (fun k => x (ix2 r k)) (fun k => dy (ix2 r k) * w (ix2 0 k)) l + dres (ix2 r l) :=
  pay5 x w dy dres r l

abbrev xb (c : Dev nD) (t : Fin cfg0.N) : Vec Ideal S128x4096 .f32 := iblk m c 0 t
abbrev yb (c : Dev nD) (t : Fin cfg0.N) : Vec Ideal S128x4096 .f32 := iblk m c 1 t
abbrev db (c : Dev nD) (t : Fin cfg0.N) : Vec Ideal S128x4096 .f32 := iblk m c 2 t
abbrev wb (c : Dev nD) (t : Fin cfg0.N) : Vec Ideal S1x4096 .f32 := iblk m c 3 t

theorem in_eq (c : Dev nD) (t : Fin cfg0.N) (r : Fin 128) (l : Fin 4096) :
    pull (fun k => xb m c t (ix2 r k)) (fun k => yb m c t (ix2 r k) * wb m c t (ix2 0 k)) l + db m c t (ix2 r l)
      = inAt (X m c) (Y m c) (D m c) (W m c) (128 * t.val + r) l := by
  unfold inAt
  rw [show (fun k => xb m c t (ix2 r k)) = fun k : Fin 4096 => X m c (128 * t.val + r) k from funext (block0 m c t r),
    show (fun k => yb m c t (ix2 r k) * wb m c t (ix2 0 k)) = fun k : Fin 4096 => Y m c (128 * t.val + r) k * W m c 0 k from
      funext fun k => congrArg₂ (· * ·) (block1 m c t r k) (block3 m c t k)]
  exact congrArg (_ + ·) (block2 m c t r l)

theorem wt_eq (c : Dev nD) (t : Fin cfg0.N) (l : Fin 4096) :
    ∑ r : Fin 128, xb m c t (ix2 r l) * Ideal.rsqrt (den fun k => xb m c t (ix2 r k)) * yb m c t (ix2 r l)
      = ∑ r : Fin 128, wtAt (X m c) (Y m c) (128 * t.val + r) l := by
  refine Finset.sum_congr rfl fun r _ => ?_
  unfold wtAt
  rw [show (fun k => xb m c t (ix2 r k)) = fun k : Fin 4096 => X m c (128 * t.val + r) k from funext (block0 m c t r)]
  exact congrArg₂ (· * ·) (congrArg (· * _) (block0 m c t r l)) (block1 m c t r l)

theorem out4 (c : Dev nD) (t : Fin cfg0.N) (r : Fin 128) (l : Fin 4096) :
    (outsAt0 m c t.val t.isLt).1 (ix2 r l) = inAt (X m c) (Y m c) (D m c) (W m c) (128 * t.val + r) l := by
  have hN : t.val < 32 := lt_of_lt_of_eq t.isLt (show cfg0.N = 32 from N_0)
  by_cases h : t.val = 0
  · rw [outsAt0_A m c t (by omega) (by omega)]
    dsimp only
    unfold out0_A_4
    refine (congrFun (View.read_writes_eq_canon _ _ _ (fun y => cover0_A_4 ..)) _).trans ?_
    unfold kernelRun0_A
    dsimp only
    sl_unfold_words
    simp only [View.canon_unit_zero (S := S128x4096) zero2, View.readAt_eq_ld, (hs0_0 t).read_unread, (hs0_1 t).read_unread, (hs0_2 t).read_unread, (hs0_3 t).read_unread, View.ld_unit_zero (S := S128x4096) zero2, View.ld_unit_zero (S := S1x4096) zero2]
    exact (pay5 _ _ _ _ r l).trans (in_eq m c t r l)
  · rw [outsAt0_B m c t (by omega) (by omega)]
    dsimp only
    unfold out0_B_4
    refine (congrFun (View.read_writes_eq_canon _ _ _ (fun y => cover0_B_4 ..)) _).trans ?_
    unfold kernelRun0_B
    dsimp only
    sl_unfold_words
    simp only [View.canon_unit_zero (S := S128x4096) zero2, View.readAt_eq_ld, (hs0_0 t).read_unread, (hs0_1 t).read_unread, (hs0_2 t).read_unread, (hs0_3 t).read_unread, View.ld_unit_zero (S := S128x4096) zero2, View.ld_unit_zero (S := S1x4096) zero2]
    exact (pay5 _ _ _ _ r l).trans (in_eq m c t r l)

theorem out5 (c : Dev nD) (t : Fin cfg0.N) (r : Fin 128) (l : Fin 4096) :
    (outsAt0 m c t.val t.isLt).2.1 (ix2 r l) = inAt (X m c) (Y m c) (D m c) (W m c) (128 * t.val + r) l := by
  have hN : t.val < 32 := lt_of_lt_of_eq t.isLt (show cfg0.N = 32 from N_0)
  by_cases h : t.val = 0
  · rw [outsAt0_A m c t (by omega) (by omega)]
    dsimp only
    unfold out0_A_5
    refine (congrFun (View.read_writes_eq_canon _ _ _ (fun y => cover0_A_5 ..)) _).trans ?_
    unfold kernelRun0_A
    dsimp only
    sl_unfold_words
    simp only [View.canon_unit_zero (S := S128x4096) zero2, View.readAt_eq_ld, (hs0_0 t).read_unread, (hs0_1 t).read_unread, (hs0_2 t).read_unread, (hs0_3 t).read_unread, View.ld_unit_zero (S := S128x4096) zero2, View.ld_unit_zero (S := S1x4096) zero2]
    exact (pay6 _ _ _ _ r l).trans (in_eq m c t r l)
  · rw [outsAt0_B m c t (by omega) (by omega)]
    dsimp only
    unfold out0_B_5
    refine (congrFun (View.read_writes_eq_canon _ _ _ (fun y => cover0_B_5 ..)) _).trans ?_
    unfold kernelRun0_B
    dsimp only
    sl_unfold_words
    simp only [View.canon_unit_zero (S := S128x4096) zero2, View.readAt_eq_ld, (hs0_0 t).read_unread, (hs0_1 t).read_unread, (hs0_2 t).read_unread, (hs0_3 t).read_unread, View.ld_unit_zero (S := S128x4096) zero2, View.ld_unit_zero (S := S1x4096) zero2]
    exact (pay6 _ _ _ _ r l).trans (in_eq m c t r l)

/-- The weight's block holds the sum over the rows of the blocks up to the present one. -/
theorem out6 (c : Dev nD) : ∀ (n : ℕ) (hn : n < cfg0.N) (l : Fin 4096),
    (outsAt0 m c n hn).2.2 (ix2 0 l) = ∑ q ∈ Finset.range (n + 1), ∑ r : Fin 128, wtAt (X m c) (Y m c) (128 * q + r) l := by
  intro n
  induction n with
  | zero =>
    intro hn l
    have h0 : (⟨0, hn⟩ : Fin cfg0.N).val % 32 = 0 := rfl
    have h1 : ¬1 ≤ (⟨0, hn⟩ : Fin cfg0.N).val := (by decide : ¬1 ≤ 0)
    refine (congrFun (congrArg (fun p => p.2.2) (outsAt0_A m c ⟨0, hn⟩ h0 h1)) _).trans ?_
    dsimp only
    unfold out0_A_6
    refine (congrFun (View.read_writes_eq_canon _ _ _ (fun y => cover0_A_6 ..)) _).trans ?_
    unfold kernelRun0_A
    dsimp only
    sl_unfold_words
    simp only [View.canon_unit_zero (S := S1x4096) zero2, View.readAt_eq_ld, (hs0_0 ⟨0, hn⟩).read_unread, (hs0_1 ⟨0, hn⟩).read_unread, (hs0_2 ⟨0, hn⟩).read_unread, (hs0_3 ⟨0, hn⟩).read_unread, View.ld_unit_zero (S := S128x4096) zero2, View.ld_unit_zero (S := S1x4096) zero2]
    exact (pay4 _ _ l).trans ((wt_eq m c ⟨0, hn⟩ l).trans (Finset.sum_range_one fun q => ∑ r : Fin 128, wtAt (X m c) (Y m c) (128 * q + r) l).symm)
  | succ n ih =>
    intro hn l
    have hN : n + 1 < 32 := lt_of_lt_of_eq hn (show cfg0.N = 32 from N_0)
    have h0 : ¬(⟨n + 1, hn⟩ : Fin cfg0.N).val % 32 = 0 := by dsimp only; omega
    have h1 : 1 ≤ (⟨n + 1, hn⟩ : Fin cfg0.N).val := by dsimp only; omega
    rw [outsAt0_B m c ⟨n + 1, hn⟩ h0 h1]
    dsimp only
    unfold out0_B_6
    refine (congrFun (View.read_writes_eq_canon _ _ _ (fun y => cover0_B_6 ..)) _).trans ?_
    unfold kernelRun0_B
    dsimp only
    sl_unfold_words
    simp only [View.canon_unit_zero (S := S1x4096) zero2, View.readAt_eq_ld, (hs0_0 ⟨n + 1, hn⟩).read_unread, (hs0_1 ⟨n + 1, hn⟩).read_unread, (hs0_2 ⟨n + 1, hn⟩).read_unread, (hs0_3 ⟨n + 1, hn⟩).read_unread, View.ld_unit_zero (S := S128x4096) zero2, View.ld_unit_zero (S := S1x4096) zero2]
    refine (pay1 _ _ l).trans ?_
    rw [Finset.sum_range_succ]
    refine congrArg₂ (· + ·) ?_ ((pay4 _ _ l).trans (wt_eq m c ⟨n + 1, hn⟩ l))
    refine (congrFun ((hs0_6 ⟨n + 1, hn⟩).read_unread _) _).trans (ih (by omega) l)

theorem arr4 (c : Dev nD) (G : S4096x4096.Idx → EReal)
    (h : ∀ (r l : Fin 4096), G (ix2 r l) = inAt (X m c) (Y m c) (D m c) (W m c) r l) : (dats m 0 c).arrAt 4 cfg0.N = G := by
  refine (dats m 0 c).arrAt_eq_of_covers 4 _ (by decide +kernel) fun t hf y => ?_
  blk_simp
  rw [after0_4]
  conv_lhs => rw [← ix2_eta y]
  refine (out4 m c t (y 0) (y 1)).trans ((h ⟨128 * t.val + (y 0 : ℕ), ?_⟩ (y 1)).symm.trans (congrArg G (ix2_of _ _ _ ?_ ?_)))
  · have hN : t.val < 32 := lt_of_lt_of_eq t.isLt (show cfg0.N = 32 from N_0)
    have hy : (y 0 : ℕ) < 128 := (y 0).isLt
    omega
  · blk_simp [i4]; dsimp only; omega
  · blk_simp [i4]

theorem arr5 (c : Dev nD) (G : S4096x4096.Idx → EReal)
    (h : ∀ (r l : Fin 4096), G (ix2 r l) = inAt (X m c) (Y m c) (D m c) (W m c) r l) : (dats m 0 c).arrAt 5 cfg0.N = G := by
  refine (dats m 0 c).arrAt_eq_of_covers 5 _ (by decide +kernel) fun t hf y => ?_
  blk_simp
  rw [after0_5]
  conv_lhs => rw [← ix2_eta y]
  refine (out5 m c t (y 0) (y 1)).trans ((h ⟨128 * t.val + (y 0 : ℕ), ?_⟩ (y 1)).symm.trans (congrArg G (ix2_of _ _ _ ?_ ?_)))
  · have hN : t.val < 32 := lt_of_lt_of_eq t.isLt (show cfg0.N = 32 from N_0)
    have hy : (y 0 : ℕ) < 128 := (y 0).isLt
    omega
  · blk_simp [i5]; dsimp only; omega
  · blk_simp [i5]

theorem arr6 (c : Dev nD) (G : S1x4096.Idx → EReal)
    (h : ∀ l : Fin 4096, G (ix2 0 l) = ∑ r : Fin 4096, wtAt (X m c) (Y m c) r l) : (dats m 0 c).arrAt 6 cfg0.N = G := by
  refine (dats m 0 c).arrAt_eq_of_covers 6 _ (by decide +kernel) fun t hf y => ?_
  have ht : t.val = 31 := by
    have hN : t.val < 32 := lt_of_lt_of_eq t.isLt (show cfg0.N = 32 from N_0)
    have := (flush0_6 t).mp hf
    omega
  blk_simp
  rw [after0_6]
  conv_lhs => rw [← ix2_eta y]
  have y0 : y 0 = (0 : Fin 1) := Subsingleton.elim (α := Fin 1) _ _
  rw [y0]
  refine (out6 m c t.val t.isLt (y 1)).trans (Eq.trans ?_ ((h (y 1)).symm.trans (congrArg G (ix2_of _ _ _ ?_ ?_))))
  · rw [ht]; exact sum_tiles 128 32 fun r => wtAt (X m c) (Y m c) r (y 1 : Fin 4096)
  · blk_simp [i6]; rfl
  · blk_simp [i6]

section
open Cert.Reference7Ideal.Read

/-- The reference's gradient in the input at an entry. -/
theorem ref_in (x dy dres : S4096x4096.Idx → EReal) (w : S1x4096.Idx → EReal) (r l : Fin 4096) :
    val_main_v34 (F := Ideal) x dy dres w (ix2 r l) = inAt (at2 x) (at2 dy) (at2 dres) (at2 w) r l := by
  unfold val_main_v34 val_main_v33 val_main_v32 val_main_v31 val_main_v30 val_main_v29 val_main_v28 val_main_v27 val_main_v26 val_main_v25 val_main_v24 val_main_v23 val_main_v22 val_main_v21 val_main_v20 val_main_v19 val_main_v18 val_main_v10 val_main_v9 val_main_v8 val_main_v7 val_main_v6 val_main_v5 val_main_v4 val_main_v3 val_main_v2 val_main_v1 val_main_v0 val_main_cst val_main_cst_0 val_main_cst_1 val_main_cst_2 val_main_cst_4 val_main_cst_5 val_main_cst_6
  pointwise
  unfold inAt pull den
  simp only [at2_ix x, at2_ix dy, at2_ix dres, at2_ix w]
  rw [add_comm _ (at2 dres r l), ← add_assoc, ← add_assoc]
  rfl

/-- The reference's gradient in the weight at an entry. -/
theorem ref_wt (x dy : S4096x4096.Idx → EReal) (l : Fin 4096) :
    val_main_v17 (F := Ideal) x dy (ix2 0 l) = ∑ r : Fin 4096, wtAt (at2 x) (at2 dy) r l := by
  unfold val_main_v17 val_main_v16 val_main_v15 val_main_v12 val_main_v11 val_main_v7 val_main_v6 val_main_v5 val_main_v4 val_main_v3 val_main_v2 val_main_v1 val_main_v0 val_main_cst val_main_cst_0 val_main_cst_1 val_main_cst_3
  pointwise
  unfold wtAt den
  simp only [at2_ix x, at2_ix dy]

end

/-- The reference runs, keeps its arguments, and has no semaphore. -/
theorem ref_frame :
    Cert.quiescent_Reference7Ideal (hReference7Ideal := Cert.Reference7Ideal.Gen.facts) := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The call's three results are, on the ideal reals, the reference's. -/
theorem value : Cert.algebraic_Kernel7Ideal_Reference7Ideal (hKernel7Ideal := Cert.Kernel7Ideal.Gen.facts)
    (hReference7Ideal := Cert.Reference7Ideal.Gen.facts) := by
  intro m g m' g' _ hag
  refine ⟨_, _, _, ?_, (θ_run Cert.Reference7Ideal.defs _ _).mono (fun _ h c => h c) (Cert.Reference7Ideal.Value.run (F := Ideal) m' g')⟩
  refine (θ_run Cert.Kernel7Ideal.defs _ _).mono (fun _ h c => ?_) (Cert.Kernel7Ideal.Value.run_blocks m g)
  obtain ⟨a0, a1, a2, a3⟩ := hag c
  refine ⟨(h c).1.trans (arr4 m c _ fun r l => ?_), (h c).2.1.trans (arr5 m c _ fun r l => ?_), (h c).2.2.1.trans (arr6 m c _ fun l => ?_), (h c).2.2.2⟩
  · refine (congrFun (Cert.Reference7Ideal.Read.val_main_v34_eq _ _ _ _) _).trans ((ref_in _ _ _ _ r l).trans ?_)
    rw [a0, a1, a2, a3]
  · refine (congrFun (Cert.Reference7Ideal.Read.val_main_v35_eq _ _ _ _) _).trans ((ref_in _ _ _ _ r l).trans ?_)
    rw [a0, a1, a2, a3]
  · refine (congrFun (Cert.Reference7Ideal.Read.val_main_v17_eq _ _) _).trans ((ref_wt _ _ l).trans ?_)
    rw [a0, a1]

end Cert.Proof.NormBwd
-- ==== Proof.Final.lean ====
module

public import proofs.«01_k».proof.Defs
public import proofs.«01_k».proof.Proof.Rms
public import proofs.«01_k».proof.Proof.Gen.Kernel8Ideal.Value
public import proofs.«01_k».proof.Proof.Gen.Reference8Ideal.Run
public import proofs.«01_k».proof.Proof.Gen.Reference8Ideal.Read

/-!
The loss, its gradient in the last hidden rows and in the final norm's weight.
-/

@[expose] public section

noncomputable section

open Idealize.ShloMosaic Idealize.ShloMosaic.TcCoe Idealize.SL.Sem
open Idealize.ShloMosaic.Pipeline (Dat)

namespace Cert.Proof.Final

open Cert.Kernel8Ideal Cert.Kernel8Ideal.Gen Cert.Proof.Entries Cert.Proof.Rms

/-- Row `r` of the hidden rows: the residual plus the channel mixer's result. -/
def hid (a b : ℕ → ℕ → EReal) (r : ℕ) (k : Fin 4096) : EReal := a r k + b r k

/-- Row `r`'s error at channel `k`. -/
def errAt (a b tg w : ℕ → ℕ → EReal) (r : ℕ) (k : Fin 4096) : EReal := err (hid a b r) (fun k => w 0 k) (fun k => tg r k) k

/-- An entry of the gradient in the hidden rows. -/
def inAt (a b tg w : ℕ → ℕ → EReal) (r : ℕ) (l : Fin 4096) : EReal :=
  pull (hid a b r) (fun k => slope (errAt a b tg w r k) * w 0 k) l

/-- Row `r`'s part of the gradient in the norm's weight at channel `l`. -/
def wtAt (a b tg w : ℕ → ℕ → EReal) (l : Fin 4096) (r : ℕ) : EReal :=
  hid a b r l * Ideal.rsqrt (den (hid a b r)) * slope (errAt a b tg w r l)

/-- Row `r`'s mean square error. -/
def lossAt (a b tg w : ℕ → ℕ → EReal) (r : ℕ) : EReal :=
  Ideal.div (∑ k : Fin 4096, errAt a b tg w r k * errAt a b tg w r k) channels

variable (m : (ℓ : Loc nD τ sig) → Buf (Elt Ideal) ℓ)

abbrev A (c : Dev nD) : ℕ → ℕ → EReal := at2 (n := 4096) (k := 4096) (m ((c : Thread nD τ).loc main_arg0))
abbrev B (c : Dev nD) : ℕ → ℕ → EReal := at2 (n := 4096) (k := 4096) (m ((c : Thread nD τ).loc main_arg1))
abbrev T (c : Dev nD) : ℕ → ℕ → EReal := at2 (n := 4096) (k := 4096) (m ((c : Thread nD τ).loc main_arg2))
abbrev W (c : Dev nD) : ℕ → ℕ → EReal := at2 (n := 1) (k := 4096) (m ((c : Thread nD τ).loc main_arg3))

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![t.val, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i7 : ∀ t : Fin cfg0.N, win0_7.index t = ![0, 0] := (by decide +kernel : ∀ t : Fin grid0.N, _)

abbrev ab (c : Dev nD) (t : Fin cfg0.N) : Vec Ideal S128x4096 .f32 := iblk m c 0 t
abbrev bb (c : Dev nD) (t : Fin cfg0.N) : Vec Ideal S128x4096 .f32 := iblk m c 1 t
abbrev tb (c : Dev nD) (t : Fin cfg0.N) : Vec Ideal S128x4096 .f32 := iblk m c 2 t
abbrev wb (c : Dev nD) (t : Fin cfg0.N) : Vec Ideal S1x4096 .f32 := iblk m c 3 t

theorem block0 (c : Dev nD) (t : Fin cfg0.N) (r : Fin 128) (k : Fin 4096) : ab m c t (ix2 r k) = A m c (128 * t.val + r) k := by
  blk_simp [ab, iblk]
  refine at2_of _ _ _ _ ?_ ?_
  · blk_simp [i0]; omega
  · blk_simp [i0]

theorem block1 (c : Dev nD) (t : Fin cfg0.N) (r : Fin 128) (k : Fin 4096) : bb m c t (ix2 r k) = B m c (128 * t.val + r) k := by
  blk_simp [bb, iblk]
  refine at2_of _ _ _ _ ?_ ?_
  · blk_simp [i1]; omega
  · blk_simp [i1]

theorem block2 (c : Dev nD) (t : Fin cfg0.N) (r : Fin 128) (k : Fin 4096) : tb m c t (ix2 r k) = T m c (128 * t.val + r) k := by
  blk_simp [tb, iblk]
  refine at2_of _ _ _ _ ?_ ?_
  · blk_simp [i2]; omega
  · blk_simp [i2]

theorem block3 (c : Dev nD) (t : Fin cfg0.N) (k : Fin 4096) : wb m c t (ix2 0 k) = W m c 0 k := by
  blk_simp [wb, iblk]
  refine at2_of _ _ _ _ ?_ ?_
  · blk_simp [i3]; rfl
  · blk_simp [i3]

section
variable (tg a b : Vec Ideal S128x4096 .f32) (w : Vec Ideal S1x4096 .f32)

/-- A block's row, and its error. -/
abbrev hidB (r : Fin 128) (k : Fin 4096) : EReal := a (ix2 r k) + b (ix2 r k)
abbrev errB (r : Fin 128) (k : Fin 4096) : EReal := err (hidB a b r) (fun k => w (ix2 0 k)) (fun k => tg (ix2 r k)) k

theorem pay7 (r : Fin 128) (k : Fin 4096) : k0_pay7 (F := Ideal) tg a b w (ix2 r k) = errB tg a b w r k := by
  unfold k0_pay7 k0_pay6 k0_pay4 k0_pay3 k0_pay2
  pointwise
  rfl

theorem pay6 (r : Fin 128) (k : Fin 4096) : k0_pay6 (F := Ideal) a b (ix2 r k) = hidB a b r k * Ideal.rsqrt (den (hidB a b r)) := by
  unfold k0_pay6 k0_pay4 k0_pay3 k0_pay2
  pointwise
  rfl

theorem pay10 (r : Fin 128) (k : Fin 4096) :
    k0_pay10 (F := Ideal) (k0_pay7 (F := Ideal) tg a b w) (k0_pay9 (F := Ideal)) (ix2 r k) = slope (errB tg a b w r k) := by
  unfold k0_pay10 k0_pay9
  pointwise
  rw [pay7]
  simp only [Finset.univ_unique, Finset.sum_singleton]
  exact slope_eq _ _

/-- The gradient in a block of hidden rows. -/
theorem pay12 (r : Fin 128) (l : Fin 4096) :
    k0_pay12 (F := Ideal) (k0_pay2 (F := Ideal) a b) w (k0_pay4 (F := Ideal) a b) (k0_pay5 (F := Ideal) a b) (k0_pay7 (F := Ideal) tg a b w) (k0_pay9 (F := Ideal)) (ix2 r l)
      = pull (hidB a b r) (fun k => slope (errB tg a b w r k) * w (ix2 0 k)) l := by
  unfold k0_pay12
  pointwise
  simp only [pay10]
  unfold k0_pay5 k0_pay4 k0_pay3 k0_pay2
  pointwise
  rfl

/-- The norm's weight's gradient of a block of rows. -/
theorem pay11 (l : Fin 4096) :
    k0_pay11 (F := Ideal) (k0_pay6 (F := Ideal) a b) (k0_pay7 (F := Ideal) tg a b w) (k0_pay9 (F := Ideal)) (ix2 0 l)
      = ∑ r : Fin 128, hidB a b r l * Ideal.rsqrt (den (hidB a b r)) * slope (errB tg a b w r l) := by
  unfold k0_pay11
  pointwise
  simp only [pay10, pay6]

theorem pay14 (x : Vec Ideal S1x4096 .f32) (l : Fin 4096) :
    k0_pay14 (F := Ideal) (k0_pay6 (F := Ideal) a b) (k0_pay7 (F := Ideal) tg a b w) (k0_pay9 (F := Ideal)) x (ix2 0 l)
      = x (ix2 0 l) + ∑ r : Fin 128, hidB a b r l * Ideal.rsqrt (den (hidB a b r)) * slope (errB tg a b w r l) := by
  unfold k0_pay14
  simp only [shapeCast_self]
  exact congrArg (x (ix2 0 l) + ·) (pay11 tg a b w l)

/-- Half the mean square errors of a block of rows. -/
theorem pay15 (l : Fin 128) :
    k0_pay15 (F := Ideal) (k0_pay8 (F := Ideal) tg a b w) (ix2 0 l)
      = half * ∑ r : Fin 128, Ideal.div (∑ k : Fin 4096, errB tg a b w r k * errB tg a b w r k) channels := by
  unfold k0_pay15 k0_pay8
  simp only [shapeCast_self]
  pointwise
  simp only [pay7]

theorem pay1 (x : Vec Ideal S1x128 .f32) (l : Fin 128) :
    k0_pay1 (F := Ideal) (k0_pay15 (F := Ideal) (k0_pay8 (F := Ideal) tg a b w)) x (ix2 0 l)
      = x (ix2 0 l) + half * ∑ r : Fin 128, Ideal.div (∑ k : Fin 4096, errB tg a b w r k * errB tg a b w r k) channels := by
  unfold k0_pay1
  simp only [shapeCast_self]
  exact congrArg (x (ix2 0 l) + ·) (pay15 tg a b w l)

end

theorem hid_eq (c : Dev nD) (t : Fin cfg0.N) (r : Fin 128) :
    hidB (ab m c t) (bb m c t) r = hid (A m c) (B m c) (128 * t.val + r) :=
  funext fun k => congrArg₂ (· + ·) (block0 m c t r k) (block1 m c t r k)

theorem err_eq (c : Dev nD) (t : Fin cfg0.N) (r : Fin 128) (k : Fin 4096) :
    errB (tb m c t) (ab m c t) (bb m c t) (wb m c t) r k = errAt (A m c) (B m c) (T m c) (W m c) (128 * t.val + r) k := by
  unfold errAt
  rw [← hid_eq m c t r]
  refine congrArg (· k) (congrArg₂ (err _) (funext fun k => block3 m c t k) (funext fun k => block2 m c t r k))

theorem in_eq (c : Dev nD) (t : Fin cfg0.N) (r : Fin 128) (l : Fin 4096) :
    pull (hidB (ab m c t) (bb m c t) r) (fun k => slope (errB (tb m c t) (ab m c t) (bb m c t) (wb m c t) r k) * wb m c t (ix2 0 k)) l
      = inAt (A m c) (B m c) (T m c) (W m c) (128 * t.val + r) l := by
  unfold inAt
  rw [hid_eq m c t r]
  exact congrArg (fun g => pull _ g l) (funext fun k => congrArg₂ (· * ·) (congrArg slope (err_eq m c t r k)) (block3 m c t k))

theorem wt_eq (c : Dev nD) (t : Fin cfg0.N) (l : Fin 4096) :
    ∑ r : Fin 128, hidB (ab m c t) (bb m c t) r l * Ideal.rsqrt (den (hidB (ab m c t) (bb m c t) r)) * slope (errB (tb m c t) (ab m c t) (bb m c t) (wb m c t) r l)
      = ∑ r : Fin 128, wtAt (A m c) (B m c) (T m c) (W m c) l (128 * t.val + r) := by
  refine Finset.sum_congr rfl fun r _ => ?_
  unfold wtAt
  rw [hid_eq m c t r, err_eq m c t r l]

theorem loss_eq (c : Dev nD) (t : Fin cfg0.N) :
    half * ∑ r : Fin 128, Ideal.div (∑ k : Fin 4096, errB (tb m c t) (ab m c t) (bb m c t) (wb m c t) r k * errB (tb m c t) (ab m c t) (bb m c t) (wb m c t) r k) channels
      = half * ∑ r : Fin 128, lossAt (A m c) (B m c) (T m c) (W m c) (128 * t.val + r) := by
  refine congrArg (half * ·) (Finset.sum_congr rfl fun r _ => ?_)
  unfold lossAt
  simp only [err_eq m c t r]

theorem out5 (c : Dev nD) (t : Fin cfg0.N) (r : Fin 128) (l : Fin 4096) :
    (outsAt0 m c t.val t.isLt).2.1 (ix2 r l) = inAt (A m c) (B m c) (T m c) (W m c) (128 * t.val + r) l := by
  have hN : t.val < 32 := lt_of_lt_of_eq t.isLt (show cfg0.N = 32 from N_0)
  by_cases h : t.val = 0
  · refine (congrFun (congrArg (fun p => p.2.1) (outsAt0_A m c t (by omega) (by omega) (by omega) (by omega))) _).trans ?_
    dsimp only
    unfold out0_A_5
    refine (congrFun (View.read_writes_eq_canon _ _ _ (fun y => cover0_A_5 ..)) _).trans ?_
    unfold kernelRun0_A
    dsimp only
    sl_unfold_words
    simp only [View.canon_unit_zero (S := S128x4096) zero2, View.readAt_eq_ld, (hs0_0 t).read_unread, (hs0_1 t).read_unread, (hs0_2 t).read_unread, (hs0_3 t).read_unread, View.ld_unit_zero (S := S128x4096) zero2, View.ld_unit_zero (S := S1x4096) zero2]
    exact (pay12 _ _ _ _ r l).trans (in_eq m c t r l)
  · refine (congrFun (congrArg (fun p => p.2.1) (outsAt0_B m c t (by omega) (by omega) (by omega) (by omega))) _).trans ?_
    dsimp only
    unfold out0_B_5
    refine (congrFun (View.read_writes_eq_canon _ _ _ (fun y => cover0_B_5 ..)) _).trans ?_
    unfold kernelRun0_B
    dsimp only
    sl_unfold_words
    simp only [View.canon_unit_zero (S := S128x4096) zero2, View.readAt_eq_ld, (hs0_0 t).read_unread, (hs0_1 t).read_unread, (hs0_2 t).read_unread, (hs0_3 t).read_unread, View.ld_unit_zero (S := S128x4096) zero2, View.ld_unit_zero (S := S1x4096) zero2]
    exact (pay12 _ _ _ _ r l).trans (in_eq m c t r l)

theorem out6 (c : Dev nD) (t : Fin cfg0.N) (r : Fin 128) (l : Fin 4096) :
    (outsAt0 m c t.val t.isLt).2.2.1 (ix2 r l) = inAt (A m c) (B m c) (T m c) (W m c) (128 * t.val + r) l := by
  have hN : t.val < 32 := lt_of_lt_of_eq t.isLt (show cfg0.N = 32 from N_0)
  by_cases h : t.val = 0
  · refine (congrFun (congrArg (fun p => p.2.2.1) (outsAt0_A m c t (by omega) (by omega) (by omega) (by omega))) _).trans ?_
    dsimp only
    unfold out0_A_6
    refine (congrFun (View.read_writes_eq_canon _ _ _ (fun y => cover0_A_6 ..)) _).trans ?_
    unfold kernelRun0_A
    dsimp only
    sl_unfold_words
    simp only [View.canon_unit_zero (S := S128x4096) zero2, View.readAt_eq_ld, (hs0_0 t).read_unread, (hs0_1 t).read_unread, (hs0_2 t).read_unread, (hs0_3 t).read_unread, View.ld_unit_zero (S := S128x4096) zero2, View.ld_unit_zero (S := S1x4096) zero2]
    exact (pay12 _ _ _ _ r l).trans (in_eq m c t r l)
  · refine (congrFun (congrArg (fun p => p.2.2.1) (outsAt0_B m c t (by omega) (by omega) (by omega) (by omega))) _).trans ?_
    dsimp only
    unfold out0_B_6
    refine (congrFun (View.read_writes_eq_canon _ _ _ (fun y => cover0_B_6 ..)) _).trans ?_
    unfold kernelRun0_B
    dsimp only
    sl_unfold_words
    simp only [View.canon_unit_zero (S := S128x4096) zero2, View.readAt_eq_ld, (hs0_0 t).read_unread, (hs0_1 t).read_unread, (hs0_2 t).read_unread, (hs0_3 t).read_unread, View.ld_unit_zero (S := S128x4096) zero2, View.ld_unit_zero (S := S1x4096) zero2]
    exact (pay12 _ _ _ _ r l).trans (in_eq m c t r l)

/-- The weight's block holds the sum over the rows of the blocks up to the present one. -/
theorem out7 (c : Dev nD) : ∀ (n : ℕ) (hn : n < cfg0.N) (l : Fin 4096),
    (outsAt0 m c n hn).2.2.2 (ix2 0 l) = ∑ q ∈ Finset.range (n + 1), ∑ r : Fin 128, wtAt (A m c) (B m c) (T m c) (W m c) l (128 * q + r) := by
  intro n
  induction n with
  | zero =>
    intro hn l
    have h0 : (⟨0, hn⟩ : Fin cfg0.N).val % 32 = 0 := rfl
    have h1 : ¬1 ≤ (⟨0, hn⟩ : Fin cfg0.N).val := (by decide : ¬1 ≤ 0)
    refine (congrFun (congrArg (fun p => p.2.2.2) (outsAt0_A m c ⟨0, hn⟩ h0 h1 h0 h1)) _).trans ?_
    dsimp only
    unfold out0_A_7
    refine (congrFun (View.read_writes_eq_canon _ _ _ (fun y => cover0_A_7 ..)) _).trans ?_
    unfold kernelRun0_A
    dsimp only
    sl_unfold_words
    simp only [View.canon_unit_zero (S := S1x4096) zero2, View.readAt_eq_ld, (hs0_0 ⟨0, hn⟩).read_unread, (hs0_1 ⟨0, hn⟩).read_unread, (hs0_2 ⟨0, hn⟩).read_unread, (hs0_3 ⟨0, hn⟩).read_unread, View.ld_unit_zero (S := S128x4096) zero2, View.ld_unit_zero (S := S1x4096) zero2]
    exact (pay11 _ _ _ _ l).trans ((wt_eq m c ⟨0, hn⟩ l).trans (Finset.sum_range_one fun q => ∑ r : Fin 128, wtAt (A m c) (B m c) (T m c) (W m c) l (128 * q + r)).symm)
  | succ n ih =>
    intro hn l
    have hN : n + 1 < 32 := lt_of_lt_of_eq hn (show cfg0.N = 32 from N_0)
    have h0 : ¬(⟨n + 1, hn⟩ : Fin cfg0.N).val % 32 = 0 := by dsimp only; omega
    have h1 : 1 ≤ (⟨n + 1, hn⟩ : Fin cfg0.N).val := by dsimp only; omega
    refine (congrFun (congrArg (fun p => p.2.2.2) (outsAt0_B m c ⟨n + 1, hn⟩ h0 h1 h0 h1)) _).trans ?_
    dsimp only
    unfold out0_B_7
    refine (congrFun (View.read_writes_eq_canon _ _ _ (fun y => cover0_B_7 ..)) _).trans ?_
    unfold kernelRun0_B
    dsimp only
    sl_unfold_words
    simp only [View.canon_unit_zero (S := S1x4096) zero2, View.readAt_eq_ld, (hs0_0 ⟨n + 1, hn⟩).read_unread, (hs0_1 ⟨n + 1, hn⟩).read_unread, (hs0_2 ⟨n + 1, hn⟩).read_unread, (hs0_3 ⟨n + 1, hn⟩).read_unread, View.ld_unit_zero (S := S128x4096) zero2, View.ld_unit_zero (S := S1x4096) zero2]
    refine (pay14 _ _ _ _ _ l).trans ?_
    rw [Finset.sum_range_succ]
    refine congrArg₂ (· + ·) ?_ (wt_eq m c ⟨n + 1, hn⟩ l)
    refine (congrFun ((hs0_7 ⟨n + 1, hn⟩).read_unread _) _).trans (ih (by omega) l)

/-- The loss's block holds the sum over the rows of the blocks up to the present one. -/
theorem out4 (c : Dev nD) : ∀ (n : ℕ) (hn : n < cfg0.N) (l : Fin 128),
    (outsAt0 m c n hn).1 (ix2 0 l) = ∑ q ∈ Finset.range (n + 1), half * ∑ r : Fin 128, lossAt (A m c) (B m c) (T m c) (W m c) (128 * q + r) := by
  intro n
  induction n with
  | zero =>
    intro hn l
    have h0 : (⟨0, hn⟩ : Fin cfg0.N).val % 32 = 0 := rfl
    have h1 : ¬1 ≤ (⟨0, hn⟩ : Fin cfg0.N).val := (by decide : ¬1 ≤ 0)
    refine (congrFun (congrArg (fun p => p.1) (outsAt0_A m c ⟨0, hn⟩ h0 h1 h0 h1)) _).trans ?_
    dsimp only
    unfold out0_A_4
    refine (congrFun (View.read_writes_eq_canon _ _ _ (fun y => cover0_A_4 ..)) _).trans ?_
    unfold kernelRun0_A
    dsimp only
    sl_unfold_words
    simp only [View.canon_unit_zero (S := S1x128) zero2, View.readAt_eq_ld, (hs0_0 ⟨0, hn⟩).read_unread, (hs0_1 ⟨0, hn⟩).read_unread, (hs0_2 ⟨0, hn⟩).read_unread, (hs0_3 ⟨0, hn⟩).read_unread, View.ld_unit_zero (S := S128x4096) zero2, View.ld_unit_zero (S := S1x4096) zero2, View.ld_unit_zero (S := S1x128) zero2]
    exact (pay15 _ _ _ _ l).trans ((loss_eq m c ⟨0, hn⟩).trans (Finset.sum_range_one fun q => half * ∑ r : Fin 128, lossAt (A m c) (B m c) (T m c) (W m c) (128 * q + r)).symm)
  | succ n ih =>
    intro hn l
    have hN : n + 1 < 32 := lt_of_lt_of_eq hn (show cfg0.N = 32 from N_0)
    have h0 : ¬(⟨n + 1, hn⟩ : Fin cfg0.N).val % 32 = 0 := by dsimp only; omega
    have h1 : 1 ≤ (⟨n + 1, hn⟩ : Fin cfg0.N).val := by dsimp only; omega
    refine (congrFun (congrArg (fun p => p.1) (outsAt0_B m c ⟨n + 1, hn⟩ h0 h1 h0 h1)) _).trans ?_
    dsimp only
    unfold out0_B_4
    refine (congrFun (View.read_writes_eq_canon _ _ _ (fun y => cover0_B_4 ..)) _).trans ?_
    unfold kernelRun0_B
    dsimp only
    sl_unfold_words
    simp only [View.canon_unit_zero (S := S1x128) zero2, View.readAt_eq_ld, (hs0_0 ⟨n + 1, hn⟩).read_unread, (hs0_1 ⟨n + 1, hn⟩).read_unread, (hs0_2 ⟨n + 1, hn⟩).read_unread, (hs0_3 ⟨n + 1, hn⟩).read_unread, View.ld_unit_zero (S := S128x4096) zero2, View.ld_unit_zero (S := S1x4096) zero2, View.ld_unit_zero (S := S1x128) zero2]
    refine (pay1 _ _ _ _ _ l).trans ?_
    rw [Finset.sum_range_succ]
    refine congrArg₂ (· + ·) ?_ (loss_eq m c ⟨n + 1, hn⟩)
    refine (congrFun ((hs0_4 ⟨n + 1, hn⟩).read_unread _) _).trans (ih (by omega) l)

theorem arr5 (c : Dev nD) (G : S4096x4096.Idx → EReal)
    (h : ∀ (r l : Fin 4096), G (ix2 r l) = inAt (A m c) (B m c) (T m c) (W m c) r l) : (dats m 0 c).arrAt 5 cfg0.N = G := by
  refine (dats m 0 c).arrAt_eq_of_covers 5 _ (by decide +kernel) fun t hf y => ?_
  blk_simp
  rw [after0_5]
  conv_lhs => rw [← ix2_eta y]
  refine (out5 m c t (y 0) (y 1)).trans ((h ⟨128 * t.val + (y 0 : ℕ), ?_⟩ (y 1)).symm.trans (congrArg G (ix2_of _ _ _ ?_ ?_)))
  · have hN : t.val < 32 := lt_of_lt_of_eq t.isLt (show cfg0.N = 32 from N_0)
    have hy : (y 0 : ℕ) < 128 := (y 0).isLt
    omega
  · blk_simp [i5]; dsimp only; omega
  · blk_simp [i5]

theorem arr6 (c : Dev nD) (G : S4096x4096.Idx → EReal)
    (h : ∀ (r l : Fin 4096), G (ix2 r l) = inAt (A m c) (B m c) (T m c) (W m c) r l) : (dats m 0 c).arrAt 6 cfg0.N = G := by
  refine (dats m 0 c).arrAt_eq_of_covers 6 _ (by decide +kernel) fun t hf y => ?_
  blk_simp
  rw [after0_6]
  conv_lhs => rw [← ix2_eta y]
  refine (out6 m c t (y 0) (y 1)).trans ((h ⟨128 * t.val + (y 0 : ℕ), ?_⟩ (y 1)).symm.trans (congrArg G (ix2_of _ _ _ ?_ ?_)))
  · have hN : t.val < 32 := lt_of_lt_of_eq t.isLt (show cfg0.N = 32 from N_0)
    have hy : (y 0 : ℕ) < 128 := (y 0).isLt
    omega
  · blk_simp [i6]; dsimp only; omega
  · blk_simp [i6]

theorem arr7 (c : Dev nD) (G : S1x4096.Idx → EReal) (h : ∀ l : Fin 4096, G (ix2 0 l) = ∑ r : Fin 4096, wtAt (A m c) (B m c) (T m c) (W m c) l r) :
    (dats m 0 c).arrAt 7 cfg0.N = G := by
  refine (dats m 0 c).arrAt_eq_of_covers 7 _ (by decide +kernel) fun t hf y => ?_
  have ht : t.val = 31 := by
    have hN : t.val < 32 := lt_of_lt_of_eq t.isLt (show cfg0.N = 32 from N_0)
    have := (flush0_7 t).mp hf
    omega
  blk_simp
  rw [after0_7]
  conv_lhs => rw [← ix2_eta y]
  have y0 : y 0 = (0 : Fin 1) := Subsingleton.elim (α := Fin 1) _ _
  rw [y0]
  refine (out7 m c t.val t.isLt (y 1)).trans (Eq.trans ?_ ((h (y 1)).symm.trans (congrArg G (ix2_of _ _ _ ?_ ?_))))
  · rw [ht]
    exact sum_tiles 128 32 fun r => wtAt (A m c) (B m c) (T m c) (W m c) (y 1 : Fin 4096) r
  · blk_simp [i7]; rfl
  · blk_simp [i7]

theorem arr4 (c : Dev nD) (G : S1x128.Idx → EReal) (h : ∀ l : Fin 128, G (ix2 0 l) = half * ∑ r : Fin 4096, lossAt (A m c) (B m c) (T m c) (W m c) r) :
    (dats m 0 c).arrAt 4 cfg0.N = G := by
  refine (dats m 0 c).arrAt_eq_of_covers 4 _ (by decide +kernel) fun t hf y => ?_
  have ht : t.val = 31 := by
    have hN : t.val < 32 := lt_of_lt_of_eq t.isLt (show cfg0.N = 32 from N_0)
    have := (flush0_4 t).mp hf
    omega
  blk_simp
  rw [after0_4]
  conv_lhs => rw [← ix2_eta y]
  have y0 : y 0 = (0 : Fin 1) := Subsingleton.elim (α := Fin 1) _ _
  rw [y0]
  refine (out4 m c t.val t.isLt (y 1)).trans (Eq.trans ?_ ((h (y 1)).symm.trans (congrArg G (ix2_of _ _ _ ?_ ?_))))
  · rw [ht]
    rw [← half_sum fun q => ∑ r : Fin 128, lossAt (A m c) (B m c) (T m c) (W m c) (128 * q + r)]
    exact congrArg (half * ·) (sum_tiles 128 32 fun r => lossAt (A m c) (B m c) (T m c) (W m c) r)
  · blk_simp [i4]; rfl
  · blk_simp [i4]

section
open Cert.Reference8Ideal.Read

/-- The reference's error at an entry. -/
theorem ref_err (a b tg : S4096x4096.Idx → EReal) (w : S1x4096.Idx → EReal) (r k : Fin 4096) :
    val_main_v16 (F := Ideal) a b tg w (ix2 r k) = errAt (at2 a) (at2 b) (at2 tg) (at2 w) r k := by
  unfold val_main_v16 val_main_v15 val_main_v14 val_main_v13 val_main_v12 val_main_v8 val_main_v7 val_main_v6 val_main_cst_1 val_main_v5 val_main_v4 val_main_cst_0 val_main_v3 val_main_v2 val_main_cst val_main_v1 val_main_v0
  pointwise
  unfold errAt err hid den
  simp only [at2_ix a, at2_ix b, at2_ix tg, at2_ix w]
  rfl

/-- The gradient in the normed and weighted row. -/
theorem ref_slope (a b tg : S4096x4096.Idx → EReal) (w : S1x4096.Idx → EReal) (r k : Fin 4096) :
    val_main_v30 (F := Ideal) a b tg w (ix2 r k) = slope (errAt (at2 a) (at2 b) (at2 tg) (at2 w) r k) := by
  unfold val_main_v30 val_main_v29 val_main_v28 val_main_v27 val_main_cst_10 val_main_v26 val_main_v25 val_main_cst_9 val_main_cst_8 val_main_v19 val_main_v18 val_main_cst_3
  pointwise
  rw [ref_err]
  rfl

/-- The reference's loss, at each of its 128 places. -/
theorem ref_loss (a b tg : S4096x4096.Idx → EReal) (w : S1x4096.Idx → EReal) (l : Fin 128) :
    val_main_v50 (F := Ideal) a b tg w (ix2 0 l) = half * ∑ r : Fin 4096, lossAt (at2 a) (at2 b) (at2 tg) (at2 w) r := by
  unfold val_main_v50 val_main_v24 val_main_cst_7 val_main_v23 val_main_cst_6 val_main_v22 val_main_v21 val_main_cst_5 val_main_v20 val_main_cst_4 val_main_v17
  pointwise
  unfold lossAt
  simp only [ref_err]

/-- The reference's gradient in the hidden rows at an entry. -/
theorem ref_in (a b tg : S4096x4096.Idx → EReal) (w : S1x4096.Idx → EReal) (r l : Fin 4096) :
    val_main_v49 (F := Ideal) a b tg w (ix2 r l) = inAt (at2 a) (at2 b) (at2 tg) (at2 w) r l := by
  unfold val_main_v49 val_main_v48 val_main_v47 val_main_v46 val_main_v45 val_main_v44 val_main_cst_14 val_main_v43 val_main_v42 val_main_cst_13 val_main_v41 val_main_v40 val_main_v39 val_main_v38 val_main_v37 val_main_cst_12 val_main_v36 val_main_v35 val_main_v34 val_main_v11 val_main_v10 val_main_cst_2 val_main_v9 val_main_v8 val_main_v7 val_main_v6 val_main_cst_1 val_main_v5 val_main_v4 val_main_cst_0 val_main_v3 val_main_v2 val_main_cst val_main_v1 val_main_v0
  pointwise
  simp only [ref_slope]
  unfold inAt pull den hid
  simp only [at2_ix a, at2_ix b, at2_ix w]
  rfl

/-- The reference's gradient in the norm's weight at an entry. -/
theorem ref_wt (a b tg : S4096x4096.Idx → EReal) (w : S1x4096.Idx → EReal) (l : Fin 4096) :
    val_main_v33 (F := Ideal) a b tg w (ix2 0 l) = ∑ r : Fin 4096, wtAt (at2 a) (at2 b) (at2 tg) (at2 w) l r := by
  unfold val_main_v33 val_main_v32 val_main_cst_11 val_main_v31 val_main_v13 val_main_v12 val_main_v8 val_main_v7 val_main_v6 val_main_cst_1 val_main_v5 val_main_v4 val_main_cst_0 val_main_v3 val_main_v2 val_main_cst val_main_v1 val_main_v0
  pointwise
  simp only [ref_slope]
  unfold wtAt den hid
  simp only [at2_ix a, at2_ix b]

end

/-- The reference runs, keeps its arguments, and has no semaphore. -/
theorem ref_frame :
    Cert.quiescent_Reference8Ideal (hReference8Ideal := Cert.Reference8Ideal.Gen.facts) := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

/-- The call's four results are, on the ideal reals, the reference's. -/
theorem value : Cert.algebraic_Kernel8Ideal_Reference8Ideal (hKernel8Ideal := Cert.Kernel8Ideal.Gen.facts)
    (hReference8Ideal := Cert.Reference8Ideal.Gen.facts) := by
  intro m g m' g' _ hag
  refine ⟨_, _, _, _, ?_, (θ_run Cert.Reference8Ideal.defs _ _).mono (fun _ h c => h c) (Cert.Reference8Ideal.Value.run (F := Ideal) m' g')⟩
  refine (θ_run Cert.Kernel8Ideal.defs _ _).mono (fun _ h c => ?_) (Cert.Kernel8Ideal.Value.run_blocks m g)
  obtain ⟨a0, a1, a2, a3⟩ := hag c
  refine ⟨(h c).1.trans (arr4 m c _ fun l => ?_), (h c).2.1.trans (arr5 m c _ fun r l => ?_), (h c).2.2.1.trans (arr6 m c _ fun r l => ?_),
    (h c).2.2.2.1.trans (arr7 m c _ fun l => ?_), (h c).2.2.2.2⟩
  · refine (congrFun (Cert.Reference8Ideal.Read.val_main_v50_eq _ _ _ _) _).trans ((ref_loss _ _ _ _ l).trans ?_)
    rw [a0, a1, a2, a3]
  · refine (congrFun (Cert.Reference8Ideal.Read.val_main_v49_eq _ _) _).trans ((ref_in _ _ _ _ r l).trans ?_)
    rw [a0, a1, a2, a3]
  · refine (congrFun (Cert.Reference8Ideal.Read.val_main_v51_eq _ _) _).trans ((ref_in _ _ _ _ r l).trans ?_)
    rw [a0, a1, a2, a3]
  · refine (congrFun (Cert.Reference8Ideal.Read.val_main_v33_eq _ _ _ _) _).trans ((ref_wt _ _ _ _ l).trans ?_)
    rw [a0, a1, a2, a3]

end Cert.Proof.Final
-- ==== Proof.UpDx.lean ====
module

public import proofs.«01_k».proof.Defs
public import proofs.«01_k».proof.Proof.Entries
public import proofs.«01_k».proof.Proof.Gen.Kernel9Ideal.Value
public import proofs.«01_k».proof.Proof.Gen.Reference9Ideal.Run
public import proofs.«01_k».proof.Proof.Gen.Reference9Ideal.Read

/-!
The gradient of the channel mixer's normed input, `du · w_upᵀ`, summed over eight tiles of the hidden width in a scratch.
-/

@[expose] public section

noncomputable section

open Idealize.ShloMosaic Idealize.ShloMosaic.TcCoe Idealize.SL.Sem
open Idealize.ShloMosaic.Pipeline (Dat)

namespace Cert.Proof.UpDx

open Cert.Kernel9Ideal Cert.Kernel9Ideal.Gen Cert.Proof.Entries

variable (m : (ℓ : Loc nD τ sig) → Buf (Elt Ideal) ℓ)

abbrev A (c : Dev nD) : ℕ → ℕ → EReal := at2 (n := 4096) (k := 16384) (m ((c : Thread nD τ).loc main_arg0))
abbrev B (c : Dev nD) : ℕ → ℕ → EReal := at2 (n := 4096) (k := 16384) (m ((c : Thread nD τ).loc main_arg1))

theorem i0 : ∀ t : Fin cfg0.N, win0_0.index t = ![t.val / 32, t.val % 8] := (by decide +kernel : ∀ t : Fin grid0.N, _)
theorem i1 : ∀ t : Fin cfg0.N, win0_1.index t = ![t.val / 8 % 4, t.val % 8] := (by decide +kernel : ∀ t : Fin grid0.N, _)
theorem i2 : ∀ t : Fin cfg0.N, win0_2.index t = ![t.val / 32, t.val / 8 % 4] := (by decide +kernel : ∀ t : Fin grid0.N, _)

theorem V0 (c : Dev nD) : (V m c main_v0 : S4096x16384.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S4096x16384.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (r : Fin 1024) (k : Fin 2048) :
    (iblk m c 0 t : S1024x2048.Idx → EReal) (ix2 r k) = A m c (1024 * (t.val / 32) + r) (2048 * (t.val % 8) + k) := by
  blk_simp [iblk]
  refine (congrFun (V0 m c) _).trans (at2_of _ _ _ _ ?_ ?_)
  · blk_simp [i0]; omega
  · blk_simp [i0]; omega

theorem block1 (c : Dev nD) (t : Fin cfg0.N) (l : Fin 1024) (k : Fin 2048) :
    (iblk m c 1 t : S1024x2048.Idx → EReal) (ix2 l k) = B m c (1024 * (t.val / 8 % 4) + l) (2048 * (t.val % 8) + k) := by
  blk_simp [iblk]
  refine (congrFun (V1 m c) _).trans (at2_of _ _ _ _ ?_ ?_)
  · blk_simp [i1]; omega
  · blk_simp [i1]; omega

/-- The product of two tiles. -/
theorem pay1 (x y : Vec Ideal S1024x2048 .bf16) (r l : Fin 1024) :
    k0_pay1 x y (ix2 r l) = ∑ k : Fin 2048, x (ix2 r k) * y (ix2 l k) := by
  unfold k0_pay1
  simp only [shapeCast_self]
  pointwise

theorem pay2 (x y : Vec Ideal S1024x2048 .bf16) (r l : Fin 1024) :
    k0_pay2 x y (ix2 r l) = ∑ k : Fin 2048, x (ix2 r k) * y (ix2 l k) := by
  unfold k0_pay2
  simp only [shapeCast_self]
  exact pay1 x y r l

theorem pay3 (x y : Vec Ideal S1024x2048 .bf16) (a : Vec Ideal S1024x1024 .f32) (r l : Fin 1024) :
    k0_pay3 x y a (ix2 r l) = a (ix2 r l) + ∑ k : Fin 2048, x (ix2 r k) * y (ix2 l k) := by
  unfold k0_pay3
  simp only [shapeCast_self]
  exact congrArg (a (ix2 r l) + ·) (pay1 x y r l)

theorem pay4 (x y : Vec Ideal S1024x2048 .bf16) (a : Vec Ideal S1024x1024 .f32) (r l : Fin 1024) :
    k0_pay4 x y a (ix2 r l) = a (ix2 r l) + ∑ k : Fin 2048, x (ix2 r k) * y (ix2 l k) := by
  unfold k0_pay4
  exact congrArg (a (ix2 r l) + ·) (pay1 x y r l)

/-- One tile's part of the entry at row `r`, column `l`. -/
def part (c : Dev nD) (r l q : ℕ) : EReal := ∑ k : Fin 2048, A m c r (2048 * q + k) * B m c l (2048 * q + k)

abbrev left (c : Dev nD) (t : Fin cfg0.N) : Vec Ideal S1024x2048 .bf16 := iblk m c 0 t
abbrev right (c : Dev nD) (t : Fin cfg0.N) : Vec Ideal S1024x2048 .bf16 := iblk m c 1 t

theorem part_eq (c : Dev nD) (t : Fin cfg0.N) (r l : Fin 1024) :
    ∑ k : Fin 2048, left m c t (ix2 r k) * right m c t (ix2 l k)
      = part m c (1024 * (t.val / 32) + r) (1024 * (t.val / 8 % 4) + l) (t.val % 8) :=
  Finset.sum_congr rfl fun k _ => congrArg₂ (· * ·) (block0 m c t r k) (block1 m c t l k)

/-- The scratch holds the sum of the tiles up to the present one. -/
theorem scratch (c : Dev nD) : ∀ (n : ℕ) (hn : n < cfg0.N) (h7 : n % 8 ≠ 7) (r l : Fin 1024),
    (outsAt0 m c n hn).2 (ix2 r l)
      = ∑ q ∈ Finset.range (n % 8 + 1), part m c (1024 * (n / 32) + r) (1024 * (n / 8 % 4) + l) q := by
  have first (t : Fin cfg0.N) (h0 : t.val % 8 = 0) (r l : Fin 1024) : (outsAt0 m c t.val t.isLt).2 (ix2 r l)
      = ∑ q ∈ Finset.range (t.val % 8 + 1), part m c (1024 * (t.val / 32) + r) (1024 * (t.val / 8 % 4) + l) q := by
    rw [outsAt0_A m c t h0 (by omega) (by omega)]
    dsimp only
    unfold sout0_A_0
    refine (congrFun (View.read_writes_eq_canon _ _ _ (fun y => scover0_A_0 ..)) _).trans ?_
    unfold kernelRun0_A
    dsimp only
    sl_unfold_words
    simp only [View.canon_unit_zero (S := S1024x1024) zero2, View.readAt_eq_ld, (hs0_0 t).read_unread, (hs0_1 t).read_unread, View.ld_unit_zero (S := S1024x2048) zero2, View.ld_unit_zero (S := S1024x1024) zero2]
    refine (pay2 _ _ r l).trans ((part_eq m c t r l).trans ?_)
    rw [h0, Finset.sum_range_one]
  intro n
  induction n with
  | zero => intro hn _ r l; exact first ⟨0, hn⟩ rfl r l
  | succ n ih =>
    intro hn h7 r l
    by_cases h0 : (n + 1) % 8 = 0
    · exact first ⟨n + 1, hn⟩ h0 r l
    rw [outsAt0_B m c ⟨n + 1, hn⟩ h0 (by dsimp only; omega) h7]
    dsimp only
    unfold sout0_B_0
    refine (congrFun (View.read_writes_eq_canon _ _ _ (fun y => scover0_B_0 ..)) _).trans ?_
    unfold kernelRun0_B
    dsimp only
    sl_unfold_words
    simp only [View.canon_unit_zero (S := S1024x1024) zero2, View.readAt_eq_ld, (hs0_0 ⟨n + 1, hn⟩).read_unread, (hs0_1 ⟨n + 1, hn⟩).read_unread, View.ld_unit_zero (S := S1024x2048) zero2, View.ld_unit_zero (S := S1024x1024) zero2]
    refine (pay3 _ _ _ r l).trans ?_
    refine (congrArg (_ + ·) (part_eq m c ⟨n + 1, hn⟩ r l)).trans ?_
    dsimp only
    rw [Finset.sum_range_succ]
    refine congrArg (· + _) ((congrFun ((Memref.isWhole_whole cc0_scratch0).read_unread _) _).trans ((ih (by omega) (by omega) r l).trans ?_))
    rw [show (n + 1) % 8 = n % 8 + 1 by omega, show (n + 1) / 32 = n / 32 by omega, show (n + 1) / 8 = n / 8 by omega]

/-- What the last point of a tile's run leaves in its output block. -/
theorem out (c : Dev nD) (t : Fin cfg0.N) (h7 : t.val % 8 = 7) (r l : Fin 1024) :
    (outsAt0 m c t.val t.isLt).1 (ix2 r l)
      = ∑ k : Fin 16384, A m c (1024 * (t.val / 32) + r) k * B m c (1024 * (t.val / 8 % 4) + l) k := by
  rw [outsAt0_C m c t (by omega) (by omega) h7]
  dsimp only
  unfold out0_C_2
  refine (congrFun (View.read_writes_eq_canon _ _ _ (fun y => cover0_C_2 ..)) _).trans ?_
  unfold kernelRun0_C
  dsimp only
  sl_unfold_words
  simp only [View.canon_unit_zero (S := S1024x1024) zero2, View.readAt_eq_ld, (hs0_0 t).read_unread, (hs0_1 t).read_unread, View.ld_unit_zero (S := S1024x2048) zero2, View.ld_unit_zero (S := S1024x1024) zero2]
  refine (pay4 _ _ _ r l).trans ?_
  refine (congrArg (_ + ·) (part_eq m c t r l)).trans ?_
  rw [← sum_tiles 2048 8 fun k => A m c (1024 * (t.val / 32) + r) k * B m c (1024 * (t.val / 8 % 4) + l) k, h7]
  refine Eq.trans ?_ (Finset.sum_range_succ _ 7).symm
  refine congrArg (· + _) ((congrFun ((Memref.isWhole_whole cc0_scratch0).read_unread _) _).trans ((scratch m c _ _ (by omega) r l).trans ?_))
  rw [show (t.val - 1) % 8 + 1 = 7 by omega, show (t.val - 1) / 32 = t.val / 32 by omega, show (t.val - 1) / 8 = t.val / 8 by omega]
  rfl

/-- The array the call leaves. -/
theorem arr (c : Dev nD) (G : S4096x4096.Idx → EReal) (h : ∀ (r l : Fin 4096), G (ix2 r l) = ∑ k : Fin 16384, A m c r k * B m c l k) :
    (dats m 0 c).arrAt 2 cfg0.N = G := by
  refine (dats m 0 c).arrAt_eq_of_covers 2 _ (by decide +kernel) fun t hf y => ?_
  have h7 : t.val % 8 = 7 := (flush0_2 t).mp hf
  blk_simp
  rw [after0_2]
  refine (of_ix _ (fun r l => ∑ k : Fin 16384, A m c (1024 * (t.val / 32) + r) k * B m c (1024 * (t.val / 8 % 4) + l) k) (fun r l => out m c t h7 r l) y (y 0) (y 1) rfl rfl).trans
    (of_ix G (fun r l => ∑ k : Fin 16384, A m c r k * B m c l k) h _ _ _ ?_ ?_).symm
  · blk_simp [i2]; omega
  · blk_simp [i2]; omega

/-- The reference's result at an entry. -/
theorem ref_out (X Y : S4096x16384.Idx → EReal) (r l : Fin 4096) :
    Cert.Reference9Ideal.Read.val_main_v2 (F := Ideal) X Y (ix2 r l) = ∑ k : Fin 16384, at2 X r k * at2 Y l k := by
  unfold Cert.Reference9Ideal.Read.val_main_v2
  pointwise
  refine Finset.sum_congr rfl fun k _ => ?_
  rw [at2_ix X, at2_ix Y]

/-- The reference runs, keeps its arguments, and has no semaphore. -/
theorem ref_frame :
    Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The call's result is, on the ideal reals, the reference's. -/
theorem value : Cert.algebraic_Kernel9Ideal_Reference9Ideal (hKernel9Ideal := Cert.Kernel9Ideal.Gen.facts)
    (hReference9Ideal := Cert.Reference9Ideal.Gen.facts) := by
  intro m g m' g' _ hag
  refine ⟨fun c => Cert.Reference9Ideal.Read.val_main_v2 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)), ?_, ?_⟩
  · refine (θ_run Cert.Kernel9Ideal.defs _ _).mono (fun _ h c => ?_) (Cert.Kernel9Ideal.Value.run_blocks m g)
    obtain ⟨a0, a1⟩ := hag c
    refine ⟨(h c).1.trans (arr m c _ fun r l => ?_), (h c).2⟩
    refine (ref_out _ _ r l).trans ?_
    rw [a0, a1]
  · refine (θ_run Cert.Reference9Ideal.defs _ _).mono (fun _ h c => ?_) (Cert.Reference9Ideal.Value.run (F := Ideal) m' g')
    exact ⟨(h c).1.trans (Cert.Reference9Ideal.Read.val_main_v2_eq _ _), (h c).2⟩

end Cert.Proof.UpDx
-- ==== Proof.Adam.lean ====
module

public import proofs.«01_k».proof.Proof.Entries

/-!
One AdamW step of one entry, in the words both programs print, and the entries of an array of three axes.
-/

@[expose] public section

noncomputable section

open Idealize.ShloMosaic Idealize.ShloMosaic.TcCoe Idealize.SL.Sem

namespace Cert.Proof.Adam

/-- An entry of an array of three axes at natural coordinates, zero outside of it. -/
def at3 {p n k : ℕ} (x : (⟨3, ![p, n, k]⟩ : Shape).Idx → EReal) (s r c : ℕ) : EReal :=
  if h : s < p ∧ r < n ∧ c < k then x (ix3 ⟨s, h.1⟩ ⟨r, h.2.1⟩ ⟨c, h.2.2⟩) else 0

theorem at3_ix {p n k : ℕ} (x : (⟨3, ![p, n, k]⟩ : Shape).Idx → EReal) (s : Fin p) (r : Fin n) (c : Fin k) : x (ix3 s r c) = at3 x s r c := by
  unfold at3
  rw [dif_pos ⟨s.isLt, r.isLt, c.isLt⟩]

theorem at3_of {p n k : ℕ} (x : (⟨3, ![p, n, k]⟩ : Shape).Idx → EReal) (j : (⟨3, ![p, n, k]⟩ : Shape).Idx) (s r c : ℕ)
    (hs : (j 0 : ℕ) = s) (hr : (j 1 : ℕ) = r) (hc : (j 2 : ℕ) = c) : x j = at3 x s r c := by
  subst hs hr hc
  conv_lhs => rw [eq_ix3 j]
  exact at3_ix x (j 0) (j 1) (j 2)

/-- The first moment after the step. -/
def first (m g : EReal) : EReal := Ideal.ofBits .f32 0x3F666666#32 * m + Ideal.ofBits .f32 0x3DCCCCCD#32 * g

/-- The second moment after the step. -/
def second (v g : EReal) : EReal := Ideal.ofBits .f32 0x3F7FBE77#32 * v + Ideal.ofBits .f32 0x3A83126F#32 * (g * g)

/-- The change of the weight. -/
def delta (w g m v : EReal) : EReal :=
  Ideal.ofBits .f32 0xBA83126F#32
    * (Ideal.div (Ideal.div (first m g) (Ideal.ofBits .f32 0x3F26BD02#32))
        (Ideal.sqrt (Ideal.div (second v g) (Ideal.ofBits .f32 0x3C231ACC#32)) + Ideal.ofBits .f32 0x322BCC77#32)
      + Ideal.ofBits .f32 0x3C23D70A#32 * w)

end Cert.Proof.Adam
-- ==== Proof.AdamPacked.lean ====
module

public import proofs.«01_k».proof.Defs
public import proofs.«01_k».proof.Proof.Adam
public import proofs.«01_k».proof.Proof.Gen.Kernel10Ideal.Value
public import proofs.«01_k».proof.Proof.Gen.Reference10Ideal.Run
public import proofs.«01_k».proof.Proof.Gen.Reference10Ideal.Read

/-!
The step of the small weights, packed into one array: both sides apply the same formula entry by entry.
-/

@[expose] public section

noncomputable section

open Idealize.ShloMosaic Idealize.ShloMosaic.TcCoe Idealize.SL.Sem

namespace Cert.Proof.AdamPacked

open Cert.Kernel10Ideal Cert.Proof.Adam Cert.Reference10Ideal.Read

/-- The reference runs, keeps its arguments, and has no semaphore. -/
theorem ref_frame :
    Cert.quiescent_Reference10Ideal (hReference10Ideal := Cert.Reference10Ideal.Gen.facts) := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

section
variable (w p q g : S328x128.Idx → EReal)

/-- The kernel hands the gradient through. -/
theorem k_grad : Cert.Kernel10Ideal.Value.G4 (F := Ideal) w p q g = g := rfl
/-- The change of the weights, by kernel and by reference. -/
theorem k_delta : Cert.Kernel10Ideal.Value.G5 (F := Ideal) w p q g = fun i => delta (w i) (g i) (p i) (q i) := rfl
theorem r_delta : val_main_v23 (F := Ideal) w p q g = fun i => delta (w i) (g i) (p i) (q i) := rfl
/-- The first moment, by kernel and by reference. -/
theorem k_first : Cert.Kernel10Ideal.Value.G6 (F := Ideal) w p q g = fun i => first (p i) (g i) := rfl
theorem r_first : val_main_v4 (F := Ideal) p g = fun i => first (p i) (g i) := rfl
/-- The second moment, by kernel and by reference. -/
theorem k_second : Cert.Kernel10Ideal.Value.G7 (F := Ideal) w p q g = fun i => second (q i) (g i) := rfl
theorem r_second : val_main_v10 (F := Ideal) q g = fun i => second (q i) (g i) := rfl
end

/-- The call's four results are, on the ideal reals, the reference's. -/
theorem value : Cert.algebraic_Kernel10Ideal_Reference10Ideal (hKernel10Ideal := Cert.Kernel10Ideal.Gen.facts)
    (hReference10Ideal := Cert.Reference10Ideal.Gen.facts) := by
  intro m g m' g' _ hag
  refine ⟨_, _, _, _, Cert.Kernel10Ideal.Value.run m g, (θ_run Cert.Reference10Ideal.defs _ _).mono (fun r h c => ?_) (Cert.Reference10Ideal.Value.run (F := Ideal) m' g')⟩
  obtain ⟨a0, a1, a2, a3⟩ := hag c
  obtain ⟨h0, h1, h2, h3, kept⟩ := h c
  have e1 := (h1.trans (val_main_v23_eq _ _ _ _)).trans (r_delta _ _ _ _)
  have e2 := (h2.trans (val_main_v4_eq _ _)).trans (r_first _ _)
  have e3 := (h3.trans (val_main_v10_eq _ _)).trans (r_second _ _)
  rw [a0, a1, a2, a3] at e1
  rw [a1, a3] at e2
  rw [a2, a3] at e3
  exact ⟨(h0.trans a3).trans (k_grad _ _ _ _).symm, e1.trans (k_delta _ _ _ _).symm, e2.trans (k_first _ _ _ _).symm, e3.trans (k_second _ _ _ _).symm, kept⟩

end Cert.Proof.AdamPacked
-- ==== Proof.AdamIn.lean ====
module

public import proofs.«01_k».proof.Defs
public import proofs.«01_k».proof.Proof.Adam
public import proofs.«01_k».proof.Proof.Gen.Kernel11Ideal.Value
public import proofs.«01_k».proof.Proof.Gen.Reference11Ideal.Run
public import proofs.«01_k».proof.Proof.Gen.Reference11Ideal.Read

/-!
The step of the input projection's weight rows: the gradient summed over the devices, the weight's change, both moments.
-/

@[expose] public section

noncomputable section

open Idealize.ShloMosaic Idealize.ShloMosaic.TcCoe Idealize.SL.Sem
open Idealize.ShloMosaic.Pipeline (Dat)

namespace Cert.Proof.AdamIn

open Cert.Kernel11Ideal Cert.Kernel11Ideal.Gen Cert.Proof.Entries Cert.Proof.Adam

variable (m : (ℓ : Loc nD τ sig) → Buf (Elt Ideal) ℓ)

abbrev W (c : Dev nD) : ℕ → ℕ → EReal := at2 (n := 4096) (k := 2616) (m ((c : Thread nD τ).loc main_arg0))
abbrev M (c : Dev nD) : ℕ → ℕ → EReal := at2 (n := 4096) (k := 2616) (m ((c : Thread nD τ).loc main_arg1))
abbrev S (c : Dev nD) : ℕ → ℕ → EReal := at2 (n := 4096) (k := 2616) (m ((c : Thread nD τ).loc main_arg2))
/-- The gradient: this device's share and what three others sent. -/
abbrev G (c : Dev nD) (r l : ℕ) : EReal :=
  at2 (n := 4096) (k := 2616) (m ((c : Thread nD τ).loc main_arg3)) r l + ∑ s : Fin 3, at3 (p := 3) (n := 4096) (k := 2616) (m ((c : Thread nD τ).loc main_arg4)) s r l

theorem idx : ∀ t : Fin cfg0.N, win0_0.index t = ![t.val, 0] ∧ win0_1.index t = ![t.val, 0] ∧ win0_2.index t = ![t.val, 0] ∧ win0_3.index t = ![t.val, 0]
    ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem block0 (c : Dev nD) (t : Fin cfg0.N) (r : Fin 128) (l : Fin 2616) : (iblk m c 0 t : S128x2616.Idx → EReal) (ix2 r l) = W m c (128 * t.val + r) l := by
  blk_simp [iblk]
  exact at2_of _ _ _ _ (by blk_simp [(idx t).1]; omega) (by blk_simp [(idx t).1])

theorem block1 (c : Dev nD) (t : Fin cfg0.N) (r : Fin 128) (l : Fin 2616) : (iblk m c 1 t : S128x2616.Idx → EReal) (ix2 r l) = M m c (128 * t.val + r) l := by
  blk_simp [iblk]
  exact at2_of _ _ _ _ (by blk_simp [(idx t).2.1]; omega) (by blk_simp [(idx t).2.1])

theorem block2 (c : Dev nD) (t : Fin cfg0.N) (r : Fin 128) (l : Fin 2616) : (iblk m c 2 t : S128x2616.Idx → EReal) (ix2 r l) = S m c (128 * t.val + r) l := by
  blk_simp [iblk]
  exact at2_of _ _ _ _ (by blk_simp [(idx t).2.2.1]; omega) (by blk_simp [(idx t).2.2.1])

abbrev own (c : Dev nD) (t : Fin cfg0.N) : Vec Ideal S128x2616 .bf16 := iblk m c 3 t
abbrev sent (c : Dev nD) (t : Fin cfg0.N) : Vec Ideal S3x128x2616 .bf16 := iblk m c 4 t

/-- The gradient a grid point sums up for its rows. -/
theorem block34 (c : Dev nD) (t : Fin cfg0.N) (r : Fin 128) (l : Fin 2616) :
    own m c t (ix2 r l) + ∑ s : Fin 3, sent m c t (ix3 s r l) = G m c (128 * t.val + r) l := by
  refine congrArg₂ (· + ·) ?_ (Finset.sum_congr rfl fun s _ => ?_)
  · blk_simp [iblk]
    exact at2_of _ _ _ _ (by blk_simp [(idx t).2.2.2.1]; omega) (by blk_simp [(idx t).2.2.2.1])
  · blk_simp [iblk]
    exact at3_of _ _ _ _ _ (by blk_simp [(idx t).2.2.2.2.1]) (by blk_simp [(idx t).2.2.2.2.1]; omega) (by blk_simp [(idx t).2.2.2.2.1])

section
variable (x0 x1 x2 : Vec Ideal S128x2616 .f32) (x3 : Vec Ideal S128x2616 .bf16) (x4 : Vec Ideal S3x128x2616 .bf16) (r : Fin 128) (l : Fin 2616)

theorem out5 : out0_5 x0 x1 x2 x3 x4 (ix2 r l) = x3 (ix2 r l) + ∑ s : Fin 3, x4 (ix3 s r l) := by
  unfold out0_5
  simp only [View.canon_unit_zero (S := S128x2616) zero2, View.ld_unit_zero (S := S128x2616) zero2]
  unfold k0_pay2
  pointwise
  simp only [Fin.sum_univ_three, add_assoc]

theorem out6 : out0_6 x0 x1 x2 x3 x4 (ix2 r l) = delta (x0 (ix2 r l)) (out0_5 x0 x1 x2 x3 x4 (ix2 r l)) (x1 (ix2 r l)) (x2 (ix2 r l)) := by
  unfold out0_6 out0_5
  simp only [View.canon_unit_zero (S := S128x2616) zero2, View.ld_unit_zero (S := S128x2616) zero2]
  rfl

theorem out7 : out0_7 x0 x1 x2 x3 x4 (ix2 r l) = first (x1 (ix2 r l)) (out0_5 x0 x1 x2 x3 x4 (ix2 r l)) := by
  unfold out0_7 out0_5
  simp only [View.canon_unit_zero (S := S128x2616) zero2, View.ld_unit_zero (S := S128x2616) zero2]
  rfl

theorem out8 : out0_8 x0 x1 x2 x3 x4 (ix2 r l) = second (x2 (ix2 r l)) (out0_5 x0 x1 x2 x3 x4 (ix2 r l)) := by
  unfold out0_8 out0_5
  simp only [View.canon_unit_zero (S := S128x2616) zero2, View.ld_unit_zero (S := S128x2616) zero2]
  rfl
end

/-- The four arrays the call leaves: gradient, change, first and second moment. -/
theorem arrs (c : Dev nD) (g d p q : S4096x2616.Idx → EReal) (hg : ∀ (r : Fin 4096) (l : Fin 2616), g (ix2 r l) = G m c r l)
    (hd : ∀ (r : Fin 4096) (l : Fin 2616), d (ix2 r l) = delta (W m c r l) (G m c r l) (M m c r l) (S m c r l))
    (hp : ∀ (r : Fin 4096) (l : Fin 2616), p (ix2 r l) = first (M m c r l) (G m c r l))
    (hq : ∀ (r : Fin 4096) (l : Fin 2616), q (ix2 r l) = second (S m c r l) (G m c r l)) :
    (dats m 0 c).arrAt 5 cfg0.N = g ∧ (dats m 0 c).arrAt 6 cfg0.N = d ∧ (dats m 0 c).arrAt 7 cfg0.N = p ∧ (dats m 0 c).arrAt 8 cfg0.N = q := by
  refine ⟨?_, ?_, ?_, ?_⟩
  · refine (dats m 0 c).arrAt_eq_of_covers 5 _ (by decide +kernel) fun t hf y => ?_
    blk_simp
    rw [after0_5]
    refine (of_ix _ (fun r l => G m c (128 * t.val + r) l) (fun r l => ?_) y (y 0) (y 1) rfl rfl).trans (of_ix g _ hg _ _ _ ?_ ?_).symm
    · rw [out5]
      exact block34 m c t r l
    · blk_simp [(idx t).2.2.2.2.2.1]; omega
    · blk_simp [(idx t).2.2.2.2.2.1]
  · refine (dats m 0 c).arrAt_eq_of_covers 6 _ (by decide +kernel) fun t hf y => ?_
    blk_simp
    rw [after0_6]
    refine (of_ix _ (fun r l => delta (W m c (128 * t.val + r) l) (G m c (128 * t.val + r) l) (M m c (128 * t.val + r) l) (S m c (128 * t.val + r) l)) (fun r l => ?_) y (y 0) (y 1) rfl rfl).trans
      (of_ix d (fun r l => delta (W m c r l) (G m c r l) (M m c r l) (S m c r l)) hd _ _ _ ?_ ?_).symm
    · rw [out6, out5]
      exact congr (congr (congr (congrArg delta (block0 m c t r l)) (block34 m c t r l)) (block1 m c t r l)) (block2 m c t r l)
    · blk_simp [(idx t).2.2.2.2.2.2.1]; omega
    · blk_simp [(idx t).2.2.2.2.2.2.1]
  · refine (dats m 0 c).arrAt_eq_of_covers 7 _ (by decide +kernel) fun t hf y => ?_
    blk_simp
    rw [after0_7]
    refine (of_ix _ (fun r l => first (M m c (128 * t.val + r) l) (G m c (128 * t.val + r) l)) (fun r l => ?_) y (y 0) (y 1) rfl rfl).trans
      (of_ix p (fun r l => first (M m c r l) (G m c r l)) hp _ _ _ ?_ ?_).symm
    · rw [out7, out5]
      exact congr (congrArg first (block1 m c t r l)) (block34 m c t r l)
    · blk_simp [(idx t).2.2.2.2.2.2.2.1]; omega
    · blk_simp [(idx t).2.2.2.2.2.2.2.1]
  · refine (dats m 0 c).arrAt_eq_of_covers 8 _ (by decide +kernel) fun t hf y => ?_
    blk_simp
    rw [after0_8]
    refine (of_ix _ (fun r l => second (S m c (128 * t.val + r) l) (G m c (128 * t.val + r) l)) (fun r l => ?_) y (y 0) (y 1) rfl rfl).trans
      (of_ix q (fun r l => second (S m c r l) (G m c r l)) hq _ _ _ ?_ ?_).symm
    · rw [out8, out5]
      exact congr (congrArg second (block2 m c t r l)) (block34 m c t r l)
    · blk_simp [(idx t).2.2.2.2.2.2.2.2]; omega
    · blk_simp [(idx t).2.2.2.2.2.2.2.2]

open Cert.Reference11Ideal.Read

/-- The reference's gradient at an entry. -/
theorem ref_grad (X : S4096x2616.Idx → EReal) (Y : S3x4096x2616.Idx → EReal) (r : Fin 4096) (l : Fin 2616) :
    val_main_v3 (F := Ideal) X Y (ix2 r l) = at2 X r l + ∑ s : Fin 3, at3 Y s r l := by
  unfold val_main_v3 val_main_v2 val_main_v1 val_main_v0 val_main_cst
  pointwise
  simp only [at2_ix X, at3_ix Y]

section
variable (w p q x : S4096x2616.Idx → EReal) (y : S3x4096x2616.Idx → EReal) (i : S4096x2616.Idx)

theorem ref_delta : val_main_v27 (F := Ideal) w p q x y i = delta (w i) (val_main_v3 (F := Ideal) x y i) (p i) (q i) := rfl
theorem ref_first : val_main_v8 (F := Ideal) p x y i = first (p i) (val_main_v3 (F := Ideal) x y i) := rfl
theorem ref_second : val_main_v14 (F := Ideal) q x y i = second (q i) (val_main_v3 (F := Ideal) x y i) := rfl
end

/-- Kernel and reference leave the same four arrays. -/
theorem same (c : Dev nD) (w p q x : S4096x2616.Idx → EReal) (y : S3x4096x2616.Idx → EReal)
    (hw : w = m ((c : Thread nD τ).loc main_arg0)) (hp : p = m ((c : Thread nD τ).loc main_arg1)) (hq : q = m ((c : Thread nD τ).loc main_arg2))
    (hx : x = m ((c : Thread nD τ).loc main_arg3)) (hy : y = m ((c : Thread nD τ).loc main_arg4)) :
    (dats m 0 c).arrAt 5 cfg0.N = val_main_v3 (F := Ideal) x y ∧ (dats m 0 c).arrAt 6 cfg0.N = val_main_v27 (F := Ideal) w p q x y
      ∧ (dats m 0 c).arrAt 7 cfg0.N = val_main_v8 (F := Ideal) p x y ∧ (dats m 0 c).arrAt 8 cfg0.N = val_main_v14 (F := Ideal) q x y := by
  subst hw hp hq hx hy
  refine arrs m c _ _ _ _ (fun r l => ref_grad _ _ r l) (fun r l => ?_) (fun r l => ?_) (fun r l => ?_)
  · rw [ref_delta, ref_grad]
    exact congr (congr (congr (congrArg delta (at2_ix _ r l)) rfl) (at2_ix _ r l)) (at2_ix _ r l)
  · rw [ref_first, ref_grad]
    exact congr (congrArg first (at2_ix _ r l)) rfl
  · rw [ref_second, ref_grad]
    exact congr (congrArg second (at2_ix _ r l)) rfl

/-- The reference runs, keeps its arguments, and has no semaphore. -/
theorem ref_frame :
    Cert.quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- The call's four results are, on the ideal reals, the reference's. -/
theorem value : Cert.algebraic_Kernel11Ideal_Reference11Ideal (hKernel11Ideal := Cert.Kernel11Ideal.Gen.facts)
    (hReference11Ideal := Cert.Reference11Ideal.Gen.facts) := by
  intro m g m' g' _ hag
  refine ⟨_, _, _, _, Cert.Kernel11Ideal.Value.run_blocks m g, (θ_run Cert.Reference11Ideal.defs _ _).mono (fun r h c => ?_) (Cert.Reference11Ideal.Value.run (F := Ideal) m' g')⟩
  obtain ⟨a0, a1, a2, a3, a4⟩ := hag c
  obtain ⟨h0, h1, h2, h3, kept⟩ := h c
  obtain ⟨e0, e1, e2, e3⟩ := same m c _ _ _ _ _ a0 a1 a2 a3 a4
  exact ⟨(h0.trans (val_main_v3_eq _ _)).trans e0.symm, (h1.trans (val_main_v27_eq _ _ _ _ _)).trans e1.symm,
    (h2.trans (val_main_v8_eq _ _ _)).trans e2.symm, (h3.trans (val_main_v14_eq _ _ _)).trans e3.symm, kept⟩

end Cert.Proof.AdamIn
-- ==== Proof.AdamOutHalf.lean ====
module

public import proofs.«01_k».proof.Defs
public import proofs.«01_k».proof.Proof.Adam
public import proofs.«01_k».proof.Proof.Gen.Kernel12Ideal.Value
public import proofs.«01_k».proof.Proof.Gen.Reference12Ideal.Run
public import proofs.«01_k».proof.Proof.Gen.Reference12Ideal.Read

/-!
The step of a branch's output projection: the gradient summed over the devices, the weight's change, both moments.
-/

@[expose] public section

noncomputable section

open Idealize.ShloMosaic Idealize.ShloMosaic.TcCoe Idealize.SL.Sem
open Idealize.ShloMosaic.Pipeline (Dat)

namespace Cert.Proof.AdamOutHalf

open Cert.Kernel12Ideal Cert.Kernel12Ideal.Gen Cert.Proof.Entries Cert.Proof.Adam

variable (m : (ℓ : Loc nD τ sig) → Buf (Elt Ideal) ℓ)

abbrev W (c : Dev nD) : ℕ → ℕ → EReal := at2 (n := 2048) (k := 512) (m ((c : Thread nD τ).loc main_arg0))
abbrev M (c : Dev nD) : ℕ → ℕ → EReal := at2 (n := 2048) (k := 512) (m ((c : Thread nD τ).loc main_arg1))
abbrev S (c : Dev nD) : ℕ → ℕ → EReal := at2 (n := 2048) (k := 512) (m ((c : Thread nD τ).loc main_arg2))
/-- The gradient: this device's share and what the seven others sent. -/
abbrev G (c : Dev nD) (r l : ℕ) : EReal :=
  at2 (n := 2048) (k := 512) (m ((c : Thread nD τ).loc main_arg3)) r l + ∑ s : Fin 7, at3 (p := 7) (n := 2048) (k := 512) (m ((c : Thread nD τ).loc main_arg4)) s r l

theorem idx : ∀ t : Fin cfg0.N, win0_0.index t = ![t.val, 0] ∧ win0_1.index t = ![t.val, 0] ∧ win0_2.index t = ![t.val, 0] ∧ win0_3.index t = ![t.val, 0]
    ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem block0 (c : Dev nD) (t : Fin cfg0.N) (r : Fin 512) (l : Fin 512) : (iblk m c 0 t : S512x512.Idx → EReal) (ix2 r l) = W m c (512 * t.val + r) l := by
  blk_simp [iblk]
  exact at2_of _ _ _ _ (by blk_simp [(idx t).1]; omega) (by blk_simp [(idx t).1])

theorem block1 (c : Dev nD) (t : Fin cfg0.N) (r : Fin 512) (l : Fin 512) : (iblk m c 1 t : S512x512.Idx → EReal) (ix2 r l) = M m c (512 * t.val + r) l := by
  blk_simp [iblk]
  exact at2_of _ _ _ _ (by blk_simp [(idx t).2.1]; omega) (by blk_simp [(idx t).2.1])

theorem block2 (c : Dev nD) (t : Fin cfg0.N) (r : Fin 512) (l : Fin 512) : (iblk m c 2 t : S512x512.Idx → EReal) (ix2 r l) = S m c (512 * t.val + r) l := by
  blk_simp [iblk]
  exact at2_of _ _ _ _ (by blk_simp [(idx t).2.2.1]; omega) (by blk_simp [(idx t).2.2.1])

abbrev own (c : Dev nD) (t : Fin cfg0.N) : Vec Ideal S512x512 .bf16 := iblk m c 3 t
abbrev sent (c : Dev nD) (t : Fin cfg0.N) : Vec Ideal S7x512x512 .bf16 := iblk m c 4 t

/-- The gradient a grid point sums up for its rows. -/
theorem block34 (c : Dev nD) (t : Fin cfg0.N) (r : Fin 512) (l : Fin 512) :
    own m c t (ix2 r l) + ∑ s : Fin 7, sent m c t (ix3 s r l) = G m c (512 * t.val + r) l := by
  refine congrArg₂ (· + ·) ?_ (Finset.sum_congr rfl fun s _ => ?_)
  · blk_simp [iblk]
    exact at2_of _ _ _ _ (by blk_simp [(idx t).2.2.2.1]; omega) (by blk_simp [(idx t).2.2.2.1])
  · blk_simp [iblk]
    exact at3_of _ _ _ _ _ (by blk_simp [(idx t).2.2.2.2.1]) (by blk_simp [(idx t).2.2.2.2.1]; omega) (by blk_simp [(idx t).2.2.2.2.1])

section
variable (x0 x1 x2 : Vec Ideal S512x512 .f32) (x3 : Vec Ideal S512x512 .bf16) (x4 : Vec Ideal S7x512x512 .bf16) (r : Fin 512) (l : Fin 512)

theorem out5 : out0_5 x0 x1 x2 x3 x4 (ix2 r l) = x3 (ix2 r l) + ∑ s : Fin 7, x4 (ix3 s r l) := by
  unfold out0_5 k0_pay6
  simp only [View.canon_unit_zero (S := S512x512) zero2, View.ld_unit_zero (S := S512x512) zero2]
  unfold k0_pay4
  pointwise
  simp only [Fin.sum_univ_seven, add_assoc]

theorem out6 : out0_6 x0 x1 x2 x3 x4 (ix2 r l) = delta (x0 (ix2 r l)) (out0_5 x0 x1 x2 x3 x4 (ix2 r l)) (x1 (ix2 r l)) (x2 (ix2 r l)) := by
  unfold out0_6 out0_5 k0_pay7 k0_pay6
  simp only [View.canon_unit_zero (S := S512x512) zero2, View.ld_unit_zero (S := S512x512) zero2]
  rfl

theorem out7 : out0_7 x0 x1 x2 x3 x4 (ix2 r l) = first (x1 (ix2 r l)) (out0_5 x0 x1 x2 x3 x4 (ix2 r l)) := by
  unfold out0_7 out0_5 k0_pay7 k0_pay6
  simp only [View.canon_unit_zero (S := S512x512) zero2, View.ld_unit_zero (S := S512x512) zero2]
  rfl

theorem out8 : out0_8 x0 x1 x2 x3 x4 (ix2 r l) = second (x2 (ix2 r l)) (out0_5 x0 x1 x2 x3 x4 (ix2 r l)) := by
  unfold out0_8 out0_5 k0_pay6
  simp only [View.canon_unit_zero (S := S512x512) zero2, View.ld_unit_zero (S := S512x512) zero2]
  rfl
end

/-- The four arrays the call leaves: gradient, change, first and second moment. -/
theorem arrs (c : Dev nD) (g d p q : S2048x512.Idx → EReal) (hg : ∀ (r : Fin 2048) (l : Fin 512), g (ix2 r l) = G m c r l)
    (hd : ∀ (r : Fin 2048) (l : Fin 512), d (ix2 r l) = delta (W m c r l) (G m c r l) (M m c r l) (S m c r l))
    (hp : ∀ (r : Fin 2048) (l : Fin 512), p (ix2 r l) = first (M m c r l) (G m c r l))
    (hq : ∀ (r : Fin 2048) (l : Fin 512), q (ix2 r l) = second (S m c r l) (G m c r l)) :
    (dats m 0 c).arrAt 5 cfg0.N = g ∧ (dats m 0 c).arrAt 6 cfg0.N = d ∧ (dats m 0 c).arrAt 7 cfg0.N = p ∧ (dats m 0 c).arrAt 8 cfg0.N = q := by
  refine ⟨?_, ?_, ?_, ?_⟩
  · refine (dats m 0 c).arrAt_eq_of_covers 5 _ (by decide +kernel) fun t hf y => ?_
    blk_simp
    rw [after0_5]
    refine (of_ix _ (fun r l => G m c (512 * t.val + r) l) (fun r l => ?_) y (y 0) (y 1) rfl rfl).trans (of_ix g _ hg _ _ _ ?_ ?_).symm
    · rw [out5]
      exact block34 m c t r l
    · blk_simp [(idx t).2.2.2.2.2.1]; omega
    · blk_simp [(idx t).2.2.2.2.2.1]
  · refine (dats m 0 c).arrAt_eq_of_covers 6 _ (by decide +kernel) fun t hf y => ?_
    blk_simp
    rw [after0_6]
    refine (of_ix _ (fun r l => delta (W m c (512 * t.val + r) l) (G m c (512 * t.val + r) l) (M m c (512 * t.val + r) l) (S m c (512 * t.val + r) l)) (fun r l => ?_) y (y 0) (y 1) rfl rfl).trans
      (of_ix d (fun r l => delta (W m c r l) (G m c r l) (M m c r l) (S m c r l)) hd _ _ _ ?_ ?_).symm
    · rw [out6, out5]
      exact congr (congr (congr (congrArg delta (block0 m c t r l)) (block34 m c t r l)) (block1 m c t r l)) (block2 m c t r l)
    · blk_simp [(idx t).2.2.2.2.2.2.1]; omega
    · blk_simp [(idx t).2.2.2.2.2.2.1]
  · refine (dats m 0 c).arrAt_eq_of_covers 7 _ (by decide +kernel) fun t hf y => ?_
    blk_simp
    rw [after0_7]
    refine (of_ix _ (fun r l => first (M m c (512 * t.val + r) l) (G m c (512 * t.val + r) l)) (fun r l => ?_) y (y 0) (y 1) rfl rfl).trans
      (of_ix p (fun r l => first (M m c r l) (G m c r l)) hp _ _ _ ?_ ?_).symm
    · rw [out7, out5]
      exact congr (congrArg first (block1 m c t r l)) (block34 m c t r l)
    · blk_simp [(idx t).2.2.2.2.2.2.2.1]; omega
    · blk_simp [(idx t).2.2.2.2.2.2.2.1]
  · refine (dats m 0 c).arrAt_eq_of_covers 8 _ (by decide +kernel) fun t hf y => ?_
    blk_simp
    rw [after0_8]
    refine (of_ix _ (fun r l => second (S m c (512 * t.val + r) l) (G m c (512 * t.val + r) l)) (fun r l => ?_) y (y 0) (y 1) rfl rfl).trans
      (of_ix q (fun r l => second (S m c r l) (G m c r l)) hq _ _ _ ?_ ?_).symm
    · rw [out8, out5]
      exact congr (congrArg second (block2 m c t r l)) (block34 m c t r l)
    · blk_simp [(idx t).2.2.2.2.2.2.2.2]; omega
    · blk_simp [(idx t).2.2.2.2.2.2.2.2]

open Cert.Reference12Ideal.Read

/-- The reference's gradient at an entry. -/
theorem ref_grad (X : S2048x512.Idx → EReal) (Y : S7x2048x512.Idx → EReal) (r : Fin 2048) (l : Fin 512) :
    val_main_v3 (F := Ideal) X Y (ix2 r l) = at2 X r l + ∑ s : Fin 7, at3 Y s r l := by
  unfold val_main_v3 val_main_v2 val_main_v1 val_main_v0 val_main_cst
  pointwise
  simp only [at2_ix X, at3_ix Y]

section
variable (w p q x : S2048x512.Idx → EReal) (y : S7x2048x512.Idx → EReal) (i : S2048x512.Idx)

theorem ref_delta : val_main_v27 (F := Ideal) w p q x y i = delta (w i) (val_main_v3 (F := Ideal) x y i) (p i) (q i) := rfl
theorem ref_first : val_main_v8 (F := Ideal) p x y i = first (p i) (val_main_v3 (F := Ideal) x y i) := rfl
theorem ref_second : val_main_v14 (F := Ideal) q x y i = second (q i) (val_main_v3 (F := Ideal) x y i) := rfl
end

/-- Kernel and reference leave the same four arrays. -/
theorem same (c : Dev nD) (w p q x : S2048x512.Idx → EReal) (y : S7x2048x512.Idx → EReal)
    (hw : w = m ((c : Thread nD τ).loc main_arg0)) (hp : p = m ((c : Thread nD τ).loc main_arg1)) (hq : q = m ((c : Thread nD τ).loc main_arg2))
    (hx : x = m ((c : Thread nD τ).loc main_arg3)) (hy : y = m ((c : Thread nD τ).loc main_arg4)) :
    (dats m 0 c).arrAt 5 cfg0.N = val_main_v3 (F := Ideal) x y ∧ (dats m 0 c).arrAt 6 cfg0.N = val_main_v27 (F := Ideal) w p q x y
      ∧ (dats m 0 c).arrAt 7 cfg0.N = val_main_v8 (F := Ideal) p x y ∧ (dats m 0 c).arrAt 8 cfg0.N = val_main_v14 (F := Ideal) q x y := by
  subst hw hp hq hx hy
  refine arrs m c _ _ _ _ (fun r l => ref_grad _ _ r l) (fun r l => ?_) (fun r l => ?_) (fun r l => ?_)
  · rw [ref_delta, ref_grad]
    exact congr (congr (congr (congrArg delta (at2_ix _ r l)) rfl) (at2_ix _ r l)) (at2_ix _ r l)
  · rw [ref_first, ref_grad]
    exact congr (congrArg first (at2_ix _ r l)) rfl
  · rw [ref_second, ref_grad]
    exact congr (congrArg second (at2_ix _ r l)) rfl

/-- The reference runs, keeps its arguments, and has no semaphore. -/
theorem ref_frame :
    Cert.quiescent_Reference12Ideal (hReference12Ideal := Cert.Reference12Ideal.Gen.facts) := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-- The call's four results are, on the ideal reals, the reference's. -/
theorem value : Cert.algebraic_Kernel12Ideal_Reference12Ideal (hKernel12Ideal := Cert.Kernel12Ideal.Gen.facts)
    (hReference12Ideal := Cert.Reference12Ideal.Gen.facts) := by
  intro m g m' g' _ hag
  refine ⟨_, _, _, _, Cert.Kernel12Ideal.Value.run_blocks m g, (θ_run Cert.Reference12Ideal.defs _ _).mono (fun r h c => ?_) (Cert.Reference12Ideal.Value.run (F := Ideal) m' g')⟩
  obtain ⟨a0, a1, a2, a3, a4⟩ := hag c
  obtain ⟨h0, h1, h2, h3, kept⟩ := h c
  obtain ⟨e0, e1, e2, e3⟩ := same m c _ _ _ _ _ a0 a1 a2 a3 a4
  exact ⟨(h0.trans (val_main_v3_eq _ _)).trans e0.symm, (h1.trans (val_main_v27_eq _ _ _ _ _)).trans e1.symm,
    (h2.trans (val_main_v8_eq _ _ _)).trans e2.symm, (h3.trans (val_main_v14_eq _ _ _)).trans e3.symm, kept⟩

end Cert.Proof.AdamOutHalf
-- ==== Proof.AdamOut.lean ====
module

public import proofs.«01_k».proof.Defs
public import proofs.«01_k».proof.Proof.Adam
public import proofs.«01_k».proof.Proof.Gen.Kernel13Ideal.Value
public import proofs.«01_k».proof.Proof.Gen.Reference13Ideal.Run
public import proofs.«01_k».proof.Proof.Gen.Reference13Ideal.Read

/-!
The step of the merged output projection: the gradient summed over the devices, the weight's change, both moments.
-/

@[expose] public section

noncomputable section

open Idealize.ShloMosaic Idealize.ShloMosaic.TcCoe Idealize.SL.Sem
open Idealize.ShloMosaic.Pipeline (Dat)

namespace Cert.Proof.AdamOut

open Cert.Kernel13Ideal Cert.Kernel13Ideal.Gen Cert.Proof.Entries Cert.Proof.Adam

variable (m : (ℓ : Loc nD τ sig) → Buf (Elt Ideal) ℓ)

abbrev W (c : Dev nD) : ℕ → ℕ → EReal := at2 (n := 512) (k := 4096) (m ((c : Thread nD τ).loc main_arg0))
abbrev M (c : Dev nD) : ℕ → ℕ → EReal := at2 (n := 512) (k := 4096) (m ((c : Thread nD τ).loc main_arg1))
abbrev S (c : Dev nD) : ℕ → ℕ → EReal := at2 (n := 512) (k := 4096) (m ((c : Thread nD τ).loc main_arg2))
/-- The gradient: this device's share and what the seven others sent. -/
abbrev G (c : Dev nD) (r l : ℕ) : EReal :=
  at2 (n := 512) (k := 4096) (m ((c : Thread nD τ).loc main_arg3)) r l + ∑ s : Fin 7, at3 (p := 7) (n := 512) (k := 4096) (m ((c : Thread nD τ).loc main_arg4)) s r l

theorem idx : ∀ t : Fin cfg0.N, win0_0.index t = ![t.val, 0] ∧ win0_1.index t = ![t.val, 0] ∧ win0_2.index t = ![t.val, 0] ∧ win0_3.index t = ![t.val, 0]
    ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem block0 (c : Dev nD) (t : Fin cfg0.N) (r : Fin 64) (l : Fin 4096) : (iblk m c 0 t : S64x4096.Idx → EReal) (ix2 r l) = W m c (64 * t.val + r) l := by
  blk_simp [iblk]
  exact at2_of _ _ _ _ (by blk_simp [(idx t).1]; omega) (by blk_simp [(idx t).1])

theorem block1 (c : Dev nD) (t : Fin cfg0.N) (r : Fin 64) (l : Fin 4096) : (iblk m c 1 t : S64x4096.Idx → EReal) (ix2 r l) = M m c (64 * t.val + r) l := by
  blk_simp [iblk]
  exact at2_of _ _ _ _ (by blk_simp [(idx t).2.1]; omega) (by blk_simp [(idx t).2.1])

theorem block2 (c : Dev nD) (t : Fin cfg0.N) (r : Fin 64) (l : Fin 4096) : (iblk m c 2 t : S64x4096.Idx → EReal) (ix2 r l) = S m c (64 * t.val + r) l := by
  blk_simp [iblk]
  exact at2_of _ _ _ _ (by blk_simp [(idx t).2.2.1]; omega) (by blk_simp [(idx t).2.2.1])

abbrev own (c : Dev nD) (t : Fin cfg0.N) : Vec Ideal S64x4096 .bf16 := iblk m c 3 t
abbrev sent (c : Dev nD) (t : Fin cfg0.N) : Vec Ideal S7x64x4096 .bf16 := iblk m c 4 t

/-- The gradient a grid point sums up for its rows. -/
theorem block34 (c : Dev nD) (t : Fin cfg0.N) (r : Fin 64) (l : Fin 4096) :
    own m c t (ix2 r l) + ∑ s : Fin 7, sent m c t (ix3 s r l) = G m c (64 * t.val + r) l := by
  refine congrArg₂ (· + ·) ?_ (Finset.sum_congr rfl fun s _ => ?_)
  · blk_simp [iblk]
    exact at2_of _ _ _ _ (by blk_simp [(idx t).2.2.2.1]; omega) (by blk_simp [(idx t).2.2.2.1])
  · blk_simp [iblk]
    exact at3_of _ _ _ _ _ (by blk_simp [(idx t).2.2.2.2.1]) (by blk_simp [(idx t).2.2.2.2.1]; omega) (by blk_simp [(idx t).2.2.2.2.1])

section
variable (x0 x1 x2 : Vec Ideal S64x4096 .f32) (x3 : Vec Ideal S64x4096 .bf16) (x4 : Vec Ideal S7x64x4096 .bf16) (r : Fin 64) (l : Fin 4096)

theorem out5 : out0_5 x0 x1 x2 x3 x4 (ix2 r l) = x3 (ix2 r l) + ∑ s : Fin 7, x4 (ix3 s r l) := by
  unfold out0_5 k0_pay6
  simp only [View.canon_unit_zero (S := S64x4096) zero2, View.ld_unit_zero (S := S64x4096) zero2]
  unfold k0_pay4
  pointwise
  simp only [Fin.sum_univ_seven, add_assoc]

theorem out6 : out0_6 x0 x1 x2 x3 x4 (ix2 r l) = delta (x0 (ix2 r l)) (out0_5 x0 x1 x2 x3 x4 (ix2 r l)) (x1 (ix2 r l)) (x2 (ix2 r l)) := by
  unfold out0_6 out0_5 k0_pay7 k0_pay6
  simp only [View.canon_unit_zero (S := S64x4096) zero2, View.ld_unit_zero (S := S64x4096) zero2]
  rfl

theorem out7 : out0_7 x0 x1 x2 x3 x4 (ix2 r l) = first (x1 (ix2 r l)) (out0_5 x0 x1 x2 x3 x4 (ix2 r l)) := by
  unfold out0_7 out0_5 k0_pay7 k0_pay6
  simp only [View.canon_unit_zero (S := S64x4096) zero2, View.ld_unit_zero (S := S64x4096) zero2]
  rfl

theorem out8 : out0_8 x0 x1 x2 x3 x4 (ix2 r l) = second (x2 (ix2 r l)) (out0_5 x0 x1 x2 x3 x4 (ix2 r l)) := by
  unfold out0_8 out0_5 k0_pay6
  simp only [View.canon_unit_zero (S := S64x4096) zero2, View.ld_unit_zero (S := S64x4096) zero2]
  rfl
end

/-- The four arrays the call leaves: gradient, change, first and second moment. -/
theorem arrs (c : Dev nD) (g d p q : S512x4096.Idx → EReal) (hg : ∀ (r : Fin 512) (l : Fin 4096), g (ix2 r l) = G m c r l)
    (hd : ∀ (r : Fin 512) (l : Fin 4096), d (ix2 r l) = delta (W m c r l) (G m c r l) (M m c r l) (S m c r l))
    (hp : ∀ (r : Fin 512) (l : Fin 4096), p (ix2 r l) = first (M m c r l) (G m c r l))
    (hq : ∀ (r : Fin 512) (l : Fin 4096), q (ix2 r l) = second (S m c r l) (G m c r l)) :
    (dats m 0 c).arrAt 5 cfg0.N = g ∧ (dats m 0 c).arrAt 6 cfg0.N = d ∧ (dats m 0 c).arrAt 7 cfg0.N = p ∧ (dats m 0 c).arrAt 8 cfg0.N = q := by
  refine ⟨?_, ?_, ?_, ?_⟩
  · refine (dats m 0 c).arrAt_eq_of_covers 5 _ (by decide +kernel) fun t hf y => ?_
    blk_simp
    rw [after0_5]
    refine (of_ix _ (fun r l => G m c (64 * t.val + r) l) (fun r l => ?_) y (y 0) (y 1) rfl rfl).trans (of_ix g _ hg _ _ _ ?_ ?_).symm
    · rw [out5]
      exact block34 m c t r l
    · blk_simp [(idx t).2.2.2.2.2.1]; omega
    · blk_simp [(idx t).2.2.2.2.2.1]
  · refine (dats m 0 c).arrAt_eq_of_covers 6 _ (by decide +kernel) fun t hf y => ?_
    blk_simp
    rw [after0_6]
    refine (of_ix _ (fun r l => delta (W m c (64 * t.val + r) l) (G m c (64 * t.val + r) l) (M m c (64 * t.val + r) l) (S m c (64 * t.val + r) l)) (fun r l => ?_) y (y 0) (y 1) rfl rfl).trans
      (of_ix d (fun r l => delta (W m c r l) (G m c r l) (M m c r l) (S m c r l)) hd _ _ _ ?_ ?_).symm
    · rw [out6, out5]
      exact congr (congr (congr (congrArg delta (block0 m c t r l)) (block34 m c t r l)) (block1 m c t r l)) (block2 m c t r l)
    · blk_simp [(idx t).2.2.2.2.2.2.1]; omega
    · blk_simp [(idx t).2.2.2.2.2.2.1]
  · refine (dats m 0 c).arrAt_eq_of_covers 7 _ (by decide +kernel) fun t hf y => ?_
    blk_simp
    rw [after0_7]
    refine (of_ix _ (fun r l => first (M m c (64 * t.val + r) l) (G m c (64 * t.val + r) l)) (fun r l => ?_) y (y 0) (y 1) rfl rfl).trans
      (of_ix p (fun r l => first (M m c r l) (G m c r l)) hp _ _ _ ?_ ?_).symm
    · rw [out7, out5]
      exact congr (congrArg first (block1 m c t r l)) (block34 m c t r l)
    · blk_simp [(idx t).2.2.2.2.2.2.2.1]; omega
    · blk_simp [(idx t).2.2.2.2.2.2.2.1]
  · refine (dats m 0 c).arrAt_eq_of_covers 8 _ (by decide +kernel) fun t hf y => ?_
    blk_simp
    rw [after0_8]
    refine (of_ix _ (fun r l => second (S m c (64 * t.val + r) l) (G m c (64 * t.val + r) l)) (fun r l => ?_) y (y 0) (y 1) rfl rfl).trans
      (of_ix q (fun r l => second (S m c r l) (G m c r l)) hq _ _ _ ?_ ?_).symm
    · rw [out8, out5]
      exact congr (congrArg second (block2 m c t r l)) (block34 m c t r l)
    · blk_simp [(idx t).2.2.2.2.2.2.2.2]; omega
    · blk_simp [(idx t).2.2.2.2.2.2.2.2]

open Cert.Reference13Ideal.Read

/-- The reference's gradient at an entry. -/
theorem ref_grad (X : S512x4096.Idx → EReal) (Y : S7x512x4096.Idx → EReal) (r : Fin 512) (l : Fin 4096) :
    val_main_v3 (F := Ideal) X Y (ix2 r l) = at2 X r l + ∑ s : Fin 7, at3 Y s r l := by
  unfold val_main_v3 val_main_v2 val_main_v1 val_main_v0 val_main_cst
  pointwise
  simp only [at2_ix X, at3_ix Y]

section
variable (w p q x : S512x4096.Idx → EReal) (y : S7x512x4096.Idx → EReal) (i : S512x4096.Idx)

theorem ref_delta : val_main_v27 (F := Ideal) w p q x y i = delta (w i) (val_main_v3 (F := Ideal) x y i) (p i) (q i) := rfl
theorem ref_first : val_main_v8 (F := Ideal) p x y i = first (p i) (val_main_v3 (F := Ideal) x y i) := rfl
theorem ref_second : val_main_v14 (F := Ideal) q x y i = second (q i) (val_main_v3 (F := Ideal) x y i) := rfl
end

/-- Kernel and reference leave the same four arrays. -/
theorem same (c : Dev nD) (w p q x : S512x4096.Idx → EReal) (y : S7x512x4096.Idx → EReal)
    (hw : w = m ((c : Thread nD τ).loc main_arg0)) (hp : p = m ((c : Thread nD τ).loc main_arg1)) (hq : q = m ((c : Thread nD τ).loc main_arg2))
    (hx : x = m ((c : Thread nD τ).loc main_arg3)) (hy : y = m ((c : Thread nD τ).loc main_arg4)) :
    (dats m 0 c).arrAt 5 cfg0.N = val_main_v3 (F := Ideal) x y ∧ (dats m 0 c).arrAt 6 cfg0.N = val_main_v27 (F := Ideal) w p q x y
      ∧ (dats m 0 c).arrAt 7 cfg0.N = val_main_v8 (F := Ideal) p x y ∧ (dats m 0 c).arrAt 8 cfg0.N = val_main_v14 (F := Ideal) q x y := by
  subst hw hp hq hx hy
  refine arrs m c _ _ _ _ (fun r l => ref_grad _ _ r l) (fun r l => ?_) (fun r l => ?_) (fun r l => ?_)
  · rw [ref_delta, ref_grad]
    exact congr (congr (congr (congrArg delta (at2_ix _ r l)) rfl) (at2_ix _ r l)) (at2_ix _ r l)
  · rw [ref_first, ref_grad]
    exact congr (congrArg first (at2_ix _ r l)) rfl
  · rw [ref_second, ref_grad]
    exact congr (congrArg second (at2_ix _ r l)) rfl

/-- The reference runs, keeps its arguments, and has no semaphore. -/
theorem ref_frame :
    Cert.quiescent_Reference13Ideal (hReference13Ideal := Cert.Reference13Ideal.Gen.facts) := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- The call's four results are, on the ideal reals, the reference's. -/
theorem value : Cert.algebraic_Kernel13Ideal_Reference13Ideal (hKernel13Ideal := Cert.Kernel13Ideal.Gen.facts)
    (hReference13Ideal := Cert.Reference13Ideal.Gen.facts) := by
  intro m g m' g' _ hag
  refine ⟨_, _, _, _, Cert.Kernel13Ideal.Value.run_blocks m g, (θ_run Cert.Reference13Ideal.defs _ _).mono (fun r h c => ?_) (Cert.Reference13Ideal.Value.run (F := Ideal) m' g')⟩
  obtain ⟨a0, a1, a2, a3, a4⟩ := hag c
  obtain ⟨h0, h1, h2, h3, kept⟩ := h c
  obtain ⟨e0, e1, e2, e3⟩ := same m c _ _ _ _ _ a0 a1 a2 a3 a4
  exact ⟨(h0.trans (val_main_v3_eq _ _)).trans e0.symm, (h1.trans (val_main_v27_eq _ _ _ _ _)).trans e1.symm,
    (h2.trans (val_main_v8_eq _ _ _)).trans e2.symm, (h3.trans (val_main_v14_eq _ _ _)).trans e3.symm, kept⟩

end Cert.Proof.AdamOut
-- ==== Proof.AdamUp.lean ====
module

public import proofs.«01_k».proof.Defs
public import proofs.«01_k».proof.Proof.Adam
public import proofs.«01_k».proof.Proof.Gen.Kernel14Ideal.Value
public import proofs.«01_k».proof.Proof.Gen.Reference14Ideal.Run
public import proofs.«01_k».proof.Proof.Gen.Reference14Ideal.Read

/-!
The step of the channel mixer's first matrix: the gradient summed over the devices, the weight's change, both moments.
-/

@[expose] public section

noncomputable section

open Idealize.ShloMosaic Idealize.ShloMosaic.TcCoe Idealize.SL.Sem
open Idealize.ShloMosaic.Pipeline (Dat)

namespace Cert.Proof.AdamUp

open Cert.Kernel14Ideal Cert.Kernel14Ideal.Gen Cert.Proof.Entries Cert.Proof.Adam

variable (m : (ℓ : Loc nD τ sig) → Buf (Elt Ideal) ℓ)

abbrev W (c : Dev nD) : ℕ → ℕ → EReal := at2 (n := 4096) (k := 2048) (m ((c : Thread nD τ).loc main_arg0))
abbrev M (c : Dev nD) : ℕ → ℕ → EReal := at2 (n := 4096) (k := 2048) (m ((c : Thread nD τ).loc main_arg1))
abbrev S (c : Dev nD) : ℕ → ℕ → EReal := at2 (n := 4096) (k := 2048) (m ((c : Thread nD τ).loc main_arg2))
/-- The gradient: this device's share and what three others sent. -/
abbrev G (c : Dev nD) (r l : ℕ) : EReal :=
  at2 (n := 4096) (k := 2048) (m ((c : Thread nD τ).loc main_arg3)) r l + ∑ s : Fin 3, at3 (p := 3) (n := 4096) (k := 2048) (m ((c : Thread nD τ).loc main_arg4)) s r l

theorem idx : ∀ t : Fin cfg0.N, win0_0.index t = ![t.val, 0] ∧ win0_1.index t = ![t.val, 0] ∧ win0_2.index t = ![t.val, 0] ∧ win0_3.index t = ![t.val, 0]
    ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem block0 (c : Dev nD) (t : Fin cfg0.N) (r : Fin 128) (l : Fin 2048) : (iblk m c 0 t : S128x2048.Idx → EReal) (ix2 r l) = W m c (128 * t.val + r) l := by
  blk_simp [iblk]
  exact at2_of _ _ _ _ (by blk_simp [(idx t).1]; omega) (by blk_simp [(idx t).1])

theorem block1 (c : Dev nD) (t : Fin cfg0.N) (r : Fin 128) (l : Fin 2048) : (iblk m c 1 t : S128x2048.Idx → EReal) (ix2 r l) = M m c (128 * t.val + r) l := by
  blk_simp [iblk]
  exact at2_of _ _ _ _ (by blk_simp [(idx t).2.1]; omega) (by blk_simp [(idx t).2.1])

theorem block2 (c : Dev nD) (t : Fin cfg0.N) (r : Fin 128) (l : Fin 2048) : (iblk m c 2 t : S128x2048.Idx → EReal) (ix2 r l) = S m c (128 * t.val + r) l := by
  blk_simp [iblk]
  exact at2_of _ _ _ _ (by blk_simp [(idx t).2.2.1]; omega) (by blk_simp [(idx t).2.2.1])

abbrev own (c : Dev nD) (t : Fin cfg0.N) : Vec Ideal S128x2048 .bf16 := iblk m c 3 t
abbrev sent (c : Dev nD) (t : Fin cfg0.N) : Vec Ideal S3x128x2048 .bf16 := iblk m c 4 t

/-- The gradient a grid point sums up for its rows. -/
theorem block34 (c : Dev nD) (t : Fin cfg0.N) (r : Fin 128) (l : Fin 2048) :
    own m c t (ix2 r l) + ∑ s : Fin 3, sent m c t (ix3 s r l) = G m c (128 * t.val + r) l := by
  refine congrArg₂ (· + ·) ?_ (Finset.sum_congr rfl fun s _ => ?_)
  · blk_simp [iblk]
    exact at2_of _ _ _ _ (by blk_simp [(idx t).2.2.2.1]; omega) (by blk_simp [(idx t).2.2.2.1])
  · blk_simp [iblk]
    exact at3_of _ _ _ _ _ (by blk_simp [(idx t).2.2.2.2.1]) (by blk_simp [(idx t).2.2.2.2.1]; omega) (by blk_simp [(idx t).2.2.2.2.1])

section
variable (x0 x1 x2 : Vec Ideal S128x2048 .f32) (x3 : Vec Ideal S128x2048 .bf16) (x4 : Vec Ideal S3x128x2048 .bf16) (r : Fin 128) (l : Fin 2048)

theorem out5 : out0_5 x0 x1 x2 x3 x4 (ix2 r l) = x3 (ix2 r l) + ∑ s : Fin 3, x4 (ix3 s r l) := by
  unfold out0_5
  simp only [View.canon_unit_zero (S := S128x2048) zero2, View.ld_unit_zero (S := S128x2048) zero2]
  unfold k0_pay2
  pointwise
  simp only [Fin.sum_univ_three, add_assoc]

theorem out6 : out0_6 x0 x1 x2 x3 x4 (ix2 r l) = delta (x0 (ix2 r l)) (out0_5 x0 x1 x2 x3 x4 (ix2 r l)) (x1 (ix2 r l)) (x2 (ix2 r l)) := by
  unfold out0_6 out0_5
  simp only [View.canon_unit_zero (S := S128x2048) zero2, View.ld_unit_zero (S := S128x2048) zero2]
  rfl

theorem out7 : out0_7 x0 x1 x2 x3 x4 (ix2 r l) = first (x1 (ix2 r l)) (out0_5 x0 x1 x2 x3 x4 (ix2 r l)) := by
  unfold out0_7 out0_5
  simp only [View.canon_unit_zero (S := S128x2048) zero2, View.ld_unit_zero (S := S128x2048) zero2]
  rfl

theorem out8 : out0_8 x0 x1 x2 x3 x4 (ix2 r l) = second (x2 (ix2 r l)) (out0_5 x0 x1 x2 x3 x4 (ix2 r l)) := by
  unfold out0_8 out0_5
  simp only [View.canon_unit_zero (S := S128x2048) zero2, View.ld_unit_zero (S := S128x2048) zero2]
  rfl
end

/-- The four arrays the call leaves: gradient, change, first and second moment. -/
theorem arrs (c : Dev nD) (g d p q : S4096x2048.Idx → EReal) (hg : ∀ (r : Fin 4096) (l : Fin 2048), g (ix2 r l) = G m c r l)
    (hd : ∀ (r : Fin 4096) (l : Fin 2048), d (ix2 r l) = delta (W m c r l) (G m c r l) (M m c r l) (S m c r l))
    (hp : ∀ (r : Fin 4096) (l : Fin 2048), p (ix2 r l) = first (M m c r l) (G m c r l))
    (hq : ∀ (r : Fin 4096) (l : Fin 2048), q (ix2 r l) = second (S m c r l) (G m c r l)) :
    (dats m 0 c).arrAt 5 cfg0.N = g ∧ (dats m 0 c).arrAt 6 cfg0.N = d ∧ (dats m 0 c).arrAt 7 cfg0.N = p ∧ (dats m 0 c).arrAt 8 cfg0.N = q := by
  refine ⟨?_, ?_, ?_, ?_⟩
  · refine (dats m 0 c).arrAt_eq_of_covers 5 _ (by decide +kernel) fun t hf y => ?_
    blk_simp
    rw [after0_5]
    refine (of_ix _ (fun r l => G m c (128 * t.val + r) l) (fun r l => ?_) y (y 0) (y 1) rfl rfl).trans (of_ix g _ hg _ _ _ ?_ ?_).symm
    · rw [out5]
      exact block34 m c t r l
    · blk_simp [(idx t).2.2.2.2.2.1]; omega
    · blk_simp [(idx t).2.2.2.2.2.1]
  · refine (dats m 0 c).arrAt_eq_of_covers 6 _ (by decide +kernel) fun t hf y => ?_
    blk_simp
    rw [after0_6]
    refine (of_ix _ (fun r l => delta (W m c (128 * t.val + r) l) (G m c (128 * t.val + r) l) (M m c (128 * t.val + r) l) (S m c (128 * t.val + r) l)) (fun r l => ?_) y (y 0) (y 1) rfl rfl).trans
      (of_ix d (fun r l => delta (W m c r l) (G m c r l) (M m c r l) (S m c r l)) hd _ _ _ ?_ ?_).symm
    · rw [out6, out5]
      exact congr (congr (congr (congrArg delta (block0 m c t r l)) (block34 m c t r l)) (block1 m c t r l)) (block2 m c t r l)
    · blk_simp [(idx t).2.2.2.2.2.2.1]; omega
    · blk_simp [(idx t).2.2.2.2.2.2.1]
  · refine (dats m 0 c).arrAt_eq_of_covers 7 _ (by decide +kernel) fun t hf y => ?_
    blk_simp
    rw [after0_7]
    refine (of_ix _ (fun r l => first (M m c (128 * t.val + r) l) (G m c (128 * t.val + r) l)) (fun r l => ?_) y (y 0) (y 1) rfl rfl).trans
      (of_ix p (fun r l => first (M m c r l) (G m c r l)) hp _ _ _ ?_ ?_).symm
    · rw [out7, out5]
      exact congr (congrArg first (block1 m c t r l)) (block34 m c t r l)
    · blk_simp [(idx t).2.2.2.2.2.2.2.1]; omega
    · blk_simp [(idx t).2.2.2.2.2.2.2.1]
  · refine (dats m 0 c).arrAt_eq_of_covers 8 _ (by decide +kernel) fun t hf y => ?_
    blk_simp
    rw [after0_8]
    refine (of_ix _ (fun r l => second (S m c (128 * t.val + r) l) (G m c (128 * t.val + r) l)) (fun r l => ?_) y (y 0) (y 1) rfl rfl).trans
      (of_ix q (fun r l => second (S m c r l) (G m c r l)) hq _ _ _ ?_ ?_).symm
    · rw [out8, out5]
      exact congr (congrArg second (block2 m c t r l)) (block34 m c t r l)
    · blk_simp [(idx t).2.2.2.2.2.2.2.2]; omega
    · blk_simp [(idx t).2.2.2.2.2.2.2.2]

open Cert.Reference14Ideal.Read

/-- The reference's gradient at an entry. -/
theorem ref_grad (X : S4096x2048.Idx → EReal) (Y : S3x4096x2048.Idx → EReal) (r : Fin 4096) (l : Fin 2048) :
    val_main_v3 (F := Ideal) X Y (ix2 r l) = at2 X r l + ∑ s : Fin 3, at3 Y s r l := by
  unfold val_main_v3 val_main_v2 val_main_v1 val_main_v0 val_main_cst
  pointwise
  simp only [at2_ix X, at3_ix Y]

section
variable (w p q x : S4096x2048.Idx → EReal) (y : S3x4096x2048.Idx → EReal) (i : S4096x2048.Idx)

theorem ref_delta : val_main_v27 (F := Ideal) w p q x y i = delta (w i) (val_main_v3 (F := Ideal) x y i) (p i) (q i) := rfl
theorem ref_first : val_main_v8 (F := Ideal) p x y i = first (p i) (val_main_v3 (F := Ideal) x y i) := rfl
theorem ref_second : val_main_v14 (F := Ideal) q x y i = second (q i) (val_main_v3 (F := Ideal) x y i) := rfl
end

/-- Kernel and reference leave the same four arrays. -/
theorem same (c : Dev nD) (w p q x : S4096x2048.Idx → EReal) (y : S3x4096x2048.Idx → EReal)
    (hw : w = m ((c : Thread nD τ).loc main_arg0)) (hp : p = m ((c : Thread nD τ).loc main_arg1)) (hq : q = m ((c : Thread nD τ).loc main_arg2))
    (hx : x = m ((c : Thread nD τ).loc main_arg3)) (hy : y = m ((c : Thread nD τ).loc main_arg4)) :
    (dats m 0 c).arrAt 5 cfg0.N = val_main_v3 (F := Ideal) x y ∧ (dats m 0 c).arrAt 6 cfg0.N = val_main_v27 (F := Ideal) w p q x y
      ∧ (dats m 0 c).arrAt 7 cfg0.N = val_main_v8 (F := Ideal) p x y ∧ (dats m 0 c).arrAt 8 cfg0.N = val_main_v14 (F := Ideal) q x y := by
  subst hw hp hq hx hy
  refine arrs m c _ _ _ _ (fun r l => ref_grad _ _ r l) (fun r l => ?_) (fun r l => ?_) (fun r l => ?_)
  · rw [ref_delta, ref_grad]
    exact congr (congr (congr (congrArg delta (at2_ix _ r l)) rfl) (at2_ix _ r l)) (at2_ix _ r l)
  · rw [ref_first, ref_grad]
    exact congr (congrArg first (at2_ix _ r l)) rfl
  · rw [ref_second, ref_grad]
    exact congr (congrArg second (at2_ix _ r l)) rfl

/-- The reference runs, keeps its arguments, and has no semaphore. -/
theorem ref_frame :
    Cert.quiescent_Reference14Ideal (hReference14Ideal := Cert.Reference14Ideal.Gen.facts) := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- The call's four results are, on the ideal reals, the reference's. -/
theorem value : Cert.algebraic_Kernel14Ideal_Reference14Ideal (hKernel14Ideal := Cert.Kernel14Ideal.Gen.facts)
    (hReference14Ideal := Cert.Reference14Ideal.Gen.facts) := by
  intro m g m' g' _ hag
  refine ⟨_, _, _, _, Cert.Kernel14Ideal.Value.run_blocks m g, (θ_run Cert.Reference14Ideal.defs _ _).mono (fun r h c => ?_) (Cert.Reference14Ideal.Value.run (F := Ideal) m' g')⟩
  obtain ⟨a0, a1, a2, a3, a4⟩ := hag c
  obtain ⟨h0, h1, h2, h3, kept⟩ := h c
  obtain ⟨e0, e1, e2, e3⟩ := same m c _ _ _ _ _ a0 a1 a2 a3 a4
  exact ⟨(h0.trans (val_main_v3_eq _ _)).trans e0.symm, (h1.trans (val_main_v27_eq _ _ _ _ _)).trans e1.symm,
    (h2.trans (val_main_v8_eq _ _ _)).trans e2.symm, (h3.trans (val_main_v14_eq _ _ _)).trans e3.symm, kept⟩

end Cert.Proof.AdamUp
-- ==== Proof.AdamDown.lean ====
module

public import proofs.«01_k».proof.Defs
public import proofs.«01_k».proof.Proof.Adam
public import proofs.«01_k».proof.Proof.Gen.Kernel15Ideal.Value
public import proofs.«01_k».proof.Proof.Gen.Reference15Ideal.Run
public import proofs.«01_k».proof.Proof.Gen.Reference15Ideal.Read

/-!
The step of the channel mixer's second matrix: the gradient summed over the devices, the weight's change, both moments.
-/

@[expose] public section

noncomputable section

open Idealize.ShloMosaic Idealize.ShloMosaic.TcCoe Idealize.SL.Sem
open Idealize.ShloMosaic.Pipeline (Dat)

namespace Cert.Proof.AdamDown

open Cert.Kernel15Ideal Cert.Kernel15Ideal.Gen Cert.Proof.Entries Cert.Proof.Adam

variable (m : (ℓ : Loc nD τ sig) → Buf (Elt Ideal) ℓ)

abbrev W (c : Dev nD) : ℕ → ℕ → EReal := at2 (n := 2048) (k := 4096) (m ((c : Thread nD τ).loc main_arg0))
abbrev M (c : Dev nD) : ℕ → ℕ → EReal := at2 (n := 2048) (k := 4096) (m ((c : Thread nD τ).loc main_arg1))
abbrev S (c : Dev nD) : ℕ → ℕ → EReal := at2 (n := 2048) (k := 4096) (m ((c : Thread nD τ).loc main_arg2))
/-- The gradient: this device's share and what three others sent. -/
abbrev G (c : Dev nD) (r l : ℕ) : EReal :=
  at2 (n := 2048) (k := 4096) (m ((c : Thread nD τ).loc main_arg3)) r l + ∑ s : Fin 3, at3 (p := 3) (n := 2048) (k := 4096) (m ((c : Thread nD τ).loc main_arg4)) s r l

theorem idx : ∀ t : Fin cfg0.N, win0_0.index t = ![t.val, 0] ∧ win0_1.index t = ![t.val, 0] ∧ win0_2.index t = ![t.val, 0] ∧ win0_3.index t = ![t.val, 0]
    ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem block0 (c : Dev nD) (t : Fin cfg0.N) (r : Fin 64) (l : Fin 4096) : (iblk m c 0 t : S64x4096.Idx → EReal) (ix2 r l) = W m c (64 * t.val + r) l := by
  blk_simp [iblk]
  exact at2_of _ _ _ _ (by blk_simp [(idx t).1]; omega) (by blk_simp [(idx t).1])

theorem block1 (c : Dev nD) (t : Fin cfg0.N) (r : Fin 64) (l : Fin 4096) : (iblk m c 1 t : S64x4096.Idx → EReal) (ix2 r l) = M m c (64 * t.val + r) l := by
  blk_simp [iblk]
  exact at2_of _ _ _ _ (by blk_simp [(idx t).2.1]; omega) (by blk_simp [(idx t).2.1])

theorem block2 (c : Dev nD) (t : Fin cfg0.N) (r : Fin 64) (l : Fin 4096) : (iblk m c 2 t : S64x4096.Idx → EReal) (ix2 r l) = S m c (64 * t.val + r) l := by
  blk_simp [iblk]
  exact at2_of _ _ _ _ (by blk_simp [(idx t).2.2.1]; omega) (by blk_simp [(idx t).2.2.1])

abbrev own (c : Dev nD) (t : Fin cfg0.N) : Vec Ideal S64x4096 .bf16 := iblk m c 3 t
abbrev sent (c : Dev nD) (t : Fin cfg0.N) : Vec Ideal S3x64x4096 .bf16 := iblk m c 4 t

/-- The gradient a grid point sums up for its rows. -/
theorem block34 (c : Dev nD) (t : Fin cfg0.N) (r : Fin 64) (l : Fin 4096) :
    own m c t (ix2 r l) + ∑ s : Fin 3, sent m c t (ix3 s r l) = G m c (64 * t.val + r) l := by
  refine congrArg₂ (· + ·) ?_ (Finset.sum_congr rfl fun s _ => ?_)
  · blk_simp [iblk]
    exact at2_of _ _ _ _ (by blk_simp [(idx t).2.2.2.1]; omega) (by blk_simp [(idx t).2.2.2.1])
  · blk_simp [iblk]
    exact at3_of _ _ _ _ _ (by blk_simp [(idx t).2.2.2.2.1]) (by blk_simp [(idx t).2.2.2.2.1]; omega) (by blk_simp [(idx t).2.2.2.2.1])

section
variable (x0 x1 x2 : Vec Ideal S64x4096 .f32) (x3 : Vec Ideal S64x4096 .bf16) (x4 : Vec Ideal S3x64x4096 .bf16) (r : Fin 64) (l : Fin 4096)

theorem out5 : out0_5 x0 x1 x2 x3 x4 (ix2 r l) = x3 (ix2 r l) + ∑ s : Fin 3, x4 (ix3 s r l) := by
  unfold out0_5
  simp only [View.canon_unit_zero (S := S64x4096) zero2, View.ld_unit_zero (S := S64x4096) zero2]
  unfold k0_pay2
  pointwise
  simp only [Fin.sum_univ_three, add_assoc]

theorem out6 : out0_6 x0 x1 x2 x3 x4 (ix2 r l) = delta (x0 (ix2 r l)) (out0_5 x0 x1 x2 x3 x4 (ix2 r l)) (x1 (ix2 r l)) (x2 (ix2 r l)) := by
  unfold out0_6 out0_5
  simp only [View.canon_unit_zero (S := S64x4096) zero2, View.ld_unit_zero (S := S64x4096) zero2]
  rfl

theorem out7 : out0_7 x0 x1 x2 x3 x4 (ix2 r l) = first (x1 (ix2 r l)) (out0_5 x0 x1 x2 x3 x4 (ix2 r l)) := by
  unfold out0_7 out0_5
  simp only [View.canon_unit_zero (S := S64x4096) zero2, View.ld_unit_zero (S := S64x4096) zero2]
  rfl

theorem out8 : out0_8 x0 x1 x2 x3 x4 (ix2 r l) = second (x2 (ix2 r l)) (out0_5 x0 x1 x2 x3 x4 (ix2 r l)) := by
  unfold out0_8 out0_5
  simp only [View.canon_unit_zero (S := S64x4096) zero2, View.ld_unit_zero (S := S64x4096) zero2]
  rfl
end

/-- The four arrays the call leaves: gradient, change, first and second moment. -/
theorem arrs (c : Dev nD) (g d p q : S2048x4096.Idx → EReal) (hg : ∀ (r : Fin 2048) (l : Fin 4096), g (ix2 r l) = G m c r l)
    (hd : ∀ (r : Fin 2048) (l : Fin 4096), d (ix2 r l) = delta (W m c r l) (G m c r l) (M m c r l) (S m c r l))
    (hp : ∀ (r : Fin 2048) (l : Fin 4096), p (ix2 r l) = first (M m c r l) (G m c r l))
    (hq : ∀ (r : Fin 2048) (l : Fin 4096), q (ix2 r l) = second (S m c r l) (G m c r l)) :
    (dats m 0 c).arrAt 5 cfg0.N = g ∧ (dats m 0 c).arrAt 6 cfg0.N = d ∧ (dats m 0 c).arrAt 7 cfg0.N = p ∧ (dats m 0 c).arrAt 8 cfg0.N = q := by
  refine ⟨?_, ?_, ?_, ?_⟩
  · refine (dats m 0 c).arrAt_eq_of_covers 5 _ (by decide +kernel) fun t hf y => ?_
    blk_simp
    rw [after0_5]
    refine (of_ix _ (fun r l => G m c (64 * t.val + r) l) (fun r l => ?_) y (y 0) (y 1) rfl rfl).trans (of_ix g _ hg _ _ _ ?_ ?_).symm
    · rw [out5]
      exact block34 m c t r l
    · blk_simp [(idx t).2.2.2.2.2.1]; omega
    · blk_simp [(idx t).2.2.2.2.2.1]
  · refine (dats m 0 c).arrAt_eq_of_covers 6 _ (by decide +kernel) fun t hf y => ?_
    blk_simp
    rw [after0_6]
    refine (of_ix _ (fun r l => delta (W m c (64 * t.val + r) l) (G m c (64 * t.val + r) l) (M m c (64 * t.val + r) l) (S m c (64 * t.val + r) l)) (fun r l => ?_) y (y 0) (y 1) rfl rfl).trans
      (of_ix d (fun r l => delta (W m c r l) (G m c r l) (M m c r l) (S m c r l)) hd _ _ _ ?_ ?_).symm
    · rw [out6, out5]
      exact congr (congr (congr (congrArg delta (block0 m c t r l)) (block34 m c t r l)) (block1 m c t r l)) (block2 m c t r l)
    · blk_simp [(idx t).2.2.2.2.2.2.1]; omega
    · blk_simp [(idx t).2.2.2.2.2.2.1]
  · refine (dats m 0 c).arrAt_eq_of_covers 7 _ (by decide +kernel) fun t hf y => ?_
    blk_simp
    rw [after0_7]
    refine (of_ix _ (fun r l => first (M m c (64 * t.val + r) l) (G m c (64 * t.val + r) l)) (fun r l => ?_) y (y 0) (y 1) rfl rfl).trans
      (of_ix p (fun r l => first (M m c r l) (G m c r l)) hp _ _ _ ?_ ?_).symm
    · rw [out7, out5]
      exact congr (congrArg first (block1 m c t r l)) (block34 m c t r l)
    · blk_simp [(idx t).2.2.2.2.2.2.2.1]; omega
    · blk_simp [(idx t).2.2.2.2.2.2.2.1]
  · refine (dats m 0 c).arrAt_eq_of_covers 8 _ (by decide +kernel) fun t hf y => ?_
    blk_simp
    rw [after0_8]
    refine (of_ix _ (fun r l => second (S m c (64 * t.val + r) l) (G m c (64 * t.val + r) l)) (fun r l => ?_) y (y 0) (y 1) rfl rfl).trans
      (of_ix q (fun r l => second (S m c r l) (G m c r l)) hq _ _ _ ?_ ?_).symm
    · rw [out8, out5]
      exact congr (congrArg second (block2 m c t r l)) (block34 m c t r l)
    · blk_simp [(idx t).2.2.2.2.2.2.2.2]; omega
    · blk_simp [(idx t).2.2.2.2.2.2.2.2]

open Cert.Reference15Ideal.Read

/-- The reference's gradient at an entry. -/
theorem ref_grad (X : S2048x4096.Idx → EReal) (Y : S3x2048x4096.Idx → EReal) (r : Fin 2048) (l : Fin 4096) :
    val_main_v3 (F := Ideal) X Y (ix2 r l) = at2 X r l + ∑ s : Fin 3, at3 Y s r l := by
  unfold val_main_v3 val_main_v2 val_main_v1 val_main_v0 val_main_cst
  pointwise
  simp only [at2_ix X, at3_ix Y]

section
variable (w p q x : S2048x4096.Idx → EReal) (y : S3x2048x4096.Idx → EReal) (i : S2048x4096.Idx)

theorem ref_delta : val_main_v27 (F := Ideal) w p q x y i = delta (w i) (val_main_v3 (F := Ideal) x y i) (p i) (q i) := rfl
theorem ref_first : val_main_v8 (F := Ideal) p x y i = first (p i) (val_main_v3 (F := Ideal) x y i) := rfl
theorem ref_second : val_main_v14 (F := Ideal) q x y i = second (q i) (val_main_v3 (F := Ideal) x y i) := rfl
end

/-- Kernel and reference leave the same four arrays. -/
theorem same (c : Dev nD) (w p q x : S2048x4096.Idx → EReal) (y : S3x2048x4096.Idx → EReal)
    (hw : w = m ((c : Thread nD τ).loc main_arg0)) (hp : p = m ((c : Thread nD τ).loc main_arg1)) (hq : q = m ((c : Thread nD τ).loc main_arg2))
    (hx : x = m ((c : Thread nD τ).loc main_arg3)) (hy : y = m ((c : Thread nD τ).loc main_arg4)) :
    (dats m 0 c).arrAt 5 cfg0.N = val_main_v3 (F := Ideal) x y ∧ (dats m 0 c).arrAt 6 cfg0.N = val_main_v27 (F := Ideal) w p q x y
      ∧ (dats m 0 c).arrAt 7 cfg0.N = val_main_v8 (F := Ideal) p x y ∧ (dats m 0 c).arrAt 8 cfg0.N = val_main_v14 (F := Ideal) q x y := by
  subst hw hp hq hx hy
  refine arrs m c _ _ _ _ (fun r l => ref_grad _ _ r l) (fun r l => ?_) (fun r l => ?_) (fun r l => ?_)
  · rw [ref_delta, ref_grad]
    exact congr (congr (congr (congrArg delta (at2_ix _ r l)) rfl) (at2_ix _ r l)) (at2_ix _ r l)
  · rw [ref_first, ref_grad]
    exact congr (congrArg first (at2_ix _ r l)) rfl
  · rw [ref_second, ref_grad]
    exact congr (congrArg second (at2_ix _ r l)) rfl

/-- The reference runs, keeps its arguments, and has no semaphore. -/
theorem ref_frame :
    Cert.quiescent_Reference15Ideal (hReference15Ideal := Cert.Reference15Ideal.Gen.facts) := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

/-- The call's four results are, on the ideal reals, the reference's. -/
theorem value : Cert.algebraic_Kernel15Ideal_Reference15Ideal (hKernel15Ideal := Cert.Kernel15Ideal.Gen.facts)
    (hReference15Ideal := Cert.Reference15Ideal.Gen.facts) := by
  intro m g m' g' _ hag
  refine ⟨_, _, _, _, Cert.Kernel15Ideal.Value.run_blocks m g, (θ_run Cert.Reference15Ideal.defs _ _).mono (fun r h c => ?_) (Cert.Reference15Ideal.Value.run (F := Ideal) m' g')⟩
  obtain ⟨a0, a1, a2, a3, a4⟩ := hag c
  obtain ⟨h0, h1, h2, h3, kept⟩ := h c
  obtain ⟨e0, e1, e2, e3⟩ := same m c _ _ _ _ _ a0 a1 a2 a3 a4
  exact ⟨(h0.trans (val_main_v3_eq _ _)).trans e0.symm, (h1.trans (val_main_v27_eq _ _ _ _ _)).trans e1.symm,
    (h2.trans (val_main_v8_eq _ _ _)).trans e2.symm, (h3.trans (val_main_v14_eq _ _ _)).trans e3.symm, kept⟩

end Cert.Proof.AdamDown
-- ==== Proof.AdamSmall.lean ====
module

public import proofs.«01_k».proof.Defs
public import proofs.«01_k».proof.Proof.Adam
public import proofs.«01_k».proof.Proof.Gen.Kernel16Ideal.Value
public import proofs.«01_k».proof.Proof.Gen.Reference16Ideal.Run
public import proofs.«01_k».proof.Proof.Gen.Reference16Ideal.Read

/-!
The step of the four low-rank matrices, stacked: the gradient summed over the devices, the weight's change, both moments.
-/

@[expose] public section

noncomputable section

open Idealize.ShloMosaic Idealize.ShloMosaic.TcCoe Idealize.SL.Sem
open Idealize.ShloMosaic.Pipeline (Dat)

namespace Cert.Proof.AdamSmall

open Cert.Kernel16Ideal Cert.Kernel16Ideal.Gen Cert.Proof.Entries Cert.Proof.Adam

variable (m : (ℓ : Loc nD τ sig) → Buf (Elt Ideal) ℓ)

abbrev W (c : Dev nD) : ℕ → ℕ → EReal := at2 (n := 456) (k := 256) (m ((c : Thread nD τ).loc main_arg0))
abbrev M (c : Dev nD) : ℕ → ℕ → EReal := at2 (n := 456) (k := 256) (m ((c : Thread nD τ).loc main_arg1))
abbrev S (c : Dev nD) : ℕ → ℕ → EReal := at2 (n := 456) (k := 256) (m ((c : Thread nD τ).loc main_arg2))
/-- The gradient: this device's share and what the seven others sent. -/
abbrev G (c : Dev nD) (r l : ℕ) : EReal :=
  at2 (n := 456) (k := 256) (m ((c : Thread nD τ).loc main_arg3)) r l + ∑ s : Fin 7, at3 (p := 7) (n := 456) (k := 256) (m ((c : Thread nD τ).loc main_arg4)) s r l

theorem idx : ∀ t : Fin cfg0.N, win0_0.index t = ![t.val, 0] ∧ win0_1.index t = ![t.val, 0] ∧ win0_2.index t = ![t.val, 0] ∧ win0_3.index t = ![t.val, 0]
    ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem block0 (c : Dev nD) (t : Fin cfg0.N) (r : Fin 456) (l : Fin 256) : (iblk m c 0 t : S456x256.Idx → EReal) (ix2 r l) = W m c (456 * t.val + r) l := by
  blk_simp [iblk]
  exact at2_of _ _ _ _ (by blk_simp [(idx t).1]; omega) (by blk_simp [(idx t).1])

theorem block1 (c : Dev nD) (t : Fin cfg0.N) (r : Fin 456) (l : Fin 256) : (iblk m c 1 t : S456x256.Idx → EReal) (ix2 r l) = M m c (456 * t.val + r) l := by
  blk_simp [iblk]
  exact at2_of _ _ _ _ (by blk_simp [(idx t).2.1]; omega) (by blk_simp [(idx t).2.1])

theorem block2 (c : Dev nD) (t : Fin cfg0.N) (r : Fin 456) (l : Fin 256) : (iblk m c 2 t : S456x256.Idx → EReal) (ix2 r l) = S m c (456 * t.val + r) l := by
  blk_simp [iblk]
  exact at2_of _ _ _ _ (by blk_simp [(idx t).2.2.1]; omega) (by blk_simp [(idx t).2.2.1])

abbrev own (c : Dev nD) (t : Fin cfg0.N) : Vec Ideal S456x256 .f32 := iblk m c 3 t
abbrev sent (c : Dev nD) (t : Fin cfg0.N) : Vec Ideal S7x456x256 .f32 := iblk m c 4 t

/-- The gradient a grid point sums up for its rows. -/
theorem block34 (c : Dev nD) (t : Fin cfg0.N) (r : Fin 456) (l : Fin 256) :
    own m c t (ix2 r l) + ∑ s : Fin 7, sent m c t (ix3 s r l) = G m c (456 * t.val + r) l := by
  refine congrArg₂ (· + ·) ?_ (Finset.sum_congr rfl fun s _ => ?_)
  · blk_simp [iblk]
    exact at2_of _ _ _ _ (by blk_simp [(idx t).2.2.2.1]; omega) (by blk_simp [(idx t).2.2.2.1])
  · blk_simp [iblk]
    exact at3_of _ _ _ _ _ (by blk_simp [(idx t).2.2.2.2.1]) (by blk_simp [(idx t).2.2.2.2.1]; omega) (by blk_simp [(idx t).2.2.2.2.1])

section
variable (x0 x1 x2 : Vec Ideal S456x256 .f32) (x3 : Vec Ideal S456x256 .f32) (x4 : Vec Ideal S7x456x256 .f32) (r : Fin 456) (l : Fin 256)

theorem out5 : out0_5 x0 x1 x2 x3 x4 (ix2 r l) = x3 (ix2 r l) + ∑ s : Fin 7, x4 (ix3 s r l) := by
  unfold out0_5 k0_pay5
  simp only [View.canon_unit_zero (S := S456x256) zero2, View.ld_unit_zero (S := S456x256) zero2]
  unfold k0_pay3
  pointwise
  simp only [Fin.sum_univ_seven, add_assoc]

theorem out6 : out0_6 x0 x1 x2 x3 x4 (ix2 r l) = delta (x0 (ix2 r l)) (out0_5 x0 x1 x2 x3 x4 (ix2 r l)) (x1 (ix2 r l)) (x2 (ix2 r l)) := by
  unfold out0_6 out0_5 k0_pay6 k0_pay5
  simp only [View.canon_unit_zero (S := S456x256) zero2, View.ld_unit_zero (S := S456x256) zero2]
  rfl

theorem out7 : out0_7 x0 x1 x2 x3 x4 (ix2 r l) = first (x1 (ix2 r l)) (out0_5 x0 x1 x2 x3 x4 (ix2 r l)) := by
  unfold out0_7 out0_5 k0_pay6 k0_pay5
  simp only [View.canon_unit_zero (S := S456x256) zero2, View.ld_unit_zero (S := S456x256) zero2]
  rfl

theorem out8 : out0_8 x0 x1 x2 x3 x4 (ix2 r l) = second (x2 (ix2 r l)) (out0_5 x0 x1 x2 x3 x4 (ix2 r l)) := by
  unfold out0_8 out0_5 k0_pay5
  simp only [View.canon_unit_zero (S := S456x256) zero2, View.ld_unit_zero (S := S456x256) zero2]
  rfl
end

/-- The four arrays the call leaves: gradient, change, first and second moment. -/
theorem arrs (c : Dev nD) (g d p q : S456x256.Idx → EReal) (hg : ∀ (r : Fin 456) (l : Fin 256), g (ix2 r l) = G m c r l)
    (hd : ∀ (r : Fin 456) (l : Fin 256), d (ix2 r l) = delta (W m c r l) (G m c r l) (M m c r l) (S m c r l))
    (hp : ∀ (r : Fin 456) (l : Fin 256), p (ix2 r l) = first (M m c r l) (G m c r l))
    (hq : ∀ (r : Fin 456) (l : Fin 256), q (ix2 r l) = second (S m c r l) (G m c r l)) :
    (dats m 0 c).arrAt 5 cfg0.N = g ∧ (dats m 0 c).arrAt 6 cfg0.N = d ∧ (dats m 0 c).arrAt 7 cfg0.N = p ∧ (dats m 0 c).arrAt 8 cfg0.N = q := by
  refine ⟨?_, ?_, ?_, ?_⟩
  · refine (dats m 0 c).arrAt_eq_of_covers 5 _ (by decide +kernel) fun t hf y => ?_
    blk_simp
    rw [after0_5]
    refine (of_ix _ (fun r l => G m c (456 * t.val + r) l) (fun r l => ?_) y (y 0) (y 1) rfl rfl).trans (of_ix g _ hg _ _ _ ?_ ?_).symm
    · rw [out5]
      exact block34 m c t r l
    · blk_simp [(idx t).2.2.2.2.2.1]; omega
    · blk_simp [(idx t).2.2.2.2.2.1]
  · refine (dats m 0 c).arrAt_eq_of_covers 6 _ (by decide +kernel) fun t hf y => ?_
    blk_simp
    rw [after0_6]
    refine (of_ix _ (fun r l => delta (W m c (456 * t.val + r) l) (G m c (456 * t.val + r) l) (M m c (456 * t.val + r) l) (S m c (456 * t.val + r) l)) (fun r l => ?_) y (y 0) (y 1) rfl rfl).trans
      (of_ix d (fun r l => delta (W m c r l) (G m c r l) (M m c r l) (S m c r l)) hd _ _ _ ?_ ?_).symm
    · rw [out6, out5]
      exact congr (congr (congr (congrArg delta (block0 m c t r l)) (block34 m c t r l)) (block1 m c t r l)) (block2 m c t r l)
    · blk_simp [(idx t).2.2.2.2.2.2.1]; omega
    · blk_simp [(idx t).2.2.2.2.2.2.1]
  · refine (dats m 0 c).arrAt_eq_of_covers 7 _ (by decide +kernel) fun t hf y => ?_
    blk_simp
    rw [after0_7]
    refine (of_ix _ (fun r l => first (M m c (456 * t.val + r) l) (G m c (456 * t.val + r) l)) (fun r l => ?_) y (y 0) (y 1) rfl rfl).trans
      (of_ix p (fun r l => first (M m c r l) (G m c r l)) hp _ _ _ ?_ ?_).symm
    · rw [out7, out5]
      exact congr (congrArg first (block1 m c t r l)) (block34 m c t r l)
    · blk_simp [(idx t).2.2.2.2.2.2.2.1]; omega
    · blk_simp [(idx t).2.2.2.2.2.2.2.1]
  · refine (dats m 0 c).arrAt_eq_of_covers 8 _ (by decide +kernel) fun t hf y => ?_
    blk_simp
    rw [after0_8]
    refine (of_ix _ (fun r l => second (S m c (456 * t.val + r) l) (G m c (456 * t.val + r) l)) (fun r l => ?_) y (y 0) (y 1) rfl rfl).trans
      (of_ix q (fun r l => second (S m c r l) (G m c r l)) hq _ _ _ ?_ ?_).symm
    · rw [out8, out5]
      exact congr (congrArg second (block2 m c t r l)) (block34 m c t r l)
    · blk_simp [(idx t).2.2.2.2.2.2.2.2]; omega
    · blk_simp [(idx t).2.2.2.2.2.2.2.2]

open Cert.Reference16Ideal.Read

/-- The reference's gradient at an entry. -/
theorem ref_grad (X : S456x256.Idx → EReal) (Y : S7x456x256.Idx → EReal) (r : Fin 456) (l : Fin 256) :
    val_main_v1 (F := Ideal) X Y (ix2 r l) = at2 X r l + ∑ s : Fin 7, at3 Y s r l := by
  unfold val_main_v1 val_main_v0 val_main_cst
  pointwise
  simp only [at2_ix X, at3_ix Y]

section
variable (w p q x : S456x256.Idx → EReal) (y : S7x456x256.Idx → EReal) (i : S456x256.Idx)

theorem ref_delta : val_main_v25 (F := Ideal) w p q x y i = delta (w i) (val_main_v1 (F := Ideal) x y i) (p i) (q i) := rfl
theorem ref_first : val_main_v6 (F := Ideal) p x y i = first (p i) (val_main_v1 (F := Ideal) x y i) := rfl
theorem ref_second : val_main_v12 (F := Ideal) q x y i = second (q i) (val_main_v1 (F := Ideal) x y i) := rfl
end

/-- Kernel and reference leave the same four arrays. -/
theorem same (c : Dev nD) (w p q x : S456x256.Idx → EReal) (y : S7x456x256.Idx → EReal)
    (hw : w = m ((c : Thread nD τ).loc main_arg0)) (hp : p = m ((c : Thread nD τ).loc main_arg1)) (hq : q = m ((c : Thread nD τ).loc main_arg2))
    (hx : x = m ((c : Thread nD τ).loc main_arg3)) (hy : y = m ((c : Thread nD τ).loc main_arg4)) :
    (dats m 0 c).arrAt 5 cfg0.N = val_main_v1 (F := Ideal) x y ∧ (dats m 0 c).arrAt 6 cfg0.N = val_main_v25 (F := Ideal) w p q x y
      ∧ (dats m 0 c).arrAt 7 cfg0.N = val_main_v6 (F := Ideal) p x y ∧ (dats m 0 c).arrAt 8 cfg0.N = val_main_v12 (F := Ideal) q x y := by
  subst hw hp hq hx hy
  refine arrs m c _ _ _ _ (fun r l => ref_grad _ _ r l) (fun r l => ?_) (fun r l => ?_) (fun r l => ?_)
  · rw [ref_delta, ref_grad]
    exact congr (congr (congr (congrArg delta (at2_ix _ r l)) rfl) (at2_ix _ r l)) (at2_ix _ r l)
  · rw [ref_first, ref_grad]
    exact congr (congrArg first (at2_ix _ r l)) rfl
  · rw [ref_second, ref_grad]
    exact congr (congrArg second (at2_ix _ r l)) rfl

/-- The reference runs, keeps its arguments, and has no semaphore. -/
theorem ref_frame :
    Cert.quiescent_Reference16Ideal (hReference16Ideal := Cert.Reference16Ideal.Gen.facts) := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- The call's four results are, on the ideal reals, the reference's. -/
theorem value : Cert.algebraic_Kernel16Ideal_Reference16Ideal (hKernel16Ideal := Cert.Kernel16Ideal.Gen.facts)
    (hReference16Ideal := Cert.Reference16Ideal.Gen.facts) := by
  intro m g m' g' _ hag
  refine ⟨_, _, _, _, Cert.Kernel16Ideal.Value.run_blocks m g, (θ_run Cert.Reference16Ideal.defs _ _).mono (fun r h c => ?_) (Cert.Reference16Ideal.Value.run (F := Ideal) m' g')⟩
  obtain ⟨a0, a1, a2, a3, a4⟩ := hag c
  obtain ⟨h0, h1, h2, h3, kept⟩ := h c
  obtain ⟨e0, e1, e2, e3⟩ := same m c _ _ _ _ _ a0 a1 a2 a3 a4
  exact ⟨(h0.trans (val_main_v1_eq _ _)).trans e0.symm, (h1.trans (val_main_v25_eq _ _ _ _ _)).trans e1.symm,
    (h2.trans (val_main_v6_eq _ _ _)).trans e2.symm, (h3.trans (val_main_v12_eq _ _ _)).trans e3.symm, kept⟩

end Cert.Proof.AdamSmall
-- ==== Proof.OutDw.lean ====
module

public import proofs.«01_k».proof.Defs
public import proofs.«01_k».proof.Proof.Entries
public import proofs.«01_k».proof.Proof.Gen.Kernel17Ideal.Value
public import proofs.«01_k».proof.Proof.Gen.Reference17Ideal.Run
public import proofs.«01_k».proof.Proof.Gen.Reference17Ideal.Read

/-!
The gradient of the output projection's weight, `mg ᵀ · dh1`.
-/

@[expose] public section

noncomputable section

open Idealize.ShloMosaic Idealize.ShloMosaic.TcCoe Idealize.SL.Sem
open Idealize.ShloMosaic.Pipeline (Dat)

namespace Cert.Proof.OutDw

open Cert.Kernel17Ideal Cert.Kernel17Ideal.Gen Cert.Proof.Entries

variable (m : (ℓ : Loc nD τ sig) → Buf (Elt Ideal) ℓ)

abbrev A (c : Dev nD) : ℕ → ℕ → EReal := at2 (n := 4096) (k := 4096) (m ((c : Thread nD τ).loc main_arg0))
abbrev B (c : Dev nD) : ℕ → ℕ → EReal := at2 (n := 4096) (k := 4096) (m ((c : Thread nD τ).loc main_arg1))

theorem i0 : ∀ t : Fin cfg0.N, win0_0.index t = ![0, t.val / 8] := (by decide +kernel : ∀ t : Fin grid0.N, _)
theorem i1 : ∀ t : Fin cfg0.N, win0_1.index t = ![0, t.val % 8] := (by decide +kernel : ∀ t : Fin grid0.N, _)
theorem i2 : ∀ t : Fin cfg0.N, win0_2.index t = ![t.val / 8, t.val % 8] := (by decide +kernel : ∀ t : Fin grid0.N, _)

theorem V0 (c : Dev nD) : (V m c main_v0 : S4096x4096.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S4096x4096.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (k : Fin 4096) (r : Fin 1024) :
    (iblk m c 0 t : S4096x1024.Idx → EReal) (ix2 k r) = A m c k (1024 * (t.val / 8) + r) := by
  blk_simp [iblk]
  refine (congrFun (V0 m c) _).trans (at2_of _ _ _ _ ?_ ?_)
  · blk_simp [i0]
  · blk_simp [i0]; omega

theorem block1 (c : Dev nD) (t : Fin cfg0.N) (k : Fin 4096) (l : Fin 512) :
    (iblk m c 1 t : S4096x512.Idx → EReal) (ix2 k l) = B m c k (512 * (t.val % 8) + l) := by
  blk_simp [iblk]
  refine (congrFun (V1 m c) _).trans (at2_of _ _ _ _ ?_ ?_)
  · blk_simp [i1]
  · blk_simp [i1]; omega

/-- The block turned over. -/
theorem pay1 (x : Vec Ideal S4096x1024 .bf16) (r : Fin 1024) (k : Fin 4096) : k0_pay1 x (ix2 r k) = x (ix2 k r) := by
  unfold k0_pay1
  simp only [shapeCast_self]
  pointwise

/-- The product of the two blocks. -/
theorem pay2 (x : Vec Ideal S1024x4096 .bf16) (y : Vec Ideal S4096x512 .bf16) (r : Fin 1024) (l : Fin 512) :
    k0_pay2 x y (ix2 r l) = ∑ k : Fin 4096, x (ix2 r k) * y (ix2 k l) := by
  unfold k0_pay2
  simp only [shapeCast_self]
  pointwise

theorem scratch_A (c : Dev nD) (t : Fin cfg0.N) (h0 : t.val % 8 = 0) (r : Fin 1024) (k : Fin 4096) :
    (outsAt0 m c t.val t.isLt).2 (ix2 r k) = A m c k (1024 * (t.val / 8) + r) := by
  rw [outsAt0_A m c t h0]
  dsimp only
  unfold sout0_A_0
  refine (congrFun (View.read_writes_eq_canon _ _ _ (fun y => scover0_A_0 ..)) _).trans ?_
  unfold kernelRun0_A
  dsimp only
  sl_unfold_words
  simp only [View.canon_unit_zero (S := S1024x4096) zero2, View.readAt_eq_ld, (hs0_0 t).read_unread, View.ld_unit_zero (S := S4096x1024) zero2]
  rw [pay1, block0]

/-- The scratch holds the left block turned over, at every point of a row of tiles. -/
theorem scratch (c : Dev nD) : ∀ (n : ℕ) (hn : n < cfg0.N) (r : Fin 1024) (k : Fin 4096),
    (outsAt0 m c n hn).2 (ix2 r k) = A m c k (1024 * (n / 8) + r) := by
  intro n
  induction n with
  | zero => intro hn r k; exact scratch_A m c ⟨0, hn⟩ rfl r k
  | succ n ih =>
    intro hn r k
    by_cases h0 : (n + 1) % 8 = 0
    · exact scratch_A m c ⟨n + 1, hn⟩ h0 r k
    · rw [outsAt0_B m c ⟨n + 1, hn⟩ h0]
      dsimp only
      unfold sout0_B_0
      refine (ih (by omega) r k).trans ?_
      rw [show (n + 1) / 8 = n / 8 by omega]

/-- What a grid point leaves in its output block. -/
theorem out (c : Dev nD) (t : Fin cfg0.N) (r : Fin 1024) (l : Fin 512) :
    (outsAt0 m c t.val t.isLt).1 (ix2 r l)
      = ∑ k : Fin 4096, A m c k (1024 * (t.val / 8) + r) * B m c k (512 * (t.val % 8) + l) := by
  by_cases h0 : t.val % 8 = 0
  · rw [outsAt0_A m c t h0]
    dsimp only
    unfold out0_A_2
    refine (congrFun (View.read_writes_eq_canon _ _ _ (fun y => cover0_A_2 ..)) _).trans ?_
    unfold kernelRun0_A
    dsimp only
    sl_unfold_words
    simp only [View.canon_unit_zero (S := S1024x512) zero2, View.readAt_eq_ld, (hs0_0 t).read_unread, (hs0_1 t).read_unread, View.ld_unit_zero (S := S4096x1024) zero2, View.ld_unit_zero (S := S4096x512) zero2]
    rw [pay2]
    refine Finset.sum_congr rfl fun k _ => ?_
    rw [block1]
    rw [View.readCov_cons_toLoadRect, pay1, block0]
  · rw [outsAt0_B m c t h0]
    dsimp only
    unfold out0_B_2
    refine (congrFun (View.read_writes_eq_canon _ _ _ (fun y => cover0_B_2 ..)) _).trans ?_
    unfold kernelRun0_B
    dsimp only
    sl_unfold_words
    simp only [View.canon_unit_zero (S := S1024x512) zero2, View.readAt_eq_ld, (hs0_1 t).read_unread, View.ld_unit_zero (S := S1024x4096) zero2, View.ld_unit_zero (S := S4096x512) zero2]
    rw [pay2]
    refine Finset.sum_congr rfl fun k _ => ?_
    rw [block1]
    refine congrArg (· * _) ?_
    refine (congrFun ((Memref.isWhole_whole cc0_scratch0).read_unread _) _).trans ((scratch m c _ _ r k).trans ?_)
    rw [show (t.val - 1) / 8 = t.val / 8 by omega]

/-- The array the call leaves. -/
theorem arr (c : Dev nD) (G : S4096x4096.Idx → EReal) (h : ∀ (r : Fin 4096) (l : Fin 4096), G (ix2 r l) = ∑ k : Fin 4096, A m c k r * B m c k l) :
    (dats m 0 c).arrAt 2 cfg0.N = G := by
  refine (dats m 0 c).arrAt_eq_of_covers 2 _ (by decide +kernel) fun t hf y => ?_
  blk_simp
  rw [after0_2]
  refine (of_ix _ (fun r l => ∑ k : Fin 4096, A m c k (1024 * (t.val / 8) + r) * B m c k (512 * (t.val % 8) + l)) (fun r l => out m c t r l) y (y 0) (y 1) rfl rfl).trans
    (of_ix G (fun r l => ∑ k : Fin 4096, A m c k r * B m c k l) h _ _ _ ?_ ?_).symm
  · blk_simp [i2]; omega
  · blk_simp [i2]; omega

/-- The reference's result at an entry. -/
theorem ref_out (X : S4096x4096.Idx → EReal) (Y : S4096x4096.Idx → EReal) (r : Fin 4096) (l : Fin 4096) :
    Cert.Reference17Ideal.Read.val_main_v4 (F := Ideal) X Y (ix2 r l) = ∑ k : Fin 4096, at2 X k r * at2 Y k l := by
  unfold Cert.Reference17Ideal.Read.val_main_v4 Cert.Reference17Ideal.Read.val_main_v3 Cert.Reference17Ideal.Read.val_main_v2
  pointwise
  refine Finset.sum_congr rfl fun k _ => ?_
  rw [mul_comm, at2_ix X, at2_ix Y]

/-- The reference runs, keeps its arguments, and has no semaphore. -/
theorem ref_frame :
    Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

/-- The call's result is, on the ideal reals, the reference's. -/
theorem value : Cert.algebraic_Kernel17Ideal_Reference17Ideal (hKernel17Ideal := Cert.Kernel17Ideal.Gen.facts)
    (hReference17Ideal := Cert.Reference17Ideal.Gen.facts) := by
  intro m g m' g' _ hag
  refine ⟨fun c => Cert.Reference17Ideal.Read.val_main_v4 (F := Ideal) (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)), ?_, ?_⟩
  · refine (θ_run Cert.Kernel17Ideal.defs _ _).mono (fun _ h c => ?_) (Cert.Kernel17Ideal.Value.run_blocks m g)
    obtain ⟨a0, a1⟩ := hag c
    refine ⟨(h c).1.trans (arr m c _ fun r l => ?_), (h c).2⟩
    refine (ref_out _ _ r l).trans ?_
    rw [a0, a1]
  · refine (θ_run Cert.Reference17Ideal.defs _ _).mono (fun _ h c => ?_) (Cert.Reference17Ideal.Value.run (F := Ideal) m' g')
    exact ⟨(h c).1.trans (Cert.Reference17Ideal.Read.val_main_v4_eq _ _), (h c).2⟩

end Cert.Proof.OutDw
-- ==== Proof.BranchDw.lean ====
module

public import proofs.«01_k».proof.Defs
public import proofs.«01_k».proof.Proof.Entries
public import proofs.«01_k».proof.Proof.Gen.Kernel18Ideal.Value
public import proofs.«01_k».proof.Proof.Gen.Reference18Ideal.Run
public import proofs.«01_k».proof.Proof.Gen.Reference18Ideal.Read

/-!
The gradient of a branch's output weight, `y ᵀ · dy`, cut into eight slabs of columns.
-/

@[expose] public section

noncomputable section

open Idealize.ShloMosaic Idealize.ShloMosaic.TcCoe Idealize.SL.Sem
open Idealize.ShloMosaic.Pipeline (Dat)

namespace Cert.Proof.BranchDw

open Cert.Kernel18Ideal Cert.Kernel18Ideal.Gen Cert.Proof.Entries

variable (m : (ℓ : Loc nD τ sig) → Buf (Elt Ideal) ℓ)

abbrev A (c : Dev nD) : ℕ → ℕ → EReal := at2 (n := 4096) (k := 2048) (m ((c : Thread nD τ).loc main_arg0))
abbrev B (c : Dev nD) : ℕ → ℕ → EReal := at2 (n := 4096) (k := 4096) (m ((c : Thread nD τ).loc main_arg1))

theorem i0 : ∀ t : Fin cfg0.N, win0_0.index t = ![0, t.val / 8] := (by decide +kernel : ∀ t : Fin grid0.N, _)
theorem i1 : ∀ t : Fin cfg0.N, win0_1.index t = ![0, t.val % 8] := (by decide +kernel : ∀ t : Fin grid0.N, _)
theorem i2 : ∀ t : Fin cfg0.N, win0_2.index t = ![t.val % 8, t.val / 8, 0] := (by decide +kernel : ∀ t : Fin grid0.N, _)

theorem V0 (c : Dev nD) : (V m c main_v0 : S4096x2048.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S4096x4096.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (k : Fin 4096) (r : Fin 1024) :
    (iblk m c 0 t : S4096x1024.Idx → EReal) (ix2 k r) = A m c k (1024 * (t.val / 8) + r) := by
  blk_simp [iblk]
  refine (congrFun (V0 m c) _).trans (at2_of _ _ _ _ ?_ ?_)
  · blk_simp [i0]
  · blk_simp [i0]; omega

theorem block1 (c : Dev nD) (t : Fin cfg0.N) (k : Fin 4096) (l : Fin 512) :
    (iblk m c 1 t : S4096x512.Idx → EReal) (ix2 k l) = B m c k (512 * (t.val % 8) + l) := by
  blk_simp [iblk]
  refine (congrFun (V1 m c) _).trans (at2_of _ _ _ _ ?_ ?_)
  · blk_simp [i1]
  · blk_simp [i1]; omega

/-- The block turned over. -/
theorem pay1 (x : Vec Ideal S4096x1024 .bf16) (r : Fin 1024) (k : Fin 4096) : k0_pay1 x (ix2 r k) = x (ix2 k r) := by
  unfold k0_pay1
  simp only [shapeCast_self]
  pointwise

/-- The product of the two blocks. -/
theorem pay2 (x : Vec Ideal S1024x4096 .bf16) (y : Vec Ideal S4096x512 .bf16) (r : Fin 1024) (l : Fin 512) :
    k0_pay2 x y (ix3 0 r l) = ∑ k : Fin 4096, x (ix2 r k) * y (ix2 k l) := by
  unfold k0_pay2
  simp only [shapeCast_self]
  pointwise

theorem scratch_A (c : Dev nD) (t : Fin cfg0.N) (h0 : t.val % 8 = 0) (r : Fin 1024) (k : Fin 4096) :
    (outsAt0 m c t.val t.isLt).2 (ix2 r k) = A m c k (1024 * (t.val / 8) + r) := by
  rw [outsAt0_A m c t h0]
  dsimp only
  unfold sout0_A_0
  refine (congrFun (View.read_writes_eq_canon _ _ _ (fun y => scover0_A_0 ..)) _).trans ?_
  unfold kernelRun0_A
  dsimp only
  sl_unfold_words
  simp only [View.canon_unit_zero (S := S1024x4096) zero2, View.readAt_eq_ld, (hs0_0 t).read_unread, View.ld_unit_zero (S := S4096x1024) zero2]
  rw [pay1, block0]

/-- The scratch holds the left block turned over, at every point of a row of tiles. -/
theorem scratch (c : Dev nD) : ∀ (n : ℕ) (hn : n < cfg0.N) (r : Fin 1024) (k : Fin 4096),
    (outsAt0 m c n hn).2 (ix2 r k) = A m c k (1024 * (n / 8) + r) := by
  intro n
  induction n with
  | zero => intro hn r k; exact scratch_A m c ⟨0, hn⟩ rfl r k
  | succ n ih =>
    intro hn r k
    by_cases h0 : (n + 1) % 8 = 0
    · exact scratch_A m c ⟨n + 1, hn⟩ h0 r k
    · rw [outsAt0_B m c ⟨n + 1, hn⟩ h0]
      dsimp only
      unfold sout0_B_0
      refine (ih (by omega) r k).trans ?_
      rw [show (n + 1) / 8 = n / 8 by omega]

/-- What a grid point leaves in its output block. -/
theorem out (c : Dev nD) (t : Fin cfg0.N) (r : Fin 1024) (l : Fin 512) :
    (outsAt0 m c t.val t.isLt).1 (ix3 0 r l)
      = ∑ k : Fin 4096, A m c k (1024 * (t.val / 8) + r) * B m c k (512 * (t.val % 8) + l) := by
  by_cases h0 : t.val % 8 = 0
  · rw [outsAt0_A m c t h0]
    dsimp only
    unfold out0_A_2
    refine (congrFun (View.read_writes_eq_canon _ _ _ (fun y => cover0_A_2 ..)) _).trans ?_
    unfold kernelRun0_A
    dsimp only
    sl_unfold_words
    simp only [View.canon_unit_zero (S := S1x1024x512) zero3, View.readAt_eq_ld, (hs0_0 t).read_unread, (hs0_1 t).read_unread, View.ld_unit_zero (S := S4096x1024) zero2, View.ld_unit_zero (S := S4096x512) zero2]
    rw [pay2]
    refine Finset.sum_congr rfl fun k _ => ?_
    rw [block1]
    rw [View.readCov_cons_toLoadRect, pay1, block0]
  · rw [outsAt0_B m c t h0]
    dsimp only
    unfold out0_B_2
    refine (congrFun (View.read_writes_eq_canon _ _ _ (fun y => cover0_B_2 ..)) _).trans ?_
    unfold kernelRun0_B
    dsimp only
    sl_unfold_words
    simp only [View.canon_unit_zero (S := S1x1024x512) zero3, View.readAt_eq_ld, (hs0_1 t).read_unread, View.ld_unit_zero (S := S1024x4096) zero2, View.ld_unit_zero (S := S4096x512) zero2]
    rw [pay2]
    refine Finset.sum_congr rfl fun k _ => ?_
    rw [block1]
    refine congrArg (· * _) ?_
    refine (congrFun ((Memref.isWhole_whole cc0_scratch0).read_unread _) _).trans ((scratch m c _ _ r k).trans ?_)
    rw [show (t.val - 1) / 8 = t.val / 8 by omega]

/-- The array the call leaves: slab `s` is columns `512 s` onwards of the product. -/
theorem arr (c : Dev nD) (G : S8x2048x512.Idx → EReal)
    (h : ∀ (s : Fin 8) (r : Fin 2048) (l : Fin 512), G (ix3 s r l) = ∑ k : Fin 4096, A m c k r * B m c k (512 * s + l)) :
    (dats m 0 c).arrAt 2 cfg0.N = G := by
  refine (dats m 0 c).arrAt_eq_of_covers 2 _ (by decide +kernel) fun t hf y => ?_
  blk_simp
  rw [after0_2]
  refine (of_ix3 _ (fun _ r l => ∑ k : Fin 4096, A m c k (1024 * (t.val / 8) + r) * B m c k (512 * (t.val % 8) + l))
    (fun s r l => by rw [show s = 0 from Subsingleton.elim _ _]; exact out m c t r l) y (y 0) (y 1) (y 2) rfl rfl rfl).trans
    ((of_ix3 G (fun s r l => ∑ k : Fin 4096, A m c k r * B m c k (512 * s + l)) h _ (t.val % 8) (1024 * (t.val / 8) + (y 1 : ℕ)) (y 2 : ℕ) ?_ ?_ ?_).trans ?_).symm
  · blk_simp [i2]
  · blk_simp [i2]; omega
  · blk_simp [i2]
  · rfl

/-- The reference's result at an entry. -/
theorem ref_out (X : S4096x2048.Idx → EReal) (Y : S4096x4096.Idx → EReal) (s : Fin 8) (r : Fin 2048) (l : Fin 512) :
    Cert.Reference18Ideal.Read.val_main_v6 (F := Ideal) X Y (ix3 s r l) = ∑ k : Fin 4096, at2 X k r * at2 Y k (512 * s + l) := by
  have e : Cert.Reference18Ideal.Read.val_main_v6 (F := Ideal) X Y (ix3 s r l)
      = Cert.Reference18Ideal.Read.val_main_v3 (F := Ideal) X Y (ix2 r ⟨512 * s + l, by omega⟩) := by
    unfold Cert.Reference18Ideal.Read.val_main_v6
    pointwise
    rw [Cert.Reference18Ideal.Read.val_main_v5_apply, Cert.Reference18Ideal.Read.val_main_v4_apply]
    refine congrArg _ (funext fun a => ?_)
    have hs := s.isLt; have hl := l.isLt; have hr := r.isLt
    match a with
    | ⟨0, _⟩ => exact Fin.ext (show (((r : ℕ) * 8 + s) * 512 + l) / 4096 = r by omega)
    | ⟨1, _⟩ => exact Fin.ext (show (((r : ℕ) * 8 + s) * 512 + l) % 4096 = 512 * s + l by omega)
  rw [e]
  unfold Cert.Reference18Ideal.Read.val_main_v3 Cert.Reference18Ideal.Read.val_main_v2
  pointwise
  refine Finset.sum_congr rfl fun k _ => ?_
  rw [mul_comm, at2_ix X, at2_ix Y]

/-- The reference runs, keeps its arguments, and has no semaphore. -/
theorem ref_frame :
    Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

/-- The call's result is, on the ideal reals, the reference's. -/
theorem value : Cert.algebraic_Kernel18Ideal_Reference18Ideal (hKernel18Ideal := Cert.Kernel18Ideal.Gen.facts)
    (hReference18Ideal := Cert.Reference18Ideal.Gen.facts) := by
  intro m g m' g' _ hag
  refine ⟨fun c => Cert.Reference18Ideal.Read.val_main_v6 (F := Ideal) (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)), ?_, ?_⟩
  · refine (θ_run Cert.Kernel18Ideal.defs _ _).mono (fun _ h c => ?_) (Cert.Kernel18Ideal.Value.run_blocks m g)
    obtain ⟨a0, a1⟩ := hag c
    refine ⟨(h c).1.trans (arr m c _ fun s r l => ?_), (h c).2⟩
    refine (ref_out _ _ s r l).trans ?_
    rw [a0, a1]
  · refine (θ_run Cert.Reference18Ideal.defs _ _).mono (fun _ h c => ?_) (Cert.Reference18Ideal.Value.run (F := Ideal) m' g')
    exact ⟨(h c).1.trans (Cert.Reference18Ideal.Read.val_main_v6_eq _ _), (h c).2⟩

end Cert.Proof.BranchDw
-- ==== Proof.UpFwd.lean ====
module

public import proofs.«01_k».proof.Defs
public import proofs.«01_k».proof.Proof.Entries
public import proofs.«01_k».proof.Proof.Gen.Kernel19Ideal.Value
public import proofs.«01_k».proof.Proof.Gen.Reference19Ideal.Run
public import proofs.«01_k».proof.Proof.Gen.Reference19Ideal.Read

/-!
The channel mixer's first product `u = hn · w_up` and its activation `max(u, 0)²`.
-/

@[expose] public section

noncomputable section

open Idealize.ShloMosaic Idealize.ShloMosaic.TcCoe Idealize.SL.Sem
open Idealize.ShloMosaic.Pipeline (Dat)

namespace Cert.Proof.UpFwd

open Cert.Kernel19Ideal Cert.Kernel19Ideal.Gen Cert.Proof.Entries Cert.Reference19Ideal.Read

variable (m : (ℓ : Loc nD τ sig) → Buf (Elt Ideal) ℓ)

abbrev A (c : Dev nD) : ℕ → ℕ → EReal := at2 (n := 4096) (k := 4096) (m ((c : Thread nD τ).loc main_arg0))
abbrev B (c : Dev nD) : ℕ → ℕ → EReal := at2 (n := 4096) (k := 16384) (m ((c : Thread nD τ).loc main_arg1))
/-- The entry of the product. -/
abbrev dot (a b : ℕ → ℕ → EReal) (r l : ℕ) : EReal := ∑ k : Fin 4096, a r k * b k l

theorem i0 : ∀ t : Fin cfg0.N, win0_0.index t = ![t.val / 32, 0] := (by decide +kernel : ∀ t : Fin grid0.N, _)
theorem i1 : ∀ t : Fin cfg0.N, win0_1.index t = ![0, t.val % 32] := (by decide +kernel : ∀ t : Fin grid0.N, _)
theorem i3 : ∀ t : Fin cfg0.N, win0_3.index t = ![t.val / 32, t.val % 32] := (by decide +kernel : ∀ t : Fin grid0.N, _)
theorem i2 : ∀ t : Fin cfg0.N, win0_2.index t = ![t.val / 32, t.val % 32] := (by decide +kernel : ∀ t : Fin grid0.N, _)

theorem V0 (c : Dev nD) : (V m c main_v0 : S4096x4096.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S4096x16384.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (r : Fin 1024) (k : Fin 4096) :
    (iblk m c 0 t : S1024x4096.Idx → EReal) (ix2 r k) = A m c (1024 * (t.val / 32) + r) k := by
  blk_simp [iblk]
  refine (congrFun (V0 m c) _).trans (at2_of _ _ _ _ ?_ ?_)
  · blk_simp [i0]; omega
  · blk_simp [i0]

theorem block1 (c : Dev nD) (t : Fin cfg0.N) (k : Fin 4096) (l : Fin 512) :
    (iblk m c 1 t : S4096x512.Idx → EReal) (ix2 k l) = B m c k (512 * (t.val % 32) + l) := by
  blk_simp [iblk]
  refine (congrFun (V1 m c) _).trans (at2_of _ _ _ _ ?_ ?_)
  · blk_simp [i1]
  · blk_simp [i1]; omega

/-- The product of the two blocks. -/
theorem pay (x : Vec Ideal S1024x4096 .bf16) (y : Vec Ideal S4096x512 .bf16) (r : Fin 1024) (l : Fin 512) :
    k0_pay1 x y (ix2 r l) = ∑ k : Fin 4096, x (ix2 r k) * y (ix2 k l) := by
  unfold k0_pay1
  simp only [shapeCast_self]
  pointwise

/-- What a grid point leaves in its output block. -/
theorem out (c : Dev nD) (t : Fin cfg0.N) (r : Fin 1024) (l : Fin 512) :
    out0_2 (iblk m c 0 t) (iblk m c 1 t) (ix2 r l) = dot (A m c) (B m c) (1024 * (t.val / 32) + r) (512 * (t.val % 32) + l) := by
  unfold out0_2
  simp only [View.canon_unit_zero (S := S1024x512) zero2, View.ld_unit_zero (S := S1024x4096) zero2, View.ld_unit_zero (S := S4096x512) zero2]
  rw [pay]
  simp only [block0, block1]

/-- The square of the positive part. -/
abbrev act (u : EReal) : EReal := max u 0 * max u 0

theorem out_act (c : Dev nD) (t : Fin cfg0.N) (r : Fin 1024) (l : Fin 512) :
    out0_3 (iblk m c 0 t) (iblk m c 1 t) (ix2 r l) = act (dot (A m c) (B m c) (1024 * (t.val / 32) + r) (512 * (t.val % 32) + l)) := by
  rw [← out]
  unfold out0_3 out0_2
  simp only [View.canon_unit_zero (S := S1024x512) zero2]
  unfold k0_pay2 k0_pay1
  simp only [shapeCast_self]
  pointwise

/-- The array of products the call leaves. -/
theorem arr (c : Dev nD) (G : S4096x16384.Idx → EReal) (h : ∀ (r : Fin 4096) (l : Fin 16384), G (ix2 r l) = dot (A m c) (B m c) r l) :
    (dats m 0 c).arrAt 2 cfg0.N = G := by
  refine (dats m 0 c).arrAt_eq_of_covers 2 _ (by decide +kernel) fun t hf y => ?_
  blk_simp
  rw [after0_2]
  refine (of_ix _ (fun r l => dot (A m c) (B m c) (1024 * (t.val / 32) + r) (512 * (t.val % 32) + l)) (fun r l => out m c t r l) y (y 0) (y 1) rfl rfl).trans
    (of_ix G (dot (A m c) (B m c)) h _ _ _ ?_ ?_).symm
  · blk_simp [i2]; omega
  · blk_simp [i2]; omega

/-- The array of activations the call leaves. -/
theorem arr_act (c : Dev nD) (G : S4096x16384.Idx → EReal) (h : ∀ (r : Fin 4096) (l : Fin 16384), G (ix2 r l) = act (dot (A m c) (B m c) r l)) :
    (dats m 0 c).arrAt 3 cfg0.N = G := by
  refine (dats m 0 c).arrAt_eq_of_covers 3 _ (by decide +kernel) fun t hf y => ?_
  blk_simp
  rw [after0_3]
  refine (of_ix _ (fun r l => act (dot (A m c) (B m c) (1024 * (t.val / 32) + r) (512 * (t.val % 32) + l))) (fun r l => out_act m c t r l) y (y 0) (y 1) rfl rfl).trans
    (of_ix G (fun r l => act (dot (A m c) (B m c) r l)) h _ _ _ ?_ ?_).symm
  · blk_simp [i3]; omega
  · blk_simp [i3]; omega

/-- The reference's result at an entry. -/
theorem ref_out (X : S4096x4096.Idx → EReal) (Y : S4096x16384.Idx → EReal) (r : Fin 4096) (l : Fin 16384) :
    val_main_v0 (F := Ideal) X Y (ix2 r l) = dot (at2 X) (at2 Y) r l := by
  unfold val_main_v0
  pointwise
  simp only [at2_ix X, at2_ix Y]

theorem ref_act (X : S4096x4096.Idx → EReal) (Y : S4096x16384.Idx → EReal) (r : Fin 4096) (l : Fin 16384) :
    val_main_v3 (F := Ideal) X Y (ix2 r l) = act (dot (at2 X) (at2 Y) r l) := by
  rw [← ref_out]
  unfold val_main_v3 val_main_v2 val_main_v1 val_main_call0_v0 val_main_call0_cst
  pointwise

/-- The reference runs, keeps its arguments, and has no semaphore. -/
theorem ref_frame :
    Cert.quiescent_Reference19Ideal (hReference19Ideal := Cert.Reference19Ideal.Gen.facts) := fun m ρ _ =>
  (θ_run Cert.Reference19Ideal.defs _ _).mono (fun r h => ⟨fun c => (h c).2.2, sem_eq_zero_of_no_sems (by decide) r.2⟩)
    (Cert.Reference19Ideal.Value.run (F := Ideal) m ρ)

/-- The call's two results are, on the ideal reals, the reference's. -/
theorem value : Cert.algebraic_Kernel19Ideal_Reference19Ideal (hKernel19Ideal := Cert.Kernel19Ideal.Gen.facts)
    (hReference19Ideal := Cert.Reference19Ideal.Gen.facts) := by
  intro m g m' g' _ hag
  refine ⟨_, _, Cert.Kernel19Ideal.Value.run_blocks m g, (θ_run Cert.Reference19Ideal.defs _ _).mono (fun _ h c => ?_) (Cert.Reference19Ideal.Value.run (F := Ideal) m' g')⟩
  obtain ⟨a0, a1⟩ := hag c
  refine ⟨((h c).1.trans (val_main_v0_eq _ _)).trans (arr m c _ fun r l => ?_).symm, ((h c).2.1.trans (val_main_v3_eq _ _)).trans (arr_act m c _ fun r l => ?_).symm, (h c).2.2⟩
  · refine (ref_out _ _ r l).trans ?_
    rw [a0, a1]
  · refine (ref_act _ _ r l).trans ?_
    rw [a0, a1]

end Cert.Proof.UpFwd
-- ==== Proof.DownFwd.lean ====
module

public import proofs.«01_k».proof.Defs
public import proofs.«01_k».proof.Proof.Entries
public import proofs.«01_k».proof.Proof.Gen.Kernel20Ideal.Value
public import proofs.«01_k».proof.Proof.Gen.Reference20Ideal.Run
public import proofs.«01_k».proof.Proof.Gen.Reference20Ideal.Read

/-!
The channel mixer's second product `act · w_down`, summed up over eight tiles of its long axis.
-/

@[expose] public section

noncomputable section

open Idealize.ShloMosaic Idealize.ShloMosaic.TcCoe Idealize.SL.Sem
open Idealize.ShloMosaic.Pipeline (Dat)

namespace Cert.Proof.DownFwd

open Cert.Kernel20Ideal Cert.Kernel20Ideal.Gen Cert.Proof.Entries

variable (m : (ℓ : Loc nD τ sig) → Buf (Elt Ideal) ℓ)

abbrev A (c : Dev nD) : ℕ → ℕ → EReal := at2 (n := 4096) (k := 16384) (m ((c : Thread nD τ).loc main_arg0))
abbrev B (c : Dev nD) : ℕ → ℕ → EReal := at2 (n := 16384) (k := 4096) (m ((c : Thread nD τ).loc main_arg1))

theorem i0 : ∀ t : Fin cfg0.N, win0_0.index t = ![t.val / 32, t.val % 8] := (by decide +kernel : ∀ t : Fin grid0.N, _)
theorem i1 : ∀ t : Fin cfg0.N, win0_1.index t = ![t.val % 8, t.val / 8 % 4] := (by decide +kernel : ∀ t : Fin grid0.N, _)
theorem i2 : ∀ t : Fin cfg0.N, win0_2.index t = ![t.val / 32, t.val / 8 % 4] := (by decide +kernel : ∀ t : Fin grid0.N, _)

theorem V0 (c : Dev nD) : (V m c main_v0 : S4096x16384.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S16384x4096.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (r : Fin 1024) (k : Fin 2048) :
    (iblk m c 0 t : S1024x2048.Idx → EReal) (ix2 r k) = A m c (1024 * (t.val / 32) + r) (2048 * (t.val % 8) + k) := by
  blk_simp [iblk]
  refine (congrFun (V0 m c) _).trans (at2_of _ _ _ _ ?_ ?_)
  · blk_simp [i0]; omega
  · blk_simp [i0]; omega

theorem block1 (c : Dev nD) (t : Fin cfg0.N) (k : Fin 2048) (l : Fin 1024) :
    (iblk m c 1 t : S2048x1024.Idx → EReal) (ix2 k l) = B m c (2048 * (t.val % 8) + k) (1024 * (t.val / 8 % 4) + l) := by
  blk_simp [iblk]
  refine (congrFun (V1 m c) _).trans (at2_of _ _ _ _ ?_ ?_)
  · blk_simp [i1]; omega
  · blk_simp [i1]; omega

/-- The product of two tiles. -/
theorem pay1 (x : Vec Ideal S1024x2048 .bf16) (y : Vec Ideal S2048x1024 .bf16) (r l : Fin 1024) :
    k0_pay1 x y (ix2 r l) = ∑ k : Fin 2048, x (ix2 r k) * y (ix2 k l) := by
  unfold k0_pay1
  simp only [shapeCast_self]
  pointwise

theorem pay2 (x : Vec Ideal S1024x2048 .bf16) (y : Vec Ideal S2048x1024 .bf16) (r l : Fin 1024) :
    k0_pay2 x y (ix2 r l) = ∑ k : Fin 2048, x (ix2 r k) * y (ix2 k l) := by
  unfold k0_pay2
  simp only [shapeCast_self]
  exact pay1 x y r l

theorem pay3 (x : Vec Ideal S1024x2048 .bf16) (y : Vec Ideal S2048x1024 .bf16) (a : Vec Ideal S1024x1024 .f32) (r l : Fin 1024) :
    k0_pay3 x y a (ix2 r l) = a (ix2 r l) + ∑ k : Fin 2048, x (ix2 r k) * y (ix2 k l) := by
  unfold k0_pay3
  simp only [shapeCast_self]
  exact congrArg (a (ix2 r l) + ·) (pay1 x y r l)

theorem pay4 (x : Vec Ideal S1024x2048 .bf16) (y : Vec Ideal S2048x1024 .bf16) (a : Vec Ideal S1024x1024 .f32) (r l : Fin 1024) :
    k0_pay4 x y a (ix2 r l) = a (ix2 r l) + ∑ k : Fin 2048, x (ix2 r k) * y (ix2 k l) := by
  unfold k0_pay4
  exact congrArg (a (ix2 r l) + ·) (pay1 x y r l)

/-- One tile's part of the entry at row `r`, column `l`. -/
def part (c : Dev nD) (r l q : ℕ) : EReal := ∑ k : Fin 2048, A m c r (2048 * q + k) * B m c (2048 * q + k) l

abbrev left (c : Dev nD) (t : Fin cfg0.N) : Vec Ideal S1024x2048 .bf16 := iblk m c 0 t
abbrev right (c : Dev nD) (t : Fin cfg0.N) : Vec Ideal S2048x1024 .bf16 := iblk m c 1 t

theorem part_eq (c : Dev nD) (t : Fin cfg0.N) (r l : Fin 1024) :
    ∑ k : Fin 2048, left m c t (ix2 r k) * right m c t (ix2 k l)
      = part m c (1024 * (t.val / 32) + r) (1024 * (t.val / 8 % 4) + l) (t.val % 8) :=
  Finset.sum_congr rfl fun k _ => congrArg₂ (· * ·) (block0 m c t r k) (block1 m c t k l)

/-- The scratch holds the sum of the tiles up to the present one. -/
theorem scratch (c : Dev nD) : ∀ (n : ℕ) (hn : n < cfg0.N) (h7 : n % 8 ≠ 7) (r l : Fin 1024),
    (outsAt0 m c n hn).2 (ix2 r l)
      = ∑ q ∈ Finset.range (n % 8 + 1), part m c (1024 * (n / 32) + r) (1024 * (n / 8 % 4) + l) q := by
  have first (t : Fin cfg0.N) (h0 : t.val % 8 = 0) (r l : Fin 1024) : (outsAt0 m c t.val t.isLt).2 (ix2 r l)
      = ∑ q ∈ Finset.range (t.val % 8 + 1), part m c (1024 * (t.val / 32) + r) (1024 * (t.val / 8 % 4) + l) q := by
    rw [outsAt0_A m c t h0 (by omega) (by omega)]
    dsimp only
    unfold sout0_A_0
    refine (congrFun (View.read_writes_eq_canon _ _ _ (fun y => scover0_A_0 ..)) _).trans ?_
    unfold kernelRun0_A
    dsimp only
    sl_unfold_words
    simp only [View.canon_unit_zero (S := S1024x1024) zero2, View.readAt_eq_ld, (hs0_0 t).read_unread, (hs0_1 t).read_unread, View.ld_unit_zero (S := S1024x2048) zero2, View.ld_unit_zero (S := S2048x1024) zero2, View.ld_unit_zero (S := S1024x1024) zero2]
    refine (pay2 _ _ r l).trans ((part_eq m c t r l).trans ?_)
    rw [h0, Finset.sum_range_one]
  intro n
  induction n with
  | zero => intro hn _ r l; exact first ⟨0, hn⟩ rfl r l
  | succ n ih =>
    intro hn h7 r l
    by_cases h0 : (n + 1) % 8 = 0
    · exact first ⟨n + 1, hn⟩ h0 r l
    rw [outsAt0_B m c ⟨n + 1, hn⟩ h0 (by dsimp only; omega) h7]
    dsimp only
    unfold sout0_B_0
    refine (congrFun (View.read_writes_eq_canon _ _ _ (fun y => scover0_B_0 ..)) _).trans ?_
    unfold kernelRun0_B
    dsimp only
    sl_unfold_words
    simp only [View.canon_unit_zero (S := S1024x1024) zero2, View.readAt_eq_ld, (hs0_0 ⟨n + 1, hn⟩).read_unread, (hs0_1 ⟨n + 1, hn⟩).read_unread, View.ld_unit_zero (S := S1024x2048) zero2, View.ld_unit_zero (S := S2048x1024) zero2, View.ld_unit_zero (S := S1024x1024) zero2]
    refine (pay3 _ _ _ r l).trans ?_
    refine (congrArg (_ + ·) (part_eq m c ⟨n + 1, hn⟩ r l)).trans ?_
    dsimp only
    rw [Finset.sum_range_succ]
    refine congrArg (· + _) ((congrFun ((Memref.isWhole_whole cc0_scratch0).read_unread _) _).trans ((ih (by omega) (by omega) r l).trans ?_))
    rw [show (n + 1) % 8 = n % 8 + 1 by omega, show (n + 1) / 32 = n / 32 by omega, show (n + 1) / 8 = n / 8 by omega]

/-- What the last point of a tile's run leaves in its output block. -/
theorem out (c : Dev nD) (t : Fin cfg0.N) (h7 : t.val % 8 = 7) (r l : Fin 1024) :
    (outsAt0 m c t.val t.isLt).1 (ix2 r l)
      = ∑ k : Fin 16384, A m c (1024 * (t.val / 32) + r) k * B m c k (1024 * (t.val / 8 % 4) + l) := by
  rw [outsAt0_C m c t (by omega) (by omega) h7]
  dsimp only
  unfold out0_C_2
  refine (congrFun (View.read_writes_eq_canon _ _ _ (fun y => cover0_C_2 ..)) _).trans ?_
  unfold kernelRun0_C
  dsimp only
  sl_unfold_words
  simp only [View.canon_unit_zero (S := S1024x1024) zero2, View.readAt_eq_ld, (hs0_0 t).read_unread, (hs0_1 t).read_unread, View.ld_unit_zero (S := S1024x2048) zero2, View.ld_unit_zero (S := S2048x1024) zero2, View.ld_unit_zero (S := S1024x1024) zero2]
  refine (pay4 _ _ _ r l).trans ?_
  refine (congrArg (_ + ·) (part_eq m c t r l)).trans ?_
  rw [← sum_tiles 2048 8 fun k => A m c (1024 * (t.val / 32) + r) k * B m c k (1024 * (t.val / 8 % 4) + l), h7]
  refine Eq.trans ?_ (Finset.sum_range_succ _ 7).symm
  refine congrArg (· + _) ((congrFun ((Memref.isWhole_whole cc0_scratch0).read_unread _) _).trans ((scratch m c _ _ (by omega) r l).trans ?_))
  rw [show (t.val - 1) % 8 + 1 = 7 by omega, show (t.val - 1) / 32 = t.val / 32 by omega, show (t.val - 1) / 8 = t.val / 8 by omega]
  rfl

/-- The array the call leaves. -/
theorem arr (c : Dev nD) (G : S4096x4096.Idx → EReal) (h : ∀ (r l : Fin 4096), G (ix2 r l) = ∑ k : Fin 16384, A m c r k * B m c k l) :
    (dats m 0 c).arrAt 2 cfg0.N = G := by
  refine (dats m 0 c).arrAt_eq_of_covers 2 _ (by decide +kernel) fun t hf y => ?_
  have h7 : t.val % 8 = 7 := (flush0_2 t).mp hf
  blk_simp
  rw [after0_2]
  refine (of_ix _ (fun r l => ∑ k : Fin 16384, A m c (1024 * (t.val / 32) + r) k * B m c k (1024 * (t.val / 8 % 4) + l)) (fun r l => out m c t h7 r l) y (y 0) (y 1) rfl rfl).trans
    (of_ix G (fun r l => ∑ k : Fin 16384, A m c r k * B m c k l) h _ _ _ ?_ ?_).symm
  · blk_simp [i2]; omega
  · blk_simp [i2]; omega

/-- The reference's result at an entry. -/
theorem ref_out (X : S4096x16384.Idx → EReal) (Y : S16384x4096.Idx → EReal) (r l : Fin 4096) :
    Cert.Reference20Ideal.Read.val_main_v0 (F := Ideal) X Y (ix2 r l) = ∑ k : Fin 16384, at2 X r k * at2 Y k l := by
  unfold Cert.Reference20Ideal.Read.val_main_v0
  pointwise
  refine Finset.sum_congr rfl fun k _ => ?_
  rw [at2_ix X, at2_ix Y]

/-- The reference runs, keeps its arguments, and has no semaphore. -/
theorem ref_frame :
    Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

/-- The call's result is, on the ideal reals, the reference's. -/
theorem value : Cert.algebraic_Kernel20Ideal_Reference20Ideal (hKernel20Ideal := Cert.Kernel20Ideal.Gen.facts)
    (hReference20Ideal := Cert.Reference20Ideal.Gen.facts) := by
  intro m g m' g' _ hag
  refine ⟨fun c => Cert.Reference20Ideal.Read.val_main_v0 (F := Ideal) (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)), ?_, ?_⟩
  · refine (θ_run Cert.Kernel20Ideal.defs _ _).mono (fun _ h c => ?_) (Cert.Kernel20Ideal.Value.run_blocks m g)
    obtain ⟨a0, a1⟩ := hag c
    refine ⟨(h c).1.trans (arr m c _ fun r l => ?_), (h c).2⟩
    refine (ref_out _ _ r l).trans ?_
    rw [a0, a1]
  · refine (θ_run Cert.Reference20Ideal.defs _ _).mono (fun _ h c => ?_) (Cert.Reference20Ideal.Value.run (F := Ideal) m' g')
    exact ⟨(h c).1.trans (Cert.Reference20Ideal.Read.val_main_v0_eq _ _), (h c).2⟩

end Cert.Proof.DownFwd
-- ==== Proof.InTop.lean ====
module

public import proofs.«01_k».proof.Defs
public import proofs.«01_k».proof.Proof.Entries
public import proofs.«01_k».proof.Proof.Gen.Kernel21Ideal.Value
public import proofs.«01_k».proof.Proof.Gen.Reference21Ideal.Run
public import proofs.«01_k».proof.Proof.Gen.Reference21Ideal.Read

/-!
The combined input projection's part of the upper half of the weight's rows.
-/

@[expose] public section

noncomputable section

open Idealize.ShloMosaic Idealize.ShloMosaic.TcCoe Idealize.SL.Sem
open Idealize.ShloMosaic.Pipeline (Dat)

namespace Cert.Proof.InTop

open Cert.Kernel21Ideal Cert.Kernel21Ideal.Gen Cert.Proof.Entries Cert.Reference21Ideal.Read

variable (m : (ℓ : Loc nD τ sig) → Buf (Elt Ideal) ℓ)

abbrev A (c : Dev nD) : ℕ → ℕ → EReal := at2 (n := 4096) (k := 2048) (m ((c : Thread nD τ).loc main_arg0))
abbrev B (c : Dev nD) : ℕ → ℕ → EReal := at2 (n := 2048) (k := 21504) (m ((c : Thread nD τ).loc main_arg1))
/-- The entry of the product. -/
abbrev dot (a b : ℕ → ℕ → EReal) (r l : ℕ) : EReal := ∑ k : Fin 2048, a r k * b k l

theorem i0 : ∀ t : Fin cfg0.N, win0_0.index t = ![t.val / 42, 0] := (by decide +kernel : ∀ t : Fin grid0.N, _)
theorem i1 : ∀ t : Fin cfg0.N, win0_1.index t = ![0, t.val % 42] := (by decide +kernel : ∀ t : Fin grid0.N, _)
theorem i2 : ∀ t : Fin cfg0.N, win0_2.index t = ![t.val / 42, t.val % 42] := (by decide +kernel : ∀ t : Fin grid0.N, _)

theorem V0 (c : Dev nD) : (V m c main_v0 : S4096x2048.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S2048x21504.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (r : Fin 1024) (k : Fin 2048) :
    (iblk m c 0 t : S1024x2048.Idx → EReal) (ix2 r k) = A m c (1024 * (t.val / 42) + r) k := by
  blk_simp [iblk]
  refine (congrFun (V0 m c) _).trans (at2_of _ _ _ _ ?_ ?_)
  · blk_simp [i0]; omega
  · blk_simp [i0]

theorem block1 (c : Dev nD) (t : Fin cfg0.N) (k : Fin 2048) (l : Fin 512) :
    (iblk m c 1 t : S2048x512.Idx → EReal) (ix2 k l) = B m c k (512 * (t.val % 42) + l) := by
  blk_simp [iblk]
  refine (congrFun (V1 m c) _).trans (at2_of _ _ _ _ ?_ ?_)
  · blk_simp [i1]
  · blk_simp [i1]; omega

/-- The product of the two blocks. -/
theorem pay (x : Vec Ideal S1024x2048 .bf16) (y : Vec Ideal S2048x512 .bf16) (r : Fin 1024) (l : Fin 512) :
    k0_pay1 x y (ix2 r l) = ∑ k : Fin 2048, x (ix2 r k) * y (ix2 k l) := by
  unfold k0_pay1
  simp only [shapeCast_self]
  pointwise

/-- What a grid point leaves in its output block. -/
theorem out (c : Dev nD) (t : Fin cfg0.N) (r : Fin 1024) (l : Fin 512) :
    out0_2 (iblk m c 0 t) (iblk m c 1 t) (ix2 r l) = dot (A m c) (B m c) (1024 * (t.val / 42) + r) (512 * (t.val % 42) + l) := by
  unfold out0_2
  simp only [View.canon_unit_zero (S := S1024x512) zero2, View.ld_unit_zero (S := S1024x2048) zero2, View.ld_unit_zero (S := S2048x512) zero2]
  rw [pay]
  simp only [block0, block1]

/-- The array the call leaves. -/
theorem arr (c : Dev nD) (G : S4096x21504.Idx → EReal) (h : ∀ (r : Fin 4096) (l : Fin 21504), G (ix2 r l) = dot (A m c) (B m c) r l) :
    (dats m 0 c).arrAt 2 cfg0.N = G := by
  refine (dats m 0 c).arrAt_eq_of_covers 2 _ (by decide +kernel) fun t hf y => ?_
  blk_simp
  rw [after0_2]
  refine (of_ix _ (fun r l => dot (A m c) (B m c) (1024 * (t.val / 42) + r) (512 * (t.val % 42) + l)) (fun r l => out m c t r l) y (y 0) (y 1) rfl rfl).trans
    (of_ix G (dot (A m c) (B m c)) h _ _ _ ?_ ?_).symm
  · blk_simp [i2]; omega
  · blk_simp [i2]; omega

/-- The reference's result at an entry. -/
theorem ref_out (X : S4096x2048.Idx → EReal) (Y : S2048x21504.Idx → EReal) (r : Fin 4096) (l : Fin 21504) :
    val_main_v0 (F := Ideal) X Y (ix2 r l) = dot (at2 X) (at2 Y) r l := by
  unfold val_main_v0
  pointwise
  simp only [at2_ix X, at2_ix Y]

/-- The reference runs, keeps its arguments, and has no semaphore. -/
theorem ref_frame :
    Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run (F := Ideal) m ρ)

/-- The call's result is, on the ideal reals, the reference's. -/
theorem value : Cert.algebraic_Kernel21Ideal_Reference21Ideal (hKernel21Ideal := Cert.Kernel21Ideal.Gen.facts)
    (hReference21Ideal := Cert.Reference21Ideal.Gen.facts) := by
  intro m g m' g' _ hag
  refine ⟨_, Cert.Kernel21Ideal.Value.run_blocks m g, (θ_run Cert.Reference21Ideal.defs _ _).mono (fun _ h c => ?_) (Cert.Reference21Ideal.Value.run (F := Ideal) m' g')⟩
  obtain ⟨a0, a1⟩ := hag c
  refine ⟨((h c).1.trans (val_main_v0_eq _ _)).trans (arr m c _ fun r l => ?_).symm, (h c).2⟩
  refine (ref_out _ _ r l).trans ?_
  rw [a0, a1]

end Cert.Proof.InTop
-- ==== Proof.InDx.lean ====
module

public import proofs.«01_k».proof.Defs
public import proofs.«01_k».proof.Proof.Entries
public import proofs.«01_k».proof.Proof.Gen.Kernel22Ideal.Value
public import proofs.«01_k».proof.Proof.Gen.Reference22Ideal.Run
public import proofs.«01_k».proof.Proof.Gen.Reference22Ideal.Read

/-!
The gradient of the normed input of the combined projection, `dp · w_inᵀ`, summed over 21 tiles of the projected width in a
scratch. The weight comes as two arrays, the upper and the lower half of its rows.
-/

@[expose] public section

noncomputable section

open Idealize.ShloMosaic Idealize.ShloMosaic.TcCoe Idealize.SL.Sem
open Idealize.ShloMosaic.Pipeline (Dat)

namespace Cert.Proof.InDx

open Cert.Kernel22Ideal Cert.Kernel22Ideal.Gen Cert.Proof.Entries

variable (m : (ℓ : Loc nD τ sig) → Buf (Elt Ideal) ℓ)

abbrev A (c : Dev nD) : ℕ → ℕ → EReal := at2 (n := 4096) (k := 21504) (m ((c : Thread nD τ).loc main_arg0))
abbrev B (c : Dev nD) : ℕ → ℕ → EReal := at2 (n := 4096) (k := 21504) (m ((c : Thread nD τ).loc main_arg1))

theorem i0 : ∀ t : Fin cfg0.N, win0_0.index t = ![t.val / 84, t.val % 21] := (by decide +kernel : ∀ t : Fin grid0.N, _)
theorem i1 : ∀ t : Fin cfg0.N, win0_1.index t = ![min (t.val / 21 % 4) 1, t.val % 21] := (by decide +kernel : ∀ t : Fin grid0.N, _)
theorem i2 : ∀ t : Fin cfg0.N, win0_2.index t = ![t.val / 21 % 4 - 2, t.val % 21] := (by decide +kernel : ∀ t : Fin grid0.N, _)
theorem i3 : ∀ t : Fin cfg0.N, win0_3.index t = ![t.val / 84, t.val / 21 % 4] := (by decide +kernel : ∀ t : Fin grid0.N, _)

theorem V0 (c : Dev nD) : (V m c main_v1 : S4096x21504.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

/-- The upper half of the weight's rows. -/
theorem V1 (c : Dev nD) (r : Fin 2048) (k : Fin 21504) : (V m c main_v2 : S2048x21504.Idx → EReal) (ix2 r k) = B m c r k := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
  exact at2_ix _ _ _

/-- The lower half. -/
theorem V2 (c : Dev nD) (r : Fin 2048) (k : Fin 21504) : (V m c main_v3 : S2048x21504.Idx → EReal) (ix2 r k) = B m c (2048 + r) k := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise
  exact at2_ix _ _ _

theorem block0 (c : Dev nD) (t : Fin cfg0.N) (r : Fin 1024) (k : Fin 1024) :
    (iblk m c 0 t : S1024x1024.Idx → EReal) (ix2 r k) = A m c (1024 * (t.val / 84) + r) (1024 * (t.val % 21) + k) := by
  blk_simp [iblk]
  refine (congrFun (V0 m c) _).trans (at2_of _ _ _ _ ?_ ?_)
  · blk_simp [i0]; omega
  · blk_simp [i0]; omega

theorem block1 (c : Dev nD) (t : Fin cfg0.N) (h : t.val / 21 % 4 ≤ 1) (l : Fin 1024) (k : Fin 1024) :
    (iblk m c 1 t : S1024x1024.Idx → EReal) (ix2 l k) = B m c (1024 * (t.val / 21 % 4) + l) (1024 * (t.val % 21) + k) := by
  blk_simp [iblk]
  refine of_ix _ _ (V1 m c) _ _ _ ?_ ?_
  · blk_simp [i1]; omega
  · blk_simp [i1]; omega

theorem block2 (c : Dev nD) (t : Fin cfg0.N) (h : ¬t.val / 21 % 4 ≤ 1) (l : Fin 1024) (k : Fin 1024) :
    (iblk m c 2 t : S1024x1024.Idx → EReal) (ix2 l k) = B m c (1024 * (t.val / 21 % 4) + l) (1024 * (t.val % 21) + k) := by
  blk_simp [iblk]
  refine (of_ix _ (fun r k => B m c (2048 + r) k) (V2 m c) _ (1024 * (t.val / 21 % 4 - 2) + l) (1024 * (t.val % 21) + k) ?_ ?_).trans ?_
  · blk_simp [i2]; omega
  · blk_simp [i2]; omega
  · rw [show 2048 + (1024 * (t.val / 21 % 4 - 2) + (l : ℕ)) = 1024 * (t.val / 21 % 4) + l by omega]

/-- The product of two tiles. -/
theorem pay1 (x y : Vec Ideal S1024x1024 .bf16) (r l : Fin 1024) :
    k0_pay1 x y (ix2 r l) = ∑ k : Fin 1024, x (ix2 r k) * y (ix2 l k) := by
  unfold k0_pay1
  simp only [shapeCast_self]
  pointwise

/-- A tile's first product, the product added on, and the same at the last tile. -/
theorem pay2 (x y : Vec Ideal S1024x1024 .bf16) (r l : Fin 1024) :
    k0_pay2 x y (ix2 r l) = ∑ k : Fin 1024, x (ix2 r k) * y (ix2 l k) := by
  unfold k0_pay2
  simp only [shapeCast_self]
  exact pay1 x y r l

theorem pay3 (x y : Vec Ideal S1024x1024 .bf16) (a : Vec Ideal S1024x1024 .f32) (r l : Fin 1024) :
    k0_pay3 x y a (ix2 r l) = a (ix2 r l) + ∑ k : Fin 1024, x (ix2 r k) * y (ix2 l k) := by
  unfold k0_pay3
  simp only [shapeCast_self]
  exact congrArg (a (ix2 r l) + ·) (pay1 x y r l)

theorem pay4 (x y : Vec Ideal S1024x1024 .bf16) (a : Vec Ideal S1024x1024 .f32) (r l : Fin 1024) :
    k0_pay4 x y a (ix2 r l) = a (ix2 r l) + ∑ k : Fin 1024, x (ix2 r k) * y (ix2 l k) := by
  unfold k0_pay4
  exact congrArg (a (ix2 r l) + ·) (pay1 x y r l)

/-- One tile's part of the entry at row `r`, column `l`. -/
def part (c : Dev nD) (r l q : ℕ) : EReal := ∑ k : Fin 1024, A m c r (1024 * q + k) * B m c l (1024 * q + k)

abbrev left (c : Dev nD) (t : Fin cfg0.N) : Vec Ideal S1024x1024 .bf16 := iblk m c 0 t
abbrev upper (c : Dev nD) (t : Fin cfg0.N) : Vec Ideal S1024x1024 .bf16 := iblk m c 1 t
abbrev lower (c : Dev nD) (t : Fin cfg0.N) : Vec Ideal S1024x1024 .bf16 := iblk m c 2 t

theorem part_upper (c : Dev nD) (t : Fin cfg0.N) (h : t.val / 21 % 4 ≤ 1) (r l : Fin 1024) :
    ∑ k : Fin 1024, left m c t (ix2 r k) * upper m c t (ix2 l k)
      = part m c (1024 * (t.val / 84) + r) (1024 * (t.val / 21 % 4) + l) (t.val % 21) :=
  Finset.sum_congr rfl fun k _ => congrArg₂ (· * ·) (block0 m c t r k) (block1 m c t h l k)

theorem part_lower (c : Dev nD) (t : Fin cfg0.N) (h : ¬t.val / 21 % 4 ≤ 1) (r l : Fin 1024) :
    ∑ k : Fin 1024, left m c t (ix2 r k) * lower m c t (ix2 l k)
      = part m c (1024 * (t.val / 84) + r) (1024 * (t.val / 21 % 4) + l) (t.val % 21) :=
  Finset.sum_congr rfl fun k _ => congrArg₂ (· * ·) (block0 m c t r k) (block2 m c t h l k)

/-- The first tile of an entry's run puts its part into the scratch. -/
theorem first (c : Dev nD) (t : Fin cfg0.N) (h0 : t.val % 21 = 0) (r l : Fin 1024) : (outsAt0 m c t.val t.isLt).2 (ix2 r l)
    = part m c (1024 * (t.val / 84) + r) (1024 * (t.val / 21 % 4) + l) (t.val % 21) := by
  by_cases hj : t.val / 21 % 4 ≤ 1
  · rw [outsAt0_A m c t hj h0 (by omega) (by omega) (by omega)]
    dsimp only
    unfold sout0_A_0
    refine (congrFun (View.read_writes_eq_canon _ _ _ (fun y => scover0_A_0 ..)) _).trans ?_
    unfold kernelRun0_A
    dsimp only
    sl_unfold_words
    simp only [View.canon_unit_zero (S := S1024x1024) zero2, View.readAt_eq_ld, (hs0_0 t).read_unread, (hs0_1 t).read_unread, View.ld_unit_zero (S := S1024x1024) zero2]
    exact (pay2 _ _ r l).trans (part_upper m c t hj r l)
  · rw [outsAt0_D m c t hj (by omega) h0 (by omega) (by omega)]
    dsimp only
    unfold sout0_D_0
    refine (congrFun (View.read_writes_eq_canon _ _ _ (fun y => scover0_D_0 ..)) _).trans ?_
    unfold kernelRun0_D
    dsimp only
    sl_unfold_words
    simp only [View.canon_unit_zero (S := S1024x1024) zero2, View.readAt_eq_ld, (hs0_0 t).read_unread, (hs0_2 t).read_unread, View.ld_unit_zero (S := S1024x1024) zero2]
    exact (pay2 _ _ r l).trans (part_lower m c t hj r l)

/-- A tile between adds its part to what the point before left there. -/
theorem next (c : Dev nD) (t : Fin cfg0.N) (h0 : t.val % 21 ≠ 0) (h20 : t.val % 21 ≠ 20) (r l : Fin 1024) : (outsAt0 m c t.val t.isLt).2 (ix2 r l)
    = (outsAt0 m c (t.val - 1) (by omega)).2 (ix2 r l) + part m c (1024 * (t.val / 84) + r) (1024 * (t.val / 21 % 4) + l) (t.val % 21) := by
  by_cases hj : t.val / 21 % 4 ≤ 1
  · rw [outsAt0_B m c t hj h0 (by omega) h20 (by omega)]
    dsimp only
    unfold sout0_B_0
    refine (congrFun (View.read_writes_eq_canon _ _ _ (fun y => scover0_B_0 ..)) _).trans ?_
    unfold kernelRun0_B
    dsimp only
    sl_unfold_words
    simp only [View.canon_unit_zero (S := S1024x1024) zero2, View.readAt_eq_ld, (hs0_0 t).read_unread, (hs0_1 t).read_unread, View.ld_unit_zero (S := S1024x1024) zero2]
    exact (pay3 _ _ _ r l).trans (congrArg₂ (· + ·) (congrFun ((Memref.isWhole_whole cc0_scratch0).read_unread _) _) (part_upper m c t hj r l))
  · rw [outsAt0_E m c t hj (by omega) h0 (by omega) h20]
    dsimp only
    unfold sout0_E_0
    refine (congrFun (View.read_writes_eq_canon _ _ _ (fun y => scover0_E_0 ..)) _).trans ?_
    unfold kernelRun0_E
    dsimp only
    sl_unfold_words
    simp only [View.canon_unit_zero (S := S1024x1024) zero2, View.readAt_eq_ld, (hs0_0 t).read_unread, (hs0_2 t).read_unread, View.ld_unit_zero (S := S1024x1024) zero2]
    exact (pay3 _ _ _ r l).trans (congrArg₂ (· + ·) (congrFun ((Memref.isWhole_whole cc0_scratch0).read_unread _) _) (part_lower m c t hj r l))

/-- The last tile puts the scratch and its own part into the output block. -/
theorem last (c : Dev nD) (t : Fin cfg0.N) (h20 : t.val % 21 = 20) (r l : Fin 1024) : (outsAt0 m c t.val t.isLt).1 (ix2 r l)
    = (outsAt0 m c (t.val - 1) (by omega)).2 (ix2 r l) + part m c (1024 * (t.val / 84) + r) (1024 * (t.val / 21 % 4) + l) (t.val % 21) := by
  by_cases hj : t.val / 21 % 4 ≤ 1
  · rw [outsAt0_C m c t hj (by omega) (by omega) h20 (by omega)]
    dsimp only
    unfold out0_C_3
    refine (congrFun (View.read_writes_eq_canon _ _ _ (fun y => cover0_C_3 ..)) _).trans ?_
    unfold kernelRun0_C
    dsimp only
    sl_unfold_words
    simp only [View.canon_unit_zero (S := S1024x1024) zero2, View.readAt_eq_ld, (hs0_0 t).read_unread, (hs0_1 t).read_unread, View.ld_unit_zero (S := S1024x1024) zero2]
    exact (pay4 _ _ _ r l).trans (congrArg₂ (· + ·) (congrFun ((Memref.isWhole_whole cc0_scratch0).read_unread _) _) (part_upper m c t hj r l))
  · rw [outsAt0_F m c t hj (by omega) (by omega) (by omega) h20]
    dsimp only
    unfold out0_F_3
    refine (congrFun (View.read_writes_eq_canon _ _ _ (fun y => cover0_F_3 ..)) _).trans ?_
    unfold kernelRun0_F
    dsimp only
    sl_unfold_words
    simp only [View.canon_unit_zero (S := S1024x1024) zero2, View.readAt_eq_ld, (hs0_0 t).read_unread, (hs0_2 t).read_unread, View.ld_unit_zero (S := S1024x1024) zero2]
    exact (pay4 _ _ _ r l).trans (congrArg₂ (· + ·) (congrFun ((Memref.isWhole_whole cc0_scratch0).read_unread _) _) (part_lower m c t hj r l))

/-- The scratch holds the sum of the tiles up to the present one. -/
theorem scratch (c : Dev nD) : ∀ (n : ℕ) (hn : n < cfg0.N) (h20 : n % 21 ≠ 20) (r l : Fin 1024),
    (outsAt0 m c n hn).2 (ix2 r l)
      = ∑ q ∈ Finset.range (n % 21 + 1), part m c (1024 * (n / 84) + r) (1024 * (n / 21 % 4) + l) q := by
  intro n
  induction n with
  | zero => intro hn _ r l; rw [first m c ⟨0, hn⟩ rfl r l]; exact (Finset.sum_range_one fun q => part m c _ _ q).symm
  | succ n ih =>
    intro hn h20 r l
    by_cases h0 : (n + 1) % 21 = 0
    · rw [first m c ⟨n + 1, hn⟩ h0 r l, h0]
      exact (Finset.sum_range_one fun q => part m c _ _ q).symm
    rw [next m c ⟨n + 1, hn⟩ h0 h20 r l, Finset.sum_range_succ]
    refine congrArg (· + _) ((ih (by omega) (by omega) r l).trans ?_)
    rw [show (n + 1) % 21 = n % 21 + 1 by omega, show (n + 1) / 84 = n / 84 by omega, show (n + 1) / 21 = n / 21 by omega]

/-- What the last point of a tile's run leaves in its output block. -/
theorem out (c : Dev nD) (t : Fin cfg0.N) (h20 : t.val % 21 = 20) (r l : Fin 1024) :
    (outsAt0 m c t.val t.isLt).1 (ix2 r l)
      = ∑ k : Fin 21504, A m c (1024 * (t.val / 84) + r) k * B m c (1024 * (t.val / 21 % 4) + l) k := by
  rw [last m c t h20, ← sum_tiles 1024 21 fun k => A m c (1024 * (t.val / 84) + r) k * B m c (1024 * (t.val / 21 % 4) + l) k, h20]
  refine Eq.trans ?_ (Finset.sum_range_succ _ 20).symm
  refine congrArg (· + _) ((scratch m c _ _ (by omega) r l).trans ?_)
  rw [show (t.val - 1) % 21 + 1 = 20 by omega, show (t.val - 1) / 84 = t.val / 84 by omega, show (t.val - 1) / 21 = t.val / 21 by omega]
  rfl

/-- The array the call leaves. -/
theorem arr (c : Dev nD) (G : S4096x4096.Idx → EReal) (h : ∀ (r l : Fin 4096), G (ix2 r l) = ∑ k : Fin 21504, A m c r k * B m c l k) :
    (dats m 0 c).arrAt 3 cfg0.N = G := by
  refine (dats m 0 c).arrAt_eq_of_covers 3 _ (by decide +kernel) fun t hf y => ?_
  have h20 : t.val % 21 = 20 := (flush0_3 t).mp hf
  blk_simp
  rw [after0_3]
  refine (of_ix _ (fun r l => ∑ k : Fin 21504, A m c (1024 * (t.val / 84) + r) k * B m c (1024 * (t.val / 21 % 4) + l) k) (fun r l => out m c t h20 r l) y (y 0) (y 1) rfl rfl).trans
    (of_ix G (fun r l => ∑ k : Fin 21504, A m c r k * B m c l k) h _ _ _ ?_ ?_).symm
  · blk_simp [i3]; omega
  · blk_simp [i3]; omega

/-- The reference's result at an entry. -/
theorem ref_out (X Y : S4096x21504.Idx → EReal) (r l : Fin 4096) :
    Cert.Reference22Ideal.Read.val_main_v2 (F := Ideal) X Y (ix2 r l) = ∑ k : Fin 21504, at2 X r k * at2 Y l k := by
  unfold Cert.Reference22Ideal.Read.val_main_v2
  pointwise
  refine Finset.sum_congr rfl fun k _ => ?_
  rw [at2_ix X, at2_ix Y]

/-- The reference runs, keeps its arguments, and has no semaphore. -/
theorem ref_frame :
    Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run (F := Ideal) m ρ)

/-- The call's result is, on the ideal reals, the reference's. -/
theorem value : Cert.algebraic_Kernel22Ideal_Reference22Ideal (hKernel22Ideal := Cert.Kernel22Ideal.Gen.facts)
    (hReference22Ideal := Cert.Reference22Ideal.Gen.facts) := by
  intro m g m' g' _ hag
  refine ⟨fun c => Cert.Reference22Ideal.Read.val_main_v2 (F := Ideal) (m' ((c.tc : Thread Cert.Reference22Ideal.nD Cert.Reference22Ideal.τ).loc Cert.Reference22Ideal.main_arg0)) (m' ((c.tc : Thread Cert.Reference22Ideal.nD Cert.Reference22Ideal.τ).loc Cert.Reference22Ideal.main_arg1)), ?_, ?_⟩
  · refine (θ_run Cert.Kernel22Ideal.defs _ _).mono (fun _ h c => ?_) (Cert.Kernel22Ideal.Value.run_blocks m g)
    obtain ⟨a0, a1⟩ := hag c
    refine ⟨(h c).1.trans (arr m c _ fun r l => ?_), (h c).2⟩
    refine (ref_out _ _ r l).trans ?_
    rw [a0, a1]
  · refine (θ_run Cert.Reference22Ideal.defs _ _).mono (fun _ h c => ?_) (Cert.Reference22Ideal.Value.run (F := Ideal) m' g')
    exact ⟨(h c).1.trans (Cert.Reference22Ideal.Read.val_main_v2_eq _ _), (h c).2⟩

end Cert.Proof.InDx
-- ==== Proof.OutDx.lean ====
module

public import proofs.«01_k».proof.Defs
public import proofs.«01_k».proof.Proof.Entries
public import proofs.«01_k».proof.Proof.Gen.Kernel23Ideal.Value
public import proofs.«01_k».proof.Proof.Gen.Reference23Ideal.Run
public import proofs.«01_k».proof.Proof.Gen.Reference23Ideal.Read

/-!
The gradient of the merged branches, `dh1 · w_outᵀ`.
-/

@[expose] public section

noncomputable section

open Idealize.ShloMosaic Idealize.ShloMosaic.TcCoe Idealize.SL.Sem
open Idealize.ShloMosaic.Pipeline (Dat)

namespace Cert.Proof.OutDx

open Cert.Kernel23Ideal Cert.Kernel23Ideal.Gen Cert.Proof.Entries Cert.Reference23Ideal.Read

variable (m : (ℓ : Loc nD τ sig) → Buf (Elt Ideal) ℓ)

abbrev A (c : Dev nD) : ℕ → ℕ → EReal := at2 (n := 4096) (k := 4096) (m ((c : Thread nD τ).loc main_arg0))
abbrev B (c : Dev nD) : ℕ → ℕ → EReal := at2 (n := 4096) (k := 4096) (m ((c : Thread nD τ).loc main_arg1))
/-- The entry of the product. -/
abbrev dot (a b : ℕ → ℕ → EReal) (r l : ℕ) : EReal := ∑ k : Fin 4096, a r k * b l k

theorem i0 : ∀ t : Fin cfg0.N, win0_0.index t = ![t.val / 8, 0] := (by decide +kernel : ∀ t : Fin grid0.N, _)
theorem i1 : ∀ t : Fin cfg0.N, win0_1.index t = ![t.val % 8, 0] := (by decide +kernel : ∀ t : Fin grid0.N, _)
theorem i2 : ∀ t : Fin cfg0.N, win0_2.index t = ![t.val / 8, t.val % 8] := (by decide +kernel : ∀ t : Fin grid0.N, _)

theorem V0 (c : Dev nD) : (V m c main_v0 : S4096x4096.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S4096x4096.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (r : Fin 1024) (k : Fin 4096) :
    (iblk m c 0 t : S1024x4096.Idx → EReal) (ix2 r k) = A m c (1024 * (t.val / 8) + r) k := by
  blk_simp [iblk]
  refine (congrFun (V0 m c) _).trans (at2_of _ _ _ _ ?_ ?_)
  · blk_simp [i0]; omega
  · blk_simp [i0]

theorem block1 (c : Dev nD) (t : Fin cfg0.N) (l : Fin 512) (k : Fin 4096) :
    (iblk m c 1 t : S512x4096.Idx → EReal) (ix2 l k) = B m c (512 * (t.val % 8) + l) k := by
  blk_simp [iblk]
  refine (congrFun (V1 m c) _).trans (at2_of _ _ _ _ ?_ ?_)
  · blk_simp [i1]; omega
  · blk_simp [i1]

/-- The product of the two blocks. -/
theorem pay (x : Vec Ideal S1024x4096 .bf16) (y : Vec Ideal S512x4096 .bf16) (r : Fin 1024) (l : Fin 512) :
    k0_pay1 x y (ix2 r l) = ∑ k : Fin 4096, x (ix2 r k) * y (ix2 l k) := by
  unfold k0_pay1
  simp only [shapeCast_self]
  pointwise

/-- What a grid point leaves in its output block. -/
theorem out (c : Dev nD) (t : Fin cfg0.N) (r : Fin 1024) (l : Fin 512) :
    out0_2 (iblk m c 0 t) (iblk m c 1 t) (ix2 r l) = dot (A m c) (B m c) (1024 * (t.val / 8) + r) (512 * (t.val % 8) + l) := by
  unfold out0_2
  simp only [View.canon_unit_zero (S := S1024x512) zero2, View.ld_unit_zero (S := S1024x4096) zero2, View.ld_unit_zero (S := S512x4096) zero2]
  rw [pay]
  simp only [block0, block1]

/-- The array the call leaves. -/
theorem arr (c : Dev nD) (G : S4096x4096.Idx → EReal) (h : ∀ (r : Fin 4096) (l : Fin 4096), G (ix2 r l) = dot (A m c) (B m c) r l) :
    (dats m 0 c).arrAt 2 cfg0.N = G := by
  refine (dats m 0 c).arrAt_eq_of_covers 2 _ (by decide +kernel) fun t hf y => ?_
  blk_simp
  rw [after0_2]
  refine (of_ix _ (fun r l => dot (A m c) (B m c) (1024 * (t.val / 8) + r) (512 * (t.val % 8) + l)) (fun r l => out m c t r l) y (y 0) (y 1) rfl rfl).trans
    (of_ix G (dot (A m c) (B m c)) h _ _ _ ?_ ?_).symm
  · blk_simp [i2]; omega
  · blk_simp [i2]; omega

/-- The reference's result at an entry. -/
theorem ref_out (X : S4096x4096.Idx → EReal) (Y : S4096x4096.Idx → EReal) (r : Fin 4096) (l : Fin 4096) :
    val_main_v2 (F := Ideal) X Y (ix2 r l) = dot (at2 X) (at2 Y) r l := by
  unfold val_main_v2
  pointwise
  simp only [at2_ix X, at2_ix Y]

/-- The reference runs, keeps its arguments, and has no semaphore. -/
theorem ref_frame :
    Cert.quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run (F := Ideal) m ρ)

/-- The call's result is, on the ideal reals, the reference's. -/
theorem value : Cert.algebraic_Kernel23Ideal_Reference23Ideal (hKernel23Ideal := Cert.Kernel23Ideal.Gen.facts)
    (hReference23Ideal := Cert.Reference23Ideal.Gen.facts) := by
  intro m g m' g' _ hag
  refine ⟨_, Cert.Kernel23Ideal.Value.run_blocks m g, (θ_run Cert.Reference23Ideal.defs _ _).mono (fun _ h c => ?_) (Cert.Reference23Ideal.Value.run (F := Ideal) m' g')⟩
  obtain ⟨a0, a1⟩ := hag c
  refine ⟨((h c).1.trans (val_main_v2_eq _ _)).trans (arr m c _ fun r l => ?_).symm, (h c).2⟩
  refine (ref_out _ _ r l).trans ?_
  rw [a0, a1]

end Cert.Proof.OutDx
-- ==== Proof.BranchDx.lean ====
module

public import proofs.«01_k».proof.Defs
public import proofs.«01_k».proof.Proof.Entries
public import proofs.«01_k».proof.Proof.Gen.Kernel24Ideal.Value
public import proofs.«01_k».proof.Proof.Gen.Reference24Ideal.Run
public import proofs.«01_k».proof.Proof.Gen.Reference24Ideal.Read

/-!
The gradient of a branch's output, `dy · wᵀ`.
-/

@[expose] public section

noncomputable section

open Idealize.ShloMosaic Idealize.ShloMosaic.TcCoe Idealize.SL.Sem
open Idealize.ShloMosaic.Pipeline (Dat)

namespace Cert.Proof.BranchDx

open Cert.Kernel24Ideal Cert.Kernel24Ideal.Gen Cert.Proof.Entries Cert.Reference24Ideal.Read

variable (m : (ℓ : Loc nD τ sig) → Buf (Elt Ideal) ℓ)

abbrev A (c : Dev nD) : ℕ → ℕ → EReal := at2 (n := 4096) (k := 4096) (m ((c : Thread nD τ).loc main_arg0))
abbrev B (c : Dev nD) : ℕ → ℕ → EReal := at2 (n := 2048) (k := 4096) (m ((c : Thread nD τ).loc main_arg1))
/-- The entry of the product. -/
abbrev dot (a b : ℕ → ℕ → EReal) (r l : ℕ) : EReal := ∑ k : Fin 4096, a r k * b l k

theorem i0 : ∀ t : Fin cfg0.N, win0_0.index t = ![t.val / 4, 0] := (by decide +kernel : ∀ t : Fin grid0.N, _)
theorem i1 : ∀ t : Fin cfg0.N, win0_1.index t = ![t.val % 4, 0] := (by decide +kernel : ∀ t : Fin grid0.N, _)
theorem i2 : ∀ t : Fin cfg0.N, win0_2.index t = ![t.val / 4, t.val % 4] := (by decide +kernel : ∀ t : Fin grid0.N, _)

theorem V0 (c : Dev nD) : (V m c main_v0 : S4096x4096.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S2048x4096.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (r : Fin 1024) (k : Fin 4096) :
    (iblk m c 0 t : S1024x4096.Idx → EReal) (ix2 r k) = A m c (1024 * (t.val / 4) + r) k := by
  blk_simp [iblk]
  refine (congrFun (V0 m c) _).trans (at2_of _ _ _ _ ?_ ?_)
  · blk_simp [i0]; omega
  · blk_simp [i0]

theorem block1 (c : Dev nD) (t : Fin cfg0.N) (l : Fin 512) (k : Fin 4096) :
    (iblk m c 1 t : S512x4096.Idx → EReal) (ix2 l k) = B m c (512 * (t.val % 4) + l) k := by
  blk_simp [iblk]
  refine (congrFun (V1 m c) _).trans (at2_of _ _ _ _ ?_ ?_)
  · blk_simp [i1]; omega
  · blk_simp [i1]

/-- The product of the two blocks. -/
theorem pay (x : Vec Ideal S1024x4096 .bf16) (y : Vec Ideal S512x4096 .bf16) (r : Fin 1024) (l : Fin 512) :
    k0_pay1 x y (ix2 r l) = ∑ k : Fin 4096, x (ix2 r k) * y (ix2 l k) := by
  unfold k0_pay1
  simp only [shapeCast_self]
  pointwise

/-- What a grid point leaves in its output block. -/
theorem out (c : Dev nD) (t : Fin cfg0.N) (r : Fin 1024) (l : Fin 512) :
    out0_2 (iblk m c 0 t) (iblk m c 1 t) (ix2 r l) = dot (A m c) (B m c) (1024 * (t.val / 4) + r) (512 * (t.val % 4) + l) := by
  unfold out0_2
  simp only [View.canon_unit_zero (S := S1024x512) zero2, View.ld_unit_zero (S := S1024x4096) zero2, View.ld_unit_zero (S := S512x4096) zero2]
  rw [pay]
  simp only [block0, block1]

/-- The array the call leaves. -/
theorem arr (c : Dev nD) (G : S4096x2048.Idx → EReal) (h : ∀ (r : Fin 4096) (l : Fin 2048), G (ix2 r l) = dot (A m c) (B m c) r l) :
    (dats m 0 c).arrAt 2 cfg0.N = G := by
  refine (dats m 0 c).arrAt_eq_of_covers 2 _ (by decide +kernel) fun t hf y => ?_
  blk_simp
  rw [after0_2]
  refine (of_ix _ (fun r l => dot (A m c) (B m c) (1024 * (t.val / 4) + r) (512 * (t.val % 4) + l)) (fun r l => out m c t r l) y (y 0) (y 1) rfl rfl).trans
    (of_ix G (dot (A m c) (B m c)) h _ _ _ ?_ ?_).symm
  · blk_simp [i2]; omega
  · blk_simp [i2]; omega

/-- The reference's result at an entry. -/
theorem ref_out (X : S4096x4096.Idx → EReal) (Y : S2048x4096.Idx → EReal) (r : Fin 4096) (l : Fin 2048) :
    val_main_v2 (F := Ideal) X Y (ix2 r l) = dot (at2 X) (at2 Y) r l := by
  unfold val_main_v2
  pointwise
  simp only [at2_ix X, at2_ix Y]

/-- The reference runs, keeps its arguments, and has no semaphore. -/
theorem ref_frame :
    Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run (F := Ideal) m ρ)

/-- The call's result is, on the ideal reals, the reference's. -/
theorem value : Cert.algebraic_Kernel24Ideal_Reference24Ideal (hKernel24Ideal := Cert.Kernel24Ideal.Gen.facts)
    (hReference24Ideal := Cert.Reference24Ideal.Gen.facts) := by
  intro m g m' g' _ hag
  refine ⟨_, Cert.Kernel24Ideal.Value.run_blocks m g, (θ_run Cert.Reference24Ideal.defs _ _).mono (fun _ h c => ?_) (Cert.Reference24Ideal.Value.run (F := Ideal) m' g')⟩
  obtain ⟨a0, a1⟩ := hag c
  refine ⟨((h c).1.trans (val_main_v2_eq _ _)).trans (arr m c _ fun r l => ?_).symm, (h c).2⟩
  refine (ref_out _ _ r l).trans ?_
  rw [a0, a1]

end Cert.Proof.BranchDx
-- ==== Proof.OutFwd.lean ====
module

public import proofs.«01_k».proof.Defs
public import proofs.«01_k».proof.Proof.Entries
public import proofs.«01_k».proof.Proof.Gen.Kernel25Ideal.Value
public import proofs.«01_k».proof.Proof.Gen.Reference25Ideal.Run
public import proofs.«01_k».proof.Proof.Gen.Reference25Ideal.Read

/-!
The output product of the merged branches, `mg · w_out`.
-/

@[expose] public section

noncomputable section

open Idealize.ShloMosaic Idealize.ShloMosaic.TcCoe Idealize.SL.Sem
open Idealize.ShloMosaic.Pipeline (Dat)

namespace Cert.Proof.OutFwd

open Cert.Kernel25Ideal Cert.Kernel25Ideal.Gen Cert.Proof.Entries Cert.Reference25Ideal.Read

variable (m : (ℓ : Loc nD τ sig) → Buf (Elt Ideal) ℓ)

abbrev A (c : Dev nD) : ℕ → ℕ → EReal := at2 (n := 4096) (k := 4096) (m ((c : Thread nD τ).loc main_arg0))
abbrev B (c : Dev nD) : ℕ → ℕ → EReal := at2 (n := 4096) (k := 4096) (m ((c : Thread nD τ).loc main_arg1))
/-- The entry of the product. -/
abbrev dot (a b : ℕ → ℕ → EReal) (r l : ℕ) : EReal := ∑ k : Fin 4096, a r k * b k l

theorem i0 : ∀ t : Fin cfg0.N, win0_0.index t = ![t.val / 8, 0] := (by decide +kernel : ∀ t : Fin grid0.N, _)
theorem i1 : ∀ t : Fin cfg0.N, win0_1.index t = ![0, t.val % 8] := (by decide +kernel : ∀ t : Fin grid0.N, _)
theorem i2 : ∀ t : Fin cfg0.N, win0_2.index t = ![t.val / 8, t.val % 8] := (by decide +kernel : ∀ t : Fin grid0.N, _)

theorem V0 (c : Dev nD) : (V m c main_v0 : S4096x4096.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S4096x4096.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (r : Fin 1024) (k : Fin 4096) :
    (iblk m c 0 t : S1024x4096.Idx → EReal) (ix2 r k) = A m c (1024 * (t.val / 8) + r) k := by
  blk_simp [iblk]
  refine (congrFun (V0 m c) _).trans (at2_of _ _ _ _ ?_ ?_)
  · blk_simp [i0]; omega
  · blk_simp [i0]

theorem block1 (c : Dev nD) (t : Fin cfg0.N) (k : Fin 4096) (l : Fin 512) :
    (iblk m c 1 t : S4096x512.Idx → EReal) (ix2 k l) = B m c k (512 * (t.val % 8) + l) := by
  blk_simp [iblk]
  refine (congrFun (V1 m c) _).trans (at2_of _ _ _ _ ?_ ?_)
  · blk_simp [i1]
  · blk_simp [i1]; omega

/-- The product of the two blocks. -/
theorem pay (x : Vec Ideal S1024x4096 .bf16) (y : Vec Ideal S4096x512 .bf16) (r : Fin 1024) (l : Fin 512) :
    k0_pay1 x y (ix2 r l) = ∑ k : Fin 4096, x (ix2 r k) * y (ix2 k l) := by
  unfold k0_pay1
  simp only [shapeCast_self]
  pointwise

/-- What a grid point leaves in its output block. -/
theorem out (c : Dev nD) (t : Fin cfg0.N) (r : Fin 1024) (l : Fin 512) :
    out0_2 (iblk m c 0 t) (iblk m c 1 t) (ix2 r l) = dot (A m c) (B m c) (1024 * (t.val / 8) + r) (512 * (t.val % 8) + l) := by
  unfold out0_2
  simp only [View.canon_unit_zero (S := S1024x512) zero2, View.ld_unit_zero (S := S1024x4096) zero2, View.ld_unit_zero (S := S4096x512) zero2]
  rw [pay]
  simp only [block0, block1]

/-- The array the call leaves. -/
theorem arr (c : Dev nD) (G : S4096x4096.Idx → EReal) (h : ∀ (r : Fin 4096) (l : Fin 4096), G (ix2 r l) = dot (A m c) (B m c) r l) :
    (dats m 0 c).arrAt 2 cfg0.N = G := by
  refine (dats m 0 c).arrAt_eq_of_covers 2 _ (by decide +kernel) fun t hf y => ?_
  blk_simp
  rw [after0_2]
  refine (of_ix _ (fun r l => dot (A m c) (B m c) (1024 * (t.val / 8) + r) (512 * (t.val % 8) + l)) (fun r l => out m c t r l) y (y 0) (y 1) rfl rfl).trans
    (of_ix G (dot (A m c) (B m c)) h _ _ _ ?_ ?_).symm
  · blk_simp [i2]; omega
  · blk_simp [i2]; omega

/-- The reference's result at an entry. -/
theorem ref_out (X : S4096x4096.Idx → EReal) (Y : S4096x4096.Idx → EReal) (r : Fin 4096) (l : Fin 4096) :
    val_main_v0 (F := Ideal) X Y (ix2 r l) = dot (at2 X) (at2 Y) r l := by
  unfold val_main_v0
  pointwise
  simp only [at2_ix X, at2_ix Y]

/-- The reference runs, keeps its arguments, and has no semaphore. -/
theorem ref_frame :
    Cert.quiescent_Reference25Ideal (hReference25Ideal := Cert.Reference25Ideal.Gen.facts) := fun m ρ _ =>
  (θ_run Cert.Reference25Ideal.defs _ _).mono (fun r h => ⟨fun c => (h c).2, sem_eq_zero_of_no_sems (by decide) r.2⟩)
    (Cert.Reference25Ideal.Value.run (F := Ideal) m ρ)

/-- The call's result is, on the ideal reals, the reference's. -/
theorem value : Cert.algebraic_Kernel25Ideal_Reference25Ideal (hKernel25Ideal := Cert.Kernel25Ideal.Gen.facts)
    (hReference25Ideal := Cert.Reference25Ideal.Gen.facts) := by
  intro m g m' g' _ hag
  refine ⟨_, Cert.Kernel25Ideal.Value.run_blocks m g, (θ_run Cert.Reference25Ideal.defs _ _).mono (fun _ h c => ?_) (Cert.Reference25Ideal.Value.run (F := Ideal) m' g')⟩
  obtain ⟨a0, a1⟩ := hag c
  refine ⟨((h c).1.trans (val_main_v0_eq _ _)).trans (arr m c _ fun r l => ?_).symm, (h c).2⟩
  refine (ref_out _ _ r l).trans ?_
  rw [a0, a1]

end Cert.Proof.OutFwd
-- ==== Proof.BranchFwd.lean ====
module

public import proofs.«01_k».proof.Defs
public import proofs.«01_k».proof.Proof.Entries
public import proofs.«01_k».proof.Proof.Gen.Kernel26Ideal.Value
public import proofs.«01_k».proof.Proof.Gen.Reference26Ideal.Run
public import proofs.«01_k».proof.Proof.Gen.Reference26Ideal.Read

/-!
A branch's output product, `y · w`.
-/

@[expose] public section

noncomputable section

open Idealize.ShloMosaic Idealize.ShloMosaic.TcCoe Idealize.SL.Sem
open Idealize.ShloMosaic.Pipeline (Dat)

namespace Cert.Proof.BranchFwd

open Cert.Kernel26Ideal Cert.Kernel26Ideal.Gen Cert.Proof.Entries Cert.Reference26Ideal.Read

variable (m : (ℓ : Loc nD τ sig) → Buf (Elt Ideal) ℓ)

abbrev A (c : Dev nD) : ℕ → ℕ → EReal := at2 (n := 4096) (k := 2048) (m ((c : Thread nD τ).loc main_arg0))
abbrev B (c : Dev nD) : ℕ → ℕ → EReal := at2 (n := 2048) (k := 4096) (m ((c : Thread nD τ).loc main_arg1))
/-- The entry of the product. -/
abbrev dot (a b : ℕ → ℕ → EReal) (r l : ℕ) : EReal := ∑ k : Fin 2048, a r k * b k l

theorem i0 : ∀ t : Fin cfg0.N, win0_0.index t = ![t.val / 8, 0] := (by decide +kernel : ∀ t : Fin grid0.N, _)
theorem i1 : ∀ t : Fin cfg0.N, win0_1.index t = ![0, t.val % 8] := (by decide +kernel : ∀ t : Fin grid0.N, _)
theorem i2 : ∀ t : Fin cfg0.N, win0_2.index t = ![t.val / 8, t.val % 8] := (by decide +kernel : ∀ t : Fin grid0.N, _)

theorem V0 (c : Dev nD) : (V m c main_v0 : S4096x2048.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S2048x4096.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block0 (c : Dev nD) (t : Fin cfg0.N) (r : Fin 1024) (k : Fin 2048) :
    (iblk m c 0 t : S1024x2048.Idx → EReal) (ix2 r k) = A m c (1024 * (t.val / 8) + r) k := by
  blk_simp [iblk]
  refine (congrFun (V0 m c) _).trans (at2_of _ _ _ _ ?_ ?_)
  · blk_simp [i0]; omega
  · blk_simp [i0]

theorem block1 (c : Dev nD) (t : Fin cfg0.N) (k : Fin 2048) (l : Fin 512) :
    (iblk m c 1 t : S2048x512.Idx → EReal) (ix2 k l) = B m c k (512 * (t.val % 8) + l) := by
  blk_simp [iblk]
  refine (congrFun (V1 m c) _).trans (at2_of _ _ _ _ ?_ ?_)
  · blk_simp [i1]
  · blk_simp [i1]; omega

/-- The product of the two blocks. -/
theorem pay (x : Vec Ideal S1024x2048 .bf16) (y : Vec Ideal S2048x512 .bf16) (r : Fin 1024) (l : Fin 512) :
    k0_pay1 x y (ix2 r l) = ∑ k : Fin 2048, x (ix2 r k) * y (ix2 k l) := by
  unfold k0_pay1
  simp only [shapeCast_self]
  pointwise

/-- What a grid point leaves in its output block. -/
theorem out (c : Dev nD) (t : Fin cfg0.N) (r : Fin 1024) (l : Fin 512) :
    out0_2 (iblk m c 0 t) (iblk m c 1 t) (ix2 r l) = dot (A m c) (B m c) (1024 * (t.val / 8) + r) (512 * (t.val % 8) + l) := by
  unfold out0_2
  simp only [View.canon_unit_zero (S := S1024x512) zero2, View.ld_unit_zero (S := S1024x2048) zero2, View.ld_unit_zero (S := S2048x512) zero2]
  rw [pay]
  simp only [block0, block1]

/-- The array the call leaves. -/
theorem arr (c : Dev nD) (G : S4096x4096.Idx → EReal) (h : ∀ (r : Fin 4096) (l : Fin 4096), G (ix2 r l) = dot (A m c) (B m c) r l) :
    (dats m 0 c).arrAt 2 cfg0.N = G := by
  refine (dats m 0 c).arrAt_eq_of_covers 2 _ (by decide +kernel) fun t hf y => ?_
  blk_simp
  rw [after0_2]
  refine (of_ix _ (fun r l => dot (A m c) (B m c) (1024 * (t.val / 8) + r) (512 * (t.val % 8) + l)) (fun r l => out m c t r l) y (y 0) (y 1) rfl rfl).trans
    (of_ix G (dot (A m c) (B m c)) h _ _ _ ?_ ?_).symm
  · blk_simp [i2]; omega
  · blk_simp [i2]; omega

/-- The reference's result at an entry. -/
theorem ref_out (X : S4096x2048.Idx → EReal) (Y : S2048x4096.Idx → EReal) (r : Fin 4096) (l : Fin 4096) :
    val_main_v0 (F := Ideal) X Y (ix2 r l) = dot (at2 X) (at2 Y) r l := by
  unfold val_main_v0
  pointwise
  simp only [at2_ix X, at2_ix Y]

/-- The reference runs, keeps its arguments, and has no semaphore. -/
theorem ref_frame :
    Cert.quiescent_Reference26Ideal (hReference26Ideal := Cert.Reference26Ideal.Gen.facts) := fun m ρ _ =>
  (θ_run Cert.Reference26Ideal.defs _ _).mono (fun r h => ⟨fun c => (h c).2, sem_eq_zero_of_no_sems (by decide) r.2⟩)
    (Cert.Reference26Ideal.Value.run (F := Ideal) m ρ)

/-- The call's result is, on the ideal reals, the reference's. -/
theorem value : Cert.algebraic_Kernel26Ideal_Reference26Ideal (hKernel26Ideal := Cert.Kernel26Ideal.Gen.facts)
    (hReference26Ideal := Cert.Reference26Ideal.Gen.facts) := by
  intro m g m' g' _ hag
  refine ⟨_, Cert.Kernel26Ideal.Value.run_blocks m g, (θ_run Cert.Reference26Ideal.defs _ _).mono (fun _ h c => ?_) (Cert.Reference26Ideal.Value.run (F := Ideal) m' g')⟩
  obtain ⟨a0, a1⟩ := hag c
  refine ⟨((h c).1.trans (val_main_v0_eq _ _)).trans (arr m c _ fun r l => ?_).symm, (h c).2⟩
  refine (ref_out _ _ r l).trans ?_
  rw [a0, a1]

end Cert.Proof.BranchFwd
-- ==== Proof.Merge.lean ====
module

public import proofs.«01_k».proof.Defs
public import proofs.«01_k».proof.Proof.Entries
public import proofs.«01_k».proof.Proof.Gen.Kernel27Ideal.Value
public import proofs.«01_k».proof.Proof.Gen.Reference27Ideal.Run
public import proofs.«01_k».proof.Proof.Gen.Reference27Ideal.Read

/-!
The gradient of the two branches' gated sum: in the gates' projection, in the branches, and in the gates' bias.
-/

@[expose] public section

noncomputable section

open Idealize.ShloMosaic Idealize.ShloMosaic.TcCoe Idealize.SL.Sem
open Idealize.ShloMosaic.Pipeline (Dat)

namespace Cert.Proof.Merge

open Cert.Kernel27Ideal Cert.Kernel27Ideal.Gen Cert.Proof.Entries

/-- The gate. -/
def gate (z : EReal) : EReal := Ideal.div 1 (1 + Ideal.exp (-z))

/-- The gate's derivative. -/
def slope (z : EReal) : EReal := gate z * (1 - gate z)

/-- The derivative written by the exponential, at the infinities too. -/
theorem slope_eq (z : EReal) : Ideal.div 1 ((1 + Ideal.exp (-z)) * (1 + Ideal.exp (-z))) * Ideal.exp (-z) = slope z := by
  unfold slope gate
  induction z with
  | bot =>
    have h : Ideal.exp (-⊥) = ⊤ := by rw [EReal.neg_bot]; rfl
    have h1 : (1 : EReal) + ⊤ = ⊤ := EReal.add_top_of_ne_bot (by decide)
    rw [h, h1, EReal.top_mul_top]
    unfold Ideal.div
    simp
  | top =>
    have h : Ideal.exp (-⊤) = 0 := by rw [EReal.neg_top]; rfl
    rw [h, mul_zero, add_zero]
    unfold Ideal.div
    have : (1 : EReal) - 1 = 0 := EReal.sub_self (by decide) (by decide)
    simp [this]
  | coe x =>
    have he : (0 : ℝ) < Real.exp (-x) := Real.exp_pos _
    have h : Ideal.exp (-(x : EReal)) = (Real.exp (-x) : ℝ) := by rw [← EReal.coe_neg]; rfl
    have hd : ∀ y : ℝ, 0 < y → Ideal.div 1 (y : EReal) = ((1 / y : ℝ) : EReal) := fun y hy => by
      unfold Ideal.div
      rw [if_neg (by exact_mod_cast hy.ne'), one_mul, one_div, EReal.coe_inv]
    rw [h, ← EReal.coe_one, ← EReal.coe_add, ← EReal.coe_mul, EReal.coe_one, hd _ (by positivity), hd _ (by positivity),
      ← EReal.coe_one, ← EReal.coe_sub, ← EReal.coe_mul, ← EReal.coe_mul]
    congr 1
    field_simp
    ring

/-- A gate's argument: `h` is 0 for the first branch and 4096 for the second. -/
def pre (p b : ℕ → ℕ → EReal) (h r l : ℕ) : EReal := p r (12800 + h + l) + b 0 (h + l)

/-- The gradient in a gate's argument. -/
def dGate (p b y d : ℕ → ℕ → EReal) (h r l : ℕ) : EReal := d r l * y r l * slope (pre p b h r l)

/-- The gradient in a branch. -/
def dBranch (p b d : ℕ → ℕ → EReal) (h r l : ℕ) : EReal := gate (pre p b h r l) * d r l

variable (m : (ℓ : Loc nD τ sig) → Buf (Elt Ideal) ℓ)

abbrev P (c : Dev nD) : ℕ → ℕ → EReal := at2 (n := 4096) (k := 21504) (m ((c : Thread nD τ).loc main_arg0))
abbrev B (c : Dev nD) : ℕ → ℕ → EReal := at2 (n := 1) (k := 8192) (m ((c : Thread nD τ).loc main_arg1))
abbrev Ya (c : Dev nD) : ℕ → ℕ → EReal := at2 (n := 4096) (k := 4096) (m ((c : Thread nD τ).loc main_arg2))
abbrev Yb (c : Dev nD) : ℕ → ℕ → EReal := at2 (n := 4096) (k := 4096) (m ((c : Thread nD τ).loc main_arg3))
abbrev D (c : Dev nD) : ℕ → ℕ → EReal := at2 (n := 4096) (k := 4096) (m ((c : Thread nD τ).loc main_arg4))

theorem i0 : ∀ t : Fin cfg0.N, win0_0.index t = ![t.val % 8, 25 + t.val / 8] := (by decide +kernel : ∀ t : Fin grid0.N, _)
theorem i1 : ∀ t : Fin cfg0.N, win0_1.index t = ![t.val % 8, 33 + t.val / 8] := (by decide +kernel : ∀ t : Fin grid0.N, _)
theorem i2 : ∀ t : Fin cfg0.N, win0_2.index t = ![0, t.val / 8] := (by decide +kernel : ∀ t : Fin grid0.N, _)
theorem i3 : ∀ t : Fin cfg0.N, win0_3.index t = ![0, 8 + t.val / 8] := (by decide +kernel : ∀ t : Fin grid0.N, _)
theorem i4 : ∀ t : Fin cfg0.N, win0_4.index t = ![t.val % 8, t.val / 8] := (by decide +kernel : ∀ t : Fin grid0.N, _)
theorem i5 : ∀ t : Fin cfg0.N, win0_5.index t = ![t.val % 8, t.val / 8] := (by decide +kernel : ∀ t : Fin grid0.N, _)
theorem i6 : ∀ t : Fin cfg0.N, win0_6.index t = ![t.val % 8, t.val / 8] := (by decide +kernel : ∀ t : Fin grid0.N, _)
theorem i7 : ∀ t : Fin cfg0.N, win0_7.index t = ![t.val % 8, t.val / 8] := (by decide +kernel : ∀ t : Fin grid0.N, _)
theorem i8 : ∀ t : Fin cfg0.N, win0_8.index t = ![t.val % 8, t.val / 8] := (by decide +kernel : ∀ t : Fin grid0.N, _)
theorem i9 : ∀ t : Fin cfg0.N, win0_9.index t = ![t.val % 8, t.val / 8] := (by decide +kernel : ∀ t : Fin grid0.N, _)
theorem i10 : ∀ t : Fin cfg0.N, win0_10.index t = ![t.val % 8, t.val / 8] := (by decide +kernel : ∀ t : Fin grid0.N, _)
theorem i11 : ∀ t : Fin cfg0.N, win0_11.index t = ![0, t.val / 8] := (by decide +kernel : ∀ t : Fin grid0.N, _)
theorem i12 : ∀ t : Fin cfg0.N, win0_12.index t = ![0, t.val / 8] := (by decide +kernel : ∀ t : Fin grid0.N, _)

theorem block0 (c : Dev nD) (t : Fin cfg0.N) (r l : Fin 512) :
    (iblk m c 0 t : S512x512.Idx → EReal) (ix2 r l) = P m c (512 * (t.val % 8) + r) (12800 + 0 + (512 * (t.val / 8) + l)) := by
  blk_simp [iblk]
  refine at2_of _ _ _ _ ?_ ?_
  · blk_simp [i0]; omega
  · blk_simp [i0]; omega

theorem block1 (c : Dev nD) (t : Fin cfg0.N) (r l : Fin 512) :
    (iblk m c 1 t : S512x512.Idx → EReal) (ix2 r l) = P m c (512 * (t.val % 8) + r) (12800 + 4096 + (512 * (t.val / 8) + l)) := by
  blk_simp [iblk]
  refine at2_of _ _ _ _ ?_ ?_
  · blk_simp [i1]; omega
  · blk_simp [i1]; omega

theorem block4 (c : Dev nD) (t : Fin cfg0.N) (r l : Fin 512) :
    (iblk m c 4 t : S512x512.Idx → EReal) (ix2 r l) = Ya m c (512 * (t.val % 8) + r) (512 * (t.val / 8) + l) := by
  blk_simp [iblk]
  refine at2_of _ _ _ _ ?_ ?_
  · blk_simp [i4]; omega
  · blk_simp [i4]; omega

theorem block5 (c : Dev nD) (t : Fin cfg0.N) (r l : Fin 512) :
    (iblk m c 5 t : S512x512.Idx → EReal) (ix2 r l) = Yb m c (512 * (t.val % 8) + r) (512 * (t.val / 8) + l) := by
  blk_simp [iblk]
  refine at2_of _ _ _ _ ?_ ?_
  · blk_simp [i5]; omega
  · blk_simp [i5]; omega

theorem block6 (c : Dev nD) (t : Fin cfg0.N) (r l : Fin 512) :
    (iblk m c 6 t : S512x512.Idx → EReal) (ix2 r l) = D m c (512 * (t.val % 8) + r) (512 * (t.val / 8) + l) := by
  blk_simp [iblk]
  refine at2_of _ _ _ _ ?_ ?_
  · blk_simp [i6]; omega
  · blk_simp [i6]; omega

theorem block2 (c : Dev nD) (t : Fin cfg0.N) (l : Fin 512) :
    (iblk m c 2 t : S1x512.Idx → EReal) (ix2 0 l) = B m c 0 (0 + (512 * (t.val / 8) + l)) := by
  blk_simp [iblk]
  refine at2_of _ _ _ _ ?_ ?_
  · blk_simp [i2]; rfl
  · blk_simp [i2]; omega

theorem block3 (c : Dev nD) (t : Fin cfg0.N) (l : Fin 512) :
    (iblk m c 3 t : S1x512.Idx → EReal) (ix2 0 l) = B m c 0 (4096 + (512 * (t.val / 8) + l)) := by
  blk_simp [iblk]
  refine at2_of _ _ _ _ ?_ ?_
  · blk_simp [i3]; rfl
  · blk_simp [i3]; omega

/-- The first gate's gradient of a block. -/
theorem payA (p y d : Vec Ideal S512x512 .f32) (b : Vec Ideal S1x512 .f32) (r l : Fin 512) :
    k0_pay15 y (k0_pay3 p b) (k0_pay6 p b) (k0_pay9 d) (ix2 r l)
      = d (ix2 r l) * y (ix2 r l) * slope (p (ix2 r l) + b (ix2 0 l)) := by
  unfold k0_pay15 k0_pay9 k0_pay6 k0_pay4 k0_pay3
  pointwise
  simp only [zero_sub, mul_one, neg_mul, neg_neg]
  rw [mul_assoc, slope_eq]

/-- The second gate's gradient of a block. -/
theorem payB (p y d : Vec Ideal S512x512 .f32) (b : Vec Ideal S1x512 .f32) (r l : Fin 512) :
    k0_pay13 (k0_pay7 p b) (k0_pay12 p b y d) (ix2 r l)
      = d (ix2 r l) * y (ix2 r l) * slope (p (ix2 r l) + b (ix2 0 l)) := by
  unfold k0_pay13 k0_pay12 k0_pay10 k0_pay8 k0_pay7
  pointwise
  simp only [zero_sub, mul_one, neg_mul, neg_neg]
  rw [mul_assoc, slope_eq]

theorem sumA (p y d : Vec Ideal S512x512 .f32) (b : Vec Ideal S1x512 .f32) (l : Fin 512) :
    k0_pay16 y (k0_pay3 p b) (k0_pay6 p b) (k0_pay9 d) (ix2 0 l)
      = ∑ r : Fin 512, d (ix2 r l) * y (ix2 r l) * slope (p (ix2 r l) + b (ix2 0 l)) := by
  refine Eq.trans ?_ (Finset.sum_congr rfl fun r _ => payA p y d b r l)
  unfold k0_pay16
  pointwise

theorem sumB (p y d : Vec Ideal S512x512 .f32) (b : Vec Ideal S1x512 .f32) (l : Fin 512) :
    k0_pay14 (k0_pay7 p b) (k0_pay12 p b y d) (ix2 0 l)
      = ∑ r : Fin 512, d (ix2 r l) * y (ix2 r l) * slope (p (ix2 r l) + b (ix2 0 l)) := by
  refine Eq.trans ?_ (Finset.sum_congr rfl fun r _ => payB p y d b r l)
  unfold k0_pay14
  pointwise

theorem branchA (p d : Vec Ideal S512x512 .f32) (b : Vec Ideal S1x512 .f32) (r l : Fin 512) :
    k0_pay19 (k0_pay5 p b) (k0_pay9 d) (ix2 r l) = gate (p (ix2 r l) + b (ix2 0 l)) * d (ix2 r l) := by
  unfold k0_pay19 k0_pay9 k0_pay5 k0_pay4 k0_pay3
  pointwise
  simp only [zero_sub]
  rfl

theorem branchB (p d : Vec Ideal S512x512 .f32) (b : Vec Ideal S1x512 .f32) (r l : Fin 512) :
    k0_pay20 (k0_pay11 p b d) (ix2 r l) = gate (p (ix2 r l) + b (ix2 0 l)) * d (ix2 r l) := by
  unfold k0_pay20 k0_pay11 k0_pay10 k0_pay8 k0_pay7
  pointwise
  simp only [zero_sub]
  rfl

theorem add1 (x y : Vec Ideal S1x512 .f32) (l : Fin 512) : k0_pay1 x y (ix2 0 l) = y (ix2 0 l) + x (ix2 0 l) := by
  unfold k0_pay1
  simp only [shapeCast_self]
  rfl

theorem add2 (x y : Vec Ideal S1x512 .f32) (l : Fin 512) : k0_pay2 x y (ix2 0 l) = y (ix2 0 l) + x (ix2 0 l) := add1 x y l

abbrev pa (c : Dev nD) (t : Fin cfg0.N) : Vec Ideal S512x512 .f32 := iblk m c 0 t
abbrev pb (c : Dev nD) (t : Fin cfg0.N) : Vec Ideal S512x512 .f32 := iblk m c 1 t
abbrev ba (c : Dev nD) (t : Fin cfg0.N) : Vec Ideal S1x512 .f32 := iblk m c 2 t
abbrev bb (c : Dev nD) (t : Fin cfg0.N) : Vec Ideal S1x512 .f32 := iblk m c 3 t
abbrev ya (c : Dev nD) (t : Fin cfg0.N) : Vec Ideal S512x512 .f32 := iblk m c 4 t
abbrev yb (c : Dev nD) (t : Fin cfg0.N) : Vec Ideal S512x512 .f32 := iblk m c 5 t
abbrev db (c : Dev nD) (t : Fin cfg0.N) : Vec Ideal S512x512 .f32 := iblk m c 6 t

theorem preA (c : Dev nD) (t : Fin cfg0.N) (r l : Fin 512) : pa m c t (ix2 r l) + ba m c t (ix2 0 l)
      = pre (P m c) (B m c) 0 (512 * (t.val % 8) + r) (512 * (t.val / 8) + l) :=
  congrArg₂ (· + ·) (block0 m c t r l) (block2 m c t l)

theorem gateA (c : Dev nD) (t : Fin cfg0.N) (r l : Fin 512) :
    db m c t (ix2 r l) * ya m c t (ix2 r l) * slope (pa m c t (ix2 r l) + ba m c t (ix2 0 l))
      = dGate (P m c) (B m c) (Ya m c) (D m c) 0 (512 * (t.val % 8) + r) (512 * (t.val / 8) + l) :=
  congrArg₂ (· * ·) (congrArg₂ (· * ·) (block6 m c t r l) (block4 m c t r l)) (congrArg slope (preA m c t r l))

theorem dyA (c : Dev nD) (t : Fin cfg0.N) (r l : Fin 512) :
    gate (pa m c t (ix2 r l) + ba m c t (ix2 0 l)) * db m c t (ix2 r l)
      = dBranch (P m c) (B m c) (D m c) 0 (512 * (t.val % 8) + r) (512 * (t.val / 8) + l) :=
  congrArg₂ (· * ·) (congrArg gate (preA m c t r l)) (block6 m c t r l)

theorem preB (c : Dev nD) (t : Fin cfg0.N) (r l : Fin 512) : pb m c t (ix2 r l) + bb m c t (ix2 0 l)
      = pre (P m c) (B m c) 4096 (512 * (t.val % 8) + r) (512 * (t.val / 8) + l) :=
  congrArg₂ (· + ·) (block1 m c t r l) (block3 m c t l)

theorem gateB (c : Dev nD) (t : Fin cfg0.N) (r l : Fin 512) :
    db m c t (ix2 r l) * yb m c t (ix2 r l) * slope (pb m c t (ix2 r l) + bb m c t (ix2 0 l))
      = dGate (P m c) (B m c) (Yb m c) (D m c) 4096 (512 * (t.val % 8) + r) (512 * (t.val / 8) + l) :=
  congrArg₂ (· * ·) (congrArg₂ (· * ·) (block6 m c t r l) (block5 m c t r l)) (congrArg slope (preB m c t r l))

theorem dyB (c : Dev nD) (t : Fin cfg0.N) (r l : Fin 512) :
    gate (pb m c t (ix2 r l) + bb m c t (ix2 0 l)) * db m c t (ix2 r l)
      = dBranch (P m c) (B m c) (D m c) 4096 (512 * (t.val % 8) + r) (512 * (t.val / 8) + l) :=
  congrArg₂ (· * ·) (congrArg gate (preB m c t r l)) (block6 m c t r l)

theorem out7 (c : Dev nD) (t : Fin cfg0.N) (r l : Fin 512) :
    (outsAt0 m c t.val t.isLt).1 (ix2 r l) = dGate (P m c) (B m c) (Ya m c) (D m c) 0 (512 * (t.val % 8) + r) (512 * (t.val / 8) + l) := by
  by_cases h : t.val % 8 = 0
  · rw [outsAt0_A m c t (by omega) (by omega) (by omega) (by omega)]
    dsimp only
    unfold out0_A_7
    refine (congrFun (View.read_writes_eq_canon _ _ _ (fun y => cover0_A_7 ..)) _).trans ?_
    unfold kernelRun0_A
    dsimp only
    sl_unfold_words
    simp only [View.canon_unit_zero (S := S512x512) zero2, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) zero2, View.ld_unit_zero (S := S1x512) zero2]
    exact (payA _ _ _ _ r l).trans (gateA m c t r l)
  · rw [outsAt0_B m c t (by omega) (by omega) (by omega) (by omega)]
    dsimp only
    unfold out0_B_7
    refine (congrFun (View.read_writes_eq_canon _ _ _ (fun y => cover0_B_7 ..)) _).trans ?_
    unfold kernelRun0_B
    dsimp only
    sl_unfold_words
    simp only [View.canon_unit_zero (S := S512x512) zero2, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) zero2, View.ld_unit_zero (S := S1x512) zero2]
    exact (payA _ _ _ _ r l).trans (gateA m c t r l)

theorem out8 (c : Dev nD) (t : Fin cfg0.N) (r l : Fin 512) :
    (outsAt0 m c t.val t.isLt).2.1 (ix2 r l) = dGate (P m c) (B m c) (Yb m c) (D m c) 4096 (512 * (t.val % 8) + r) (512 * (t.val / 8) + l) := by
  by_cases h : t.val % 8 = 0
  · rw [outsAt0_A m c t (by omega) (by omega) (by omega) (by omega)]
    dsimp only
    unfold out0_A_8
    refine (congrFun (View.read_writes_eq_canon _ _ _ (fun y => cover0_A_8 ..)) _).trans ?_
    unfold kernelRun0_A
    dsimp only
    sl_unfold_words
    simp only [View.canon_unit_zero (S := S512x512) zero2, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) zero2, View.ld_unit_zero (S := S1x512) zero2]
    exact (payB _ _ _ _ r l).trans (gateB m c t r l)
  · rw [outsAt0_B m c t (by omega) (by omega) (by omega) (by omega)]
    dsimp only
    unfold out0_B_8
    refine (congrFun (View.read_writes_eq_canon _ _ _ (fun y => cover0_B_8 ..)) _).trans ?_
    unfold kernelRun0_B
    dsimp only
    sl_unfold_words
    simp only [View.canon_unit_zero (S := S512x512) zero2, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) zero2, View.ld_unit_zero (S := S1x512) zero2]
    exact (payB _ _ _ _ r l).trans (gateB m c t r l)

theorem out9 (c : Dev nD) (t : Fin cfg0.N) (r l : Fin 512) :
    (outsAt0 m c t.val t.isLt).2.2.1 (ix2 r l) = dBranch (P m c) (B m c) (D m c) 0 (512 * (t.val % 8) + r) (512 * (t.val / 8) + l) := by
  by_cases h : t.val % 8 = 0
  · rw [outsAt0_A m c t (by omega) (by omega) (by omega) (by omega)]
    dsimp only
    unfold out0_A_9
    refine (congrFun (View.read_writes_eq_canon _ _ _ (fun y => cover0_A_9 ..)) _).trans ?_
    unfold kernelRun0_A
    dsimp only
    sl_unfold_words
    simp only [View.canon_unit_zero (S := S512x512) zero2, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) zero2, View.ld_unit_zero (S := S1x512) zero2]
    exact (branchA _ _ _ r l).trans (dyA m c t r l)
  · rw [outsAt0_B m c t (by omega) (by omega) (by omega) (by omega)]
    dsimp only
    unfold out0_B_9
    refine (congrFun (View.read_writes_eq_canon _ _ _ (fun y => cover0_B_9 ..)) _).trans ?_
    unfold kernelRun0_B
    dsimp only
    sl_unfold_words
    simp only [View.canon_unit_zero (S := S512x512) zero2, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) zero2, View.ld_unit_zero (S := S1x512) zero2]
    exact (branchA _ _ _ r l).trans (dyA m c t r l)

theorem out10 (c : Dev nD) (t : Fin cfg0.N) (r l : Fin 512) :
    (outsAt0 m c t.val t.isLt).2.2.2.1 (ix2 r l) = dBranch (P m c) (B m c) (D m c) 4096 (512 * (t.val % 8) + r) (512 * (t.val / 8) + l) := by
  by_cases h : t.val % 8 = 0
  · rw [outsAt0_A m c t (by omega) (by omega) (by omega) (by omega)]
    dsimp only
    unfold out0_A_10
    refine (congrFun (View.read_writes_eq_canon _ _ _ (fun y => cover0_A_10 ..)) _).trans ?_
    unfold kernelRun0_A
    dsimp only
    sl_unfold_words
    simp only [View.canon_unit_zero (S := S512x512) zero2, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) zero2, View.ld_unit_zero (S := S1x512) zero2]
    exact (branchB _ _ _ r l).trans (dyB m c t r l)
  · rw [outsAt0_B m c t (by omega) (by omega) (by omega) (by omega)]
    dsimp only
    unfold out0_B_10
    refine (congrFun (View.read_writes_eq_canon _ _ _ (fun y => cover0_B_10 ..)) _).trans ?_
    unfold kernelRun0_B
    dsimp only
    sl_unfold_words
    simp only [View.canon_unit_zero (S := S512x512) zero2, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) zero2, View.ld_unit_zero (S := S1x512) zero2]
    exact (branchB _ _ _ r l).trans (dyB m c t r l)

/-- A bias block holds the sum over the blocks of rows up to the present one. -/
theorem out11 (c : Dev nD) (j : ℕ) : ∀ (i : ℕ) (hn : 8 * j + i < cfg0.N) (l : Fin 512), i < 8 →
    (outsAt0 m c (8 * j + i) hn).2.2.2.2.1 (ix2 0 l)
      = ∑ q ∈ Finset.range (i + 1), ∑ r : Fin 512, dGate (P m c) (B m c) (Ya m c) (D m c) 0 (512 * q + r) (512 * j + l) := by
  intro i
  induction i with
  | zero =>
    intro hn l hi
    have e : (⟨8 * j + 0, hn⟩ : Fin cfg0.N).val = 8 * j := rfl
    refine (congrFun (congrArg (fun p => p.2.2.2.2.1) (outsAt0_A m c ⟨8 * j + 0, hn⟩ (by omega) (by omega) (by omega) (by omega))) _).trans ?_
    dsimp only
    unfold out0_A_11
    refine (congrFun (View.read_writes_eq_canon _ _ _ (fun y => cover0_A_11 ..)) _).trans ?_
    unfold kernelRun0_A
    dsimp only
    sl_unfold_words
    simp only [View.canon_unit_zero (S := S1x512) zero2, View.readAt_eq_ld, (hs0_0 ⟨8 * j + 0, hn⟩).read_unread, (hs0_1 ⟨8 * j + 0, hn⟩).read_unread, (hs0_2 ⟨8 * j + 0, hn⟩).read_unread, (hs0_3 ⟨8 * j + 0, hn⟩).read_unread, (hs0_4 ⟨8 * j + 0, hn⟩).read_unread, (hs0_5 ⟨8 * j + 0, hn⟩).read_unread, (hs0_6 ⟨8 * j + 0, hn⟩).read_unread, View.ld_unit_zero (S := S512x512) zero2, View.ld_unit_zero (S := S1x512) zero2]
    refine (sumA _ _ _ _ l).trans ?_
    rw [Finset.sum_range_one]
    refine Finset.sum_congr rfl fun r _ => (gateA m c ⟨8 * j + 0, hn⟩ r l).trans ?_
    rw [e, show 8 * j % 8 = 0 by omega, show 8 * j / 8 = j by omega]
  | succ i ih =>
    intro hn l hi
    have e : (⟨8 * j + (i + 1), hn⟩ : Fin cfg0.N).val = 8 * j + (i + 1) := rfl
    refine (congrFun (congrArg (fun p => p.2.2.2.2.1) (outsAt0_B m c ⟨8 * j + (i + 1), hn⟩ (by omega) (by omega) (by omega) (by omega))) _).trans ?_
    dsimp only
    unfold out0_B_11
    refine (congrFun (View.read_writes_eq_canon _ _ _ (fun y => cover0_B_11 ..)) _).trans ?_
    unfold kernelRun0_B
    dsimp only
    sl_unfold_words
    simp only [View.canon_unit_zero (S := S1x512) zero2, View.readAt_eq_ld, (hs0_0 ⟨8 * j + (i + 1), hn⟩).read_unread, (hs0_1 ⟨8 * j + (i + 1), hn⟩).read_unread, (hs0_2 ⟨8 * j + (i + 1), hn⟩).read_unread, (hs0_3 ⟨8 * j + (i + 1), hn⟩).read_unread, (hs0_4 ⟨8 * j + (i + 1), hn⟩).read_unread, (hs0_5 ⟨8 * j + (i + 1), hn⟩).read_unread, (hs0_6 ⟨8 * j + (i + 1), hn⟩).read_unread, View.ld_unit_zero (S := S512x512) zero2, View.ld_unit_zero (S := S1x512) zero2]
    refine (add2 _ _ l).trans ?_
    rw [Finset.sum_range_succ]
    refine congrArg₂ (· + ·) ?_ ((sumA _ _ _ _ l).trans (Finset.sum_congr rfl fun r _ => (gateA m c ⟨8 * j + (i + 1), hn⟩ r l).trans ?_))
    · exact (congrFun ((hs0_11 ⟨8 * j + (i + 1), hn⟩).read_unread _) _).trans (ih (by omega) l (by omega))
    · rw [e, show (8 * j + (i + 1)) % 8 = i + 1 by omega, show (8 * j + (i + 1)) / 8 = j by omega]

/-- A bias block holds the sum over the blocks of rows up to the present one. -/
theorem out12 (c : Dev nD) (j : ℕ) : ∀ (i : ℕ) (hn : 8 * j + i < cfg0.N) (l : Fin 512), i < 8 →
    (outsAt0 m c (8 * j + i) hn).2.2.2.2.2 (ix2 0 l)
      = ∑ q ∈ Finset.range (i + 1), ∑ r : Fin 512, dGate (P m c) (B m c) (Yb m c) (D m c) 4096 (512 * q + r) (512 * j + l) := by
  intro i
  induction i with
  | zero =>
    intro hn l hi
    have e : (⟨8 * j + 0, hn⟩ : Fin cfg0.N).val = 8 * j := rfl
    refine (congrFun (congrArg (fun p => p.2.2.2.2.2) (outsAt0_A m c ⟨8 * j + 0, hn⟩ (by omega) (by omega) (by omega) (by omega))) _).trans ?_
    dsimp only
    unfold out0_A_12
    refine (congrFun (View.read_writes_eq_canon _ _ _ (fun y => cover0_A_12 ..)) _).trans ?_
    unfold kernelRun0_A
    dsimp only
    sl_unfold_words
    simp only [View.canon_unit_zero (S := S1x512) zero2, View.readAt_eq_ld, (hs0_0 ⟨8 * j + 0, hn⟩).read_unread, (hs0_1 ⟨8 * j + 0, hn⟩).read_unread, (hs0_2 ⟨8 * j + 0, hn⟩).read_unread, (hs0_3 ⟨8 * j + 0, hn⟩).read_unread, (hs0_4 ⟨8 * j + 0, hn⟩).read_unread, (hs0_5 ⟨8 * j + 0, hn⟩).read_unread, (hs0_6 ⟨8 * j + 0, hn⟩).read_unread, View.ld_unit_zero (S := S512x512) zero2, View.ld_unit_zero (S := S1x512) zero2]
    refine (sumB _ _ _ _ l).trans ?_
    rw [Finset.sum_range_one]
    refine Finset.sum_congr rfl fun r _ => (gateB m c ⟨8 * j + 0, hn⟩ r l).trans ?_
    rw [e, show 8 * j % 8 = 0 by omega, show 8 * j / 8 = j by omega]
  | succ i ih =>
    intro hn l hi
    have e : (⟨8 * j + (i + 1), hn⟩ : Fin cfg0.N).val = 8 * j + (i + 1) := rfl
    refine (congrFun (congrArg (fun p => p.2.2.2.2.2) (outsAt0_B m c ⟨8 * j + (i + 1), hn⟩ (by omega) (by omega) (by omega) (by omega))) _).trans ?_
    dsimp only
    unfold out0_B_12
    refine (congrFun (View.read_writes_eq_canon _ _ _ (fun y => cover0_B_12 ..)) _).trans ?_
    unfold kernelRun0_B
    dsimp only
    sl_unfold_words
    simp only [View.canon_unit_zero (S := S1x512) zero2, View.readAt_eq_ld, (hs0_0 ⟨8 * j + (i + 1), hn⟩).read_unread, (hs0_1 ⟨8 * j + (i + 1), hn⟩).read_unread, (hs0_2 ⟨8 * j + (i + 1), hn⟩).read_unread, (hs0_3 ⟨8 * j + (i + 1), hn⟩).read_unread, (hs0_4 ⟨8 * j + (i + 1), hn⟩).read_unread, (hs0_5 ⟨8 * j + (i + 1), hn⟩).read_unread, (hs0_6 ⟨8 * j + (i + 1), hn⟩).read_unread, View.ld_unit_zero (S := S512x512) zero2, View.ld_unit_zero (S := S1x512) zero2]
    refine (add1 _ _ l).trans ?_
    rw [Finset.sum_range_succ]
    refine congrArg₂ (· + ·) ?_ ((sumB _ _ _ _ l).trans (Finset.sum_congr rfl fun r _ => (gateB m c ⟨8 * j + (i + 1), hn⟩ r l).trans ?_))
    · exact (congrFun ((hs0_12 ⟨8 * j + (i + 1), hn⟩).read_unread _) _).trans (ih (by omega) l (by omega))
    · rw [e, show (8 * j + (i + 1)) % 8 = i + 1 by omega, show (8 * j + (i + 1)) / 8 = j by omega]

theorem arr7 (c : Dev nD) (G : S4096x4096.Idx → EReal)
    (h : ∀ r l : Fin 4096, G (ix2 r l) = dGate (P m c) (B m c) (Ya m c) (D m c) 0 r l) : (dats m 0 c).arrAt 7 cfg0.N = G := by
  refine (dats m 0 c).arrAt_eq_of_covers 7 _ (by decide +kernel) fun t hf y => ?_
  blk_simp
  rw [after0_7]
  conv_lhs => rw [← ix2_eta y]
  refine (out7 m c t (y 0) (y 1)).trans (of_ix G _ h _ _ _ ?_ ?_).symm
  · blk_simp [i7]; omega
  · blk_simp [i7]; omega

theorem arr8 (c : Dev nD) (G : S4096x4096.Idx → EReal)
    (h : ∀ r l : Fin 4096, G (ix2 r l) = dGate (P m c) (B m c) (Yb m c) (D m c) 4096 r l) : (dats m 0 c).arrAt 8 cfg0.N = G := by
  refine (dats m 0 c).arrAt_eq_of_covers 8 _ (by decide +kernel) fun t hf y => ?_
  blk_simp
  rw [after0_8]
  conv_lhs => rw [← ix2_eta y]
  refine (out8 m c t (y 0) (y 1)).trans (of_ix G _ h _ _ _ ?_ ?_).symm
  · blk_simp [i8]; omega
  · blk_simp [i8]; omega

theorem arr9 (c : Dev nD) (G : S4096x4096.Idx → EReal)
    (h : ∀ r l : Fin 4096, G (ix2 r l) = dBranch (P m c) (B m c) (D m c) 0 r l) : (dats m 0 c).arrAt 9 cfg0.N = G := by
  refine (dats m 0 c).arrAt_eq_of_covers 9 _ (by decide +kernel) fun t hf y => ?_
  blk_simp
  rw [after0_9]
  conv_lhs => rw [← ix2_eta y]
  refine (out9 m c t (y 0) (y 1)).trans (of_ix G _ h _ _ _ ?_ ?_).symm
  · blk_simp [i9]; omega
  · blk_simp [i9]; omega

theorem arr10 (c : Dev nD) (G : S4096x4096.Idx → EReal)
    (h : ∀ r l : Fin 4096, G (ix2 r l) = dBranch (P m c) (B m c) (D m c) 4096 r l) : (dats m 0 c).arrAt 10 cfg0.N = G := by
  refine (dats m 0 c).arrAt_eq_of_covers 10 _ (by decide +kernel) fun t hf y => ?_
  blk_simp
  rw [after0_10]
  conv_lhs => rw [← ix2_eta y]
  refine (out10 m c t (y 0) (y 1)).trans (of_ix G _ h _ _ _ ?_ ?_).symm
  · blk_simp [i10]; omega
  · blk_simp [i10]; omega

theorem arr11 (c : Dev nD) (G : S1x4096.Idx → EReal)
    (h : ∀ (u : Fin 1) (l : Fin 4096), G (ix2 u l) = ∑ r : Fin 4096, dGate (P m c) (B m c) (Ya m c) (D m c) 0 r l) : (dats m 0 c).arrAt 11 cfg0.N = G := by
  refine (dats m 0 c).arrAt_eq_of_covers 11 _ (by decide +kernel) fun t hf y => ?_
  have hN : t.val < 64 := lt_of_lt_of_eq t.isLt (show cfg0.N = 64 from N_0)
  have ht : t.val = 8 * (t.val / 8) + 7 := by
    have := (flush0_11 t).mp hf
    omega
  blk_simp
  rw [after0_11]
  conv_lhs => rw [← ix2_eta y]
  have y0 : y 0 = (0 : Fin 1) := Subsingleton.elim (α := Fin 1) _ _
  rw [y0]
  have key : ∀ (n : ℕ) (hn : n < cfg0.N), n = 8 * (t.val / 8) + 7 → (outsAt0 m c n hn).2.2.2.2.1 (ix2 0 (y 1))
      = ∑ r : Fin 4096, dGate (P m c) (B m c) (Ya m c) (D m c) 0 r (512 * (t.val / 8) + (y 1 : Fin 512)) := by
    intro n hn en
    subst en
    exact (out11 m c _ 7 hn (y 1) (by omega)).trans (sum_tiles 512 8 fun r => dGate (P m c) (B m c) (Ya m c) (D m c) 0 r (512 * (t.val / 8) + (y 1 : Fin 512)))
  refine (key t.val t.isLt ht).trans (of_ix G (fun _ l => ∑ r : Fin 4096, dGate (P m c) (B m c) (Ya m c) (D m c) 0 r l) h _ 0 _ ?_ ?_).symm
  · blk_simp [i11]
  · blk_simp [i11]; omega

theorem arr12 (c : Dev nD) (G : S1x4096.Idx → EReal)
    (h : ∀ (u : Fin 1) (l : Fin 4096), G (ix2 u l) = ∑ r : Fin 4096, dGate (P m c) (B m c) (Yb m c) (D m c) 4096 r l) : (dats m 0 c).arrAt 12 cfg0.N = G := by
  refine (dats m 0 c).arrAt_eq_of_covers 12 _ (by decide +kernel) fun t hf y => ?_
  have hN : t.val < 64 := lt_of_lt_of_eq t.isLt (show cfg0.N = 64 from N_0)
  have ht : t.val = 8 * (t.val / 8) + 7 := by
    have := (flush0_12 t).mp hf
    omega
  blk_simp
  rw [after0_12]
  conv_lhs => rw [← ix2_eta y]
  have y0 : y 0 = (0 : Fin 1) := Subsingleton.elim (α := Fin 1) _ _
  rw [y0]
  have key : ∀ (n : ℕ) (hn : n < cfg0.N), n = 8 * (t.val / 8) + 7 → (outsAt0 m c n hn).2.2.2.2.2 (ix2 0 (y 1))
      = ∑ r : Fin 4096, dGate (P m c) (B m c) (Yb m c) (D m c) 4096 r (512 * (t.val / 8) + (y 1 : Fin 512)) := by
    intro n hn en
    subst en
    exact (out12 m c _ 7 hn (y 1) (by omega)).trans (sum_tiles 512 8 fun r => dGate (P m c) (B m c) (Yb m c) (D m c) 4096 r (512 * (t.val / 8) + (y 1 : Fin 512)))
  refine (key t.val t.isLt ht).trans (of_ix G (fun _ l => ∑ r : Fin 4096, dGate (P m c) (B m c) (Yb m c) (D m c) 4096 r l) h _ 0 _ ?_ ?_).symm
  · blk_simp [i12]
  · blk_simp [i12]; omega

section
open Cert.Reference27Ideal.Read

variable (p : S4096x21504.Idx → EReal) (b : S1x8192.Idx → EReal) (ya yb d : S4096x4096.Idx → EReal)

theorem ref7 (r l : Fin 4096) :
    val_main_v28 (F := Ideal) p b ya yb d (ix2 r l) = dGate (at2 p) (at2 b) (at2 ya) (at2 d) 0 r l := by
  unfold val_main_v28 val_main_v27 val_main_v24 val_main_v23 val_main_v22 val_main_v20 val_main_v18 val_main_v17 val_main_v11 val_main_v10 val_main_v9 val_main_v8 val_main_v7 val_main_v6 val_main_v5 val_main_v4 val_main_v3 val_main_v2 val_main_v1 val_main_v0 val_main_cst_1 val_main_cst val_main_cst_0
  pointwise
  unfold dGate slope gate pre
  simp only [at2_ix p, at2_ix b, at2_ix ya, at2_ix d, ← Nat.add_assoc, Nat.zero_add, Nat.add_zero] <;> rfl

theorem ref8 (r l : Fin 4096) :
    val_main_v29 (F := Ideal) p b ya yb d (ix2 r l) = dGate (at2 p) (at2 b) (at2 yb) (at2 d) 4096 r l := by
  unfold val_main_v29 val_main_v27 val_main_v24 val_main_v23 val_main_v22 val_main_v20 val_main_v18 val_main_v17 val_main_v11 val_main_v10 val_main_v9 val_main_v8 val_main_v7 val_main_v6 val_main_v5 val_main_v4 val_main_v3 val_main_v2 val_main_v1 val_main_v0 val_main_cst_1 val_main_cst val_main_cst_0
  pointwise
  unfold dGate slope gate pre
  simp only [at2_ix p, at2_ix b, at2_ix yb, at2_ix d, ← Nat.add_assoc, Nat.zero_add, Nat.add_zero] <;> rfl

theorem ref9 (r l : Fin 4096) :
    val_main_v32 (F := Ideal) p b d (ix2 r l) = dBranch (at2 p) (at2 b) (at2 d) 0 r l := by
  unfold val_main_v32 val_main_v21 val_main_v17 val_main_v12 val_main_v8 val_main_v7 val_main_v6 val_main_v5 val_main_v4 val_main_v3 val_main_v2 val_main_v1 val_main_v0 val_main_cst val_main_cst_0
  pointwise
  unfold dBranch gate pre
  simp only [at2_ix p, at2_ix b, at2_ix d, ← Nat.add_assoc, Nat.zero_add, Nat.add_zero] <;> rfl

theorem ref10 (r l : Fin 4096) :
    val_main_v33 (F := Ideal) p b d (ix2 r l) = dBranch (at2 p) (at2 b) (at2 d) 4096 r l := by
  unfold val_main_v33 val_main_v19 val_main_v18 val_main_v13 val_main_v8 val_main_v7 val_main_v6 val_main_v5 val_main_v4 val_main_v3 val_main_v2 val_main_v1 val_main_v0 val_main_cst val_main_cst_0
  pointwise
  unfold dBranch gate pre
  simp only [at2_ix p, at2_ix b, at2_ix d, ← Nat.add_assoc, Nat.zero_add, Nat.add_zero] <;> rfl

theorem ref11 (u : Fin 1) (l : Fin 4096) :
    val_main_v30 (F := Ideal) p b ya yb d (ix2 u l) = ∑ r : Fin 4096, dGate (at2 p) (at2 b) (at2 ya) (at2 d) 0 r l := by
  unfold val_main_v30 val_main_v26 val_main_v25 val_main_v24 val_main_v23 val_main_v22 val_main_v20 val_main_v18 val_main_v17 val_main_v11 val_main_v10 val_main_v9 val_main_v8 val_main_v7 val_main_v6 val_main_v5 val_main_v4 val_main_v3 val_main_v2 val_main_v1 val_main_v0 val_main_cst_2 val_main_cst_1 val_main_cst val_main_cst_0
  pointwise
  unfold dGate slope gate pre
  simp only [at2_ix p, at2_ix b, at2_ix ya, at2_ix d, ← Nat.add_assoc, Nat.zero_add, Nat.add_zero] <;> rfl

theorem ref12 (u : Fin 1) (l : Fin 4096) :
    val_main_v31 (F := Ideal) p b ya yb d (ix2 u l) = ∑ r : Fin 4096, dGate (at2 p) (at2 b) (at2 yb) (at2 d) 4096 r l := by
  unfold val_main_v31 val_main_v26 val_main_v25 val_main_v24 val_main_v23 val_main_v22 val_main_v20 val_main_v18 val_main_v17 val_main_v11 val_main_v10 val_main_v9 val_main_v8 val_main_v7 val_main_v6 val_main_v5 val_main_v4 val_main_v3 val_main_v2 val_main_v1 val_main_v0 val_main_cst_2 val_main_cst_1 val_main_cst val_main_cst_0
  pointwise
  unfold dGate slope gate pre
  simp only [at2_ix p, at2_ix b, at2_ix yb, at2_ix d, ← Nat.add_assoc, Nat.zero_add, Nat.add_zero] <;> rfl

end

/-- The reference runs, keeps its arguments, and has no semaphore. -/
theorem ref_frame :
    Cert.quiescent_Reference27Ideal (hReference27Ideal := Cert.Reference27Ideal.Gen.facts) := fun m ρ _ =>
  (θ_run Cert.Reference27Ideal.defs _ _).mono (fun r h => ⟨fun c => (h c).2.2.2.2.2.2, sem_eq_zero_of_no_sems (by decide) r.2⟩)
    (Cert.Reference27Ideal.Value.run (F := Ideal) m ρ)

/-- The call's six results are, on the ideal reals, the reference's. -/
theorem value : Cert.algebraic_Kernel27Ideal_Reference27Ideal (hKernel27Ideal := Cert.Kernel27Ideal.Gen.facts)
    (hReference27Ideal := Cert.Reference27Ideal.Gen.facts) := by
  intro m g m' g' _ hag
  refine ⟨_, _, _, _, _, _, ?_, (θ_run Cert.Reference27Ideal.defs _ _).mono (fun _ h c => h c) (Cert.Reference27Ideal.Value.run (F := Ideal) m' g')⟩
  refine (θ_run Cert.Kernel27Ideal.defs _ _).mono (fun _ h c => ?_) (Cert.Kernel27Ideal.Value.run_blocks m g)
  obtain ⟨h7, h8, h9, h10, h11, h12, hk⟩ := h c
  obtain ⟨a0, a1, a2, a3, a4⟩ := hag c
  refine ⟨h7.trans (arr7 m c _ fun r l => ?_), h8.trans (arr8 m c _ fun r l => ?_), h9.trans (arr9 m c _ fun r l => ?_),
    h10.trans (arr10 m c _ fun r l => ?_), h11.trans (arr11 m c _ fun u l => ?_), h12.trans (arr12 m c _ fun u l => ?_), hk⟩
  · refine (congrFun (Cert.Reference27Ideal.Read.val_main_v28_eq _ _ _ _ _) _).trans ((ref7 _ _ _ _ _ r l).trans ?_)
    rw [a0, a1, a2, a4]
  · refine (congrFun (Cert.Reference27Ideal.Read.val_main_v29_eq _ _ _ _ _) _).trans ((ref8 _ _ _ _ _ r l).trans ?_)
    rw [a0, a1, a3, a4]
  · refine (congrFun (Cert.Reference27Ideal.Read.val_main_v32_eq _ _ _) _).trans ((ref9 _ _ _ r l).trans ?_)
    rw [a0, a1, a4]
  · refine (congrFun (Cert.Reference27Ideal.Read.val_main_v33_eq _ _ _) _).trans ((ref10 _ _ _ r l).trans ?_)
    rw [a0, a1, a4]
  · refine (congrFun (Cert.Reference27Ideal.Read.val_main_v30_eq _ _ _ _ _) _).trans ((ref11 _ _ _ _ _ u l).trans ?_)
    rw [a0, a1, a2, a4]
  · refine (congrFun (Cert.Reference27Ideal.Read.val_main_v31_eq _ _ _ _ _) _).trans ((ref12 _ _ _ _ _ u l).trans ?_)
    rw [a0, a1, a3, a4]

end Cert.Proof.Merge
-- ==== Proof.InBot.lean ====
module

public import proofs.«01_k».proof.Defs
public import proofs.«01_k».proof.Proof.Entries
public import proofs.«01_k».proof.Proof.Gen.Kernel28Ideal.Value
public import proofs.«01_k».proof.Proof.Gen.Reference28Ideal.Run
public import proofs.«01_k».proof.Proof.Gen.Reference28Ideal.Read

/-!
The combined input projection: the lower half's product added to the upper half's.
-/

@[expose] public section

noncomputable section

open Idealize.ShloMosaic Idealize.ShloMosaic.TcCoe Idealize.SL.Sem
open Idealize.ShloMosaic.Pipeline (Dat)

namespace Cert.Proof.InBot

open Cert.Kernel28Ideal Cert.Kernel28Ideal.Gen Cert.Proof.Entries Cert.Reference28Ideal.Read

variable (m : (ℓ : Loc nD τ sig) → Buf (Elt Ideal) ℓ)

abbrev A (c : Dev nD) : ℕ → ℕ → EReal := at2 (n := 4096) (k := 2048) (m ((c : Thread nD τ).loc main_arg0))
abbrev B (c : Dev nD) : ℕ → ℕ → EReal := at2 (n := 2048) (k := 21504) (m ((c : Thread nD τ).loc main_arg1))
abbrev P (c : Dev nD) : ℕ → ℕ → EReal := at2 (n := 4096) (k := 21504) (m ((c : Thread nD τ).loc main_arg2))
/-- The entry of the product. -/
abbrev dot (a b : ℕ → ℕ → EReal) (r l : ℕ) : EReal := ∑ k : Fin 2048, a r k * b k l

theorem i0 : ∀ t : Fin cfg0.N, win0_0.index t = ![t.val / 42, 0] := (by decide +kernel : ∀ t : Fin grid0.N, _)
theorem i1 : ∀ t : Fin cfg0.N, win0_1.index t = ![0, t.val % 42] := (by decide +kernel : ∀ t : Fin grid0.N, _)
theorem i2 : ∀ t : Fin cfg0.N, win0_2.index t = ![t.val / 42, t.val % 42] := (by decide +kernel : ∀ t : Fin grid0.N, _)
theorem i3 : ∀ t : Fin cfg0.N, win0_3.index t = ![t.val / 42, t.val % 42] := (by decide +kernel : ∀ t : Fin grid0.N, _)

theorem V0 (c : Dev nD) : (V m c main_v0 : S4096x2048.Idx → EReal) = m ((c : Thread nD τ).loc main_arg0) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V1 (c : Dev nD) : (V m c main_v1 : S2048x21504.Idx → EReal) = m ((c : Thread nD τ).loc main_arg1) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem V2 (c : Dev nD) : (V m c main_arg2 : S4096x21504.Idx → EReal) = m ((c : Thread nD τ).loc main_arg2) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

theorem block2 (c : Dev nD) (t : Fin cfg0.N) (r : Fin 1024) (l : Fin 512) :
    (iblk m c 2 t : S1024x512.Idx → EReal) (ix2 r l) = P m c (1024 * (t.val / 42) + r) (512 * (t.val % 42) + l) := by
  blk_simp [iblk]
  refine (congrFun (V2 m c) _).trans (at2_of _ _ _ _ ?_ ?_)
  · blk_simp [i2]; omega
  · blk_simp [i2]; omega

theorem block0 (c : Dev nD) (t : Fin cfg0.N) (r : Fin 1024) (k : Fin 2048) :
    (iblk m c 0 t : S1024x2048.Idx → EReal) (ix2 r k) = A m c (1024 * (t.val / 42) + r) k := by
  blk_simp [iblk]
  refine (congrFun (V0 m c) _).trans (at2_of _ _ _ _ ?_ ?_)
  · blk_simp [i0]; omega
  · blk_simp [i0]

theorem block1 (c : Dev nD) (t : Fin cfg0.N) (k : Fin 2048) (l : Fin 512) :
    (iblk m c 1 t : S2048x512.Idx → EReal) (ix2 k l) = B m c k (512 * (t.val % 42) + l) := by
  blk_simp [iblk]
  refine (congrFun (V1 m c) _).trans (at2_of _ _ _ _ ?_ ?_)
  · blk_simp [i1]
  · blk_simp [i1]; omega

/-- The product of the two blocks, and what was there before. -/
theorem pay (x : Vec Ideal S1024x2048 .bf16) (y : Vec Ideal S2048x512 .bf16) (z : Vec Ideal S1024x512 .f32) (r : Fin 1024) (l : Fin 512) :
    k0_pay1 x y z (ix2 r l) = (∑ k : Fin 2048, x (ix2 r k) * y (ix2 k l)) + z (ix2 r l) := by
  unfold k0_pay1
  simp only [shapeCast_self]
  pointwise

/-- What a grid point leaves in its output block. -/
theorem out (c : Dev nD) (t : Fin cfg0.N) (r : Fin 1024) (l : Fin 512) :
    out0_3 (iblk m c 0 t) (iblk m c 1 t) (iblk m c 2 t) (ix2 r l) = dot (A m c) (B m c) (1024 * (t.val / 42) + r) (512 * (t.val % 42) + l) + P m c (1024 * (t.val / 42) + r) (512 * (t.val % 42) + l) := by
  unfold out0_3
  simp only [View.canon_unit_zero (S := S1024x512) zero2, View.ld_unit_zero (S := S1024x2048) zero2, View.ld_unit_zero (S := S2048x512) zero2, View.ld_unit_zero (S := S1024x512) zero2]
  rw [pay, block2]
  simp only [block0, block1]

/-- The array the call leaves. -/
theorem arr (c : Dev nD) (G : S4096x21504.Idx → EReal) (h : ∀ (r : Fin 4096) (l : Fin 21504), G (ix2 r l) = dot (A m c) (B m c) r l + P m c r l) :
    (dats m 0 c).arrAt 3 cfg0.N = G := by
  refine (dats m 0 c).arrAt_eq_of_covers 3 _ (by decide +kernel) fun t hf y => ?_
  blk_simp
  rw [after0_3]
  refine (of_ix _ (fun r l => dot (A m c) (B m c) (1024 * (t.val / 42) + r) (512 * (t.val % 42) + l) + P m c (1024 * (t.val / 42) + r) (512 * (t.val % 42) + l)) (fun r l => out m c t r l) y (y 0) (y 1) rfl rfl).trans
    (of_ix G (fun r l => dot (A m c) (B m c) r l + P m c r l) h _ _ _ ?_ ?_).symm
  · blk_simp [i3]; omega
  · blk_simp [i3]; omega

/-- The reference's result at an entry. -/
theorem ref_out (X : S4096x2048.Idx → EReal) (Y : S2048x21504.Idx → EReal) (Z : S4096x21504.Idx → EReal) (r : Fin 4096) (l : Fin 21504) :
    val_main_v1 (F := Ideal) X Y Z (ix2 r l) = dot (at2 X) (at2 Y) r l + at2 Z r l := by
  unfold val_main_v1 val_main_v0
  pointwise
  simp only [at2_ix X, at2_ix Y, at2_ix Z]
  exact add_comm _ _

/-- The reference runs, keeps its arguments, and has no semaphore. -/
theorem ref_frame :
    Cert.quiescent_Reference28Ideal (hReference28Ideal := Cert.Reference28Ideal.Gen.facts) := fun m ρ _ =>
  (θ_run Cert.Reference28Ideal.defs _ _).mono (fun r h => ⟨fun c => (h c).2, sem_eq_zero_of_no_sems (by decide) r.2⟩)
    (Cert.Reference28Ideal.Value.run (F := Ideal) m ρ)

/-- The call's result is, on the ideal reals, the reference's. -/
theorem value : Cert.algebraic_Kernel28Ideal_Reference28Ideal (hKernel28Ideal := Cert.Kernel28Ideal.Gen.facts)
    (hReference28Ideal := Cert.Reference28Ideal.Gen.facts) := by
  intro m g m' g' _ hag
  refine ⟨_, Cert.Kernel28Ideal.Value.run_blocks m g, (θ_run Cert.Reference28Ideal.defs _ _).mono (fun _ h c => ?_) (Cert.Reference28Ideal.Value.run (F := Ideal) m' g')⟩
  obtain ⟨a0, a1, a2⟩ := hag c
  refine ⟨((h c).1.trans (val_main_v1_eq _ _ _)).trans (arr m c _ fun r l => ?_).symm, (h c).2⟩
  refine (ref_out _ _ _ r l).trans ?_
  rw [a0, a1, a2]

end Cert.Proof.InBot
-- ==== Proof.Mix.lean ====
module

public import proofs.«01_k».proof.Defs
public import proofs.«01_k».proof.Proof.Entries
public import proofs.«01_k».proof.Proof.ConvTile
public import proofs.«01_k».proof.Proof.Gen.Kernel29Ideal.Skeleton
public import proofs.«01_k».proof.Proof.Gen.Reference29Ideal.Read

/-!
The gradient of the interpolation between a token and the one before, in its weight: the formula, and what one block of rows
contributes to it.
-/

@[expose] public section

noncomputable section

open Idealize.ShloMosaic Idealize.ShloMosaic.TcCoe Idealize.SL.Sem

namespace Cert.Proof.Mix

open Cert.Kernel29Ideal Cert.Kernel29Ideal.Gen Cert.Proof.Conv

/-- The row of the token before, zero before the first. -/
def before (p : ℕ → ℕ → EReal) (r l : ℕ) : EReal := if r = 0 then 0 else p (r - 1) l

/-- What a token contributes to the weight's gradient: `h` is the first of the projection's columns. -/
def term (d p : ℕ → ℕ → EReal) (h r l : ℕ) : EReal := d r l * (before p r (h + l) - p r (h + l))

/-- A block's contribution: the sum over its rows. -/
theorem pay (d p : ℕ → ℕ → EReal) (I h c : ℕ) (hI : I < 8) (x y : Vec Ideal S512x512 .f32) (v : Vec Ideal S1x512 .f32)
    (hx : ∀ r l : Fin 512, x (ix2 r l) = d (512 * I + r) (c + l))
    (hy : ∀ r l : Fin 512, y (ix2 r l) = p (512 * I + r) (h + (c + l)))
    (hv : 0 < I → ∀ l : Fin 512, v (ix2 0 l) = p (512 * I - 1) (h + (c + l))) (l : Fin 512) :
    k0_pay1 (F := Ideal) x y (Scalar.cmpi CmpIPredicate.eq (BitVec.ofNat 32 I) 0#32) (k0_pay5 y)
      (iota Kind.tc S512x512 32 [0] iota_S512x512_d0_w32) v k0_pay6 (ix2 0 l) = ∑ r : Fin 512, term d p h (512 * I + r) (c + l) := by
  unfold k0_pay1 k0_pay5 k0_pay6
  simp only [shapeCast_self]
  pointwise
  refine Finset.sum_congr rfl fun r _ => ?_
  have hr := r.isLt
  rw [hx, sel_eq _ _ (by omega) (by omega), sel_eq' _ _ (by omega) (by omega)]
  simp only [hy]
  unfold term before
  congr 2
  by_cases h0 : r.val = 0
  · rw [if_pos h0]
    by_cases h1 : I = 0
    · rw [if_pos h1, if_pos (by omega)]
    · rw [if_neg h1, if_neg (by omega), hv (by omega)]
      congr 1
      omega
  · rw [if_neg h0, if_neg (by omega)]
    congr 1
    omega

/-- Adding a contribution to the sum so far. -/
theorem add (x y : Vec Ideal S512x512 .f32) (b : BitVec 1) (s : FVec Ideal S512x512 .f32) (k : IVec S512x512 32) (v z w : Vec Ideal S1x512 .f32)
    (l : Fin 512) : k0_pay2 (F := Ideal) x y b s k v z w (ix2 0 l) = w (ix2 0 l) + k0_pay1 x y b s k v z (ix2 0 l) := by
  unfold k0_pay2
  simp only [shapeCast_self]
  rfl

/-- Sums kept over runs of eight steps, begun anew at each run's first step. -/
theorem total (N : ℕ) (o : (n : ℕ) → n < N → EReal) (f : ℕ → ℕ → EReal) (first : ∀ n (hn : n < N), n % 8 = 0 → o n hn = f (n / 8) (n % 8))
    (next : ∀ n (hn : n < N), n % 8 ≠ 0 → o n hn = o (n - 1) (by omega) + f (n / 8) (n % 8)) (j : ℕ) :
    ∀ (i : ℕ) (hn : 8 * j + i < N), i < 8 → o (8 * j + i) hn = ∑ q ∈ Finset.range (i + 1), f j q := by
  intro i
  induction i with
  | zero =>
    intro hn hi
    rw [Finset.sum_range_one, first _ _ (by omega), show (8 * j + 0) / 8 = j by omega, show (8 * j + 0) % 8 = 0 by omega]
  | succ i ih =>
    intro hn hi
    rw [Finset.sum_range_succ, next _ _ (by omega), ← ih (by omega) (by omega), show (8 * j + (i + 1)) / 8 = j by omega,
      show (8 * j + (i + 1)) % 8 = i + 1 by omega]
    rfl

/-- After a column's last step its sum runs over all rows. -/
theorem column (d p : ℕ → ℕ → EReal) (h x N : ℕ) (o : (n : ℕ) → n < N → EReal)
    (first : ∀ n (hn : n < N), n % 8 = 0 → o n hn = ∑ r : Fin 512, term d p h (512 * (n % 8) + r) (512 * (n / 8) + x))
    (next : ∀ n (hn : n < N), n % 8 ≠ 0 → o n hn = o (n - 1) (by omega) + ∑ r : Fin 512, term d p h (512 * (n % 8) + r) (512 * (n / 8) + x))
    (n : ℕ) (hn : n < N) (hl : n % 8 = 7) : o n hn = ∑ r : Fin 4096, term d p h r (512 * (n / 8) + x) := by
  have e : n = 8 * (n / 8) + 7 := by omega
  have key : ∀ (k : ℕ) (hk : k < N), k = 8 * (n / 8) + 7 → o k hk = ∑ r : Fin 4096, term d p h r (512 * (n / 8) + x) := by
    intro k hk ek
    subst ek
    exact (total N o (fun a q => ∑ r : Fin 512, term d p h (512 * q + r) (512 * a + x)) first next _ 7 hk (by omega)).trans
      (Entries.sum_tiles 512 8 fun r => term d p h r (512 * (n / 8) + x))
  exact key n hn e

end Cert.Proof.Mix

namespace Cert.Proof.Mix

open Cert.Reference29Ideal Cert.Reference29Ideal.Gen Cert.Reference29Ideal.Read Cert.Proof.Entries

/-- The reference's sum over the rows, of a group `v` of the projection's columns. -/
theorem ref_sum (d v : S4096x2048.Idx → EReal) (p : ℕ → ℕ → EReal) (h : ℕ) (hv : ∀ (r : Fin 4096) (l : Fin 2048), v (ix2 r l) = p r (h + l))
    (u : Fin 1) (l : Fin 2048) :
    (shapeCast S1x2048 (Host.reduceAdd (F := Ideal) (φ := .f32) (mulf (F := Ideal) (φ := .f32) (subf (F := Ideal) (φ := .f32)
      (pad S4096x2048 ![1, 0] ![0, 0] ![0, 0] (extractStridedSlice S4095x2048 ![0, 0] v slices_S4096x2048_S4095x2048_0_0)
        (sitofp (F := Ideal) .f32 (constantI S_ 32 0#32)) pads_S4095x2048_S4096x2048_100_000 h_S_) v) d)
      (constant (F := Ideal) S_ .f32 0x00000000#32) reducesTo_S4096x2048_S2048_d0 h_S_) shapeCasts_S2048_S1x2048 : S1x2048.Idx → EReal) (ix2 u l)
      = ∑ r : Fin 4096, term (at2 d) p h r l := by
  pointwise
  refine Finset.sum_congr rfl fun r _ => ?_
  have hr := r.isLt
  unfold term before
  rw [at2_ix d, hv, mul_comm]
  congr 2
  by_cases h0 : r.val = 0
  · rw [dif_neg (by omega), if_pos h0]
    show ((BitVec.toInt 0#32 : ℝ) : EReal) = 0
    simp
  · rw [dif_pos (by omega), if_neg h0]
    exact hv ⟨r.val - 1, by omega⟩ l

end Cert.Proof.Mix
-- ==== Proof.MixFirst.lean ====
module

public import proofs.«01_k».proof.Defs
public import proofs.«01_k».proof.Proof.Entries
public import proofs.«01_k».proof.Proof.Mix
public import proofs.«01_k».proof.Proof.Gen.Kernel29Ideal.Value
public import proofs.«01_k».proof.Proof.Gen.Reference29Ideal.Run
public import proofs.«01_k».proof.Proof.Gen.Reference29Ideal.Read

/-!
The gradient of the first group's interpolation weight.
-/

@[expose] public section

noncomputable section

open Idealize.ShloMosaic Idealize.ShloMosaic.TcCoe Idealize.SL.Sem
open Idealize.ShloMosaic.Pipeline (Dat)

namespace Cert.Proof.MixFirst

open Cert.Kernel29Ideal Cert.Kernel29Ideal.Gen Cert.Proof.Entries Cert.Proof.Mix

variable (m : (ℓ : Loc nD τ sig) → Buf (Elt Ideal) ℓ)

abbrev D (c : Dev nD) : ℕ → ℕ → EReal := at2 (n := 4096) (k := 2048) (m ((c : Thread nD τ).loc main_arg0))
abbrev P (c : Dev nD) : ℕ → ℕ → EReal := at2 (n := 4096) (k := 21504) (m ((c : Thread nD τ).loc main_arg1))

theorem i0 : ∀ t : Fin cfg0.N, win0_0.index t = ![t.val % 8, t.val / 8] := (by decide +kernel : ∀ t : Fin grid0.N, _)
theorem i2 : ∀ t : Fin cfg0.N, win0_2.index t = ![t.val % 8, 0 + t.val / 8] := (by decide +kernel : ∀ t : Fin grid0.N, _)
theorem i3 : ∀ t : Fin cfg0.N, win0_3.index t = ![64 * (t.val % 8) - 1, 0 + t.val / 8] := (by decide +kernel : ∀ t : Fin grid0.N, _)
theorem i6 : ∀ t : Fin cfg0.N, win0_6.index t = ![0, t.val / 8] := (by decide +kernel : ∀ t : Fin grid0.N, _)
theorem g1 : ∀ t : Fin cfg0.N, (grid0.coords t 1).val = t.val % 8 := (by decide +kernel : ∀ t : Fin grid0.N, _)

theorem block0 (c : Dev nD) (t : Fin cfg0.N) (r l : Fin 512) :
    (iblk m c 0 t : S512x512.Idx → EReal) (ix2 r l) = D m c (512 * (t.val % 8) + r) (512 * (t.val / 8) + l) := by
  blk_simp [iblk]
  refine at2_of _ _ _ _ ?_ ?_
  · blk_simp [i0]; omega
  · blk_simp [i0]; omega

theorem block2 (c : Dev nD) (t : Fin cfg0.N) (r l : Fin 512) :
    (iblk m c 2 t : S512x512.Idx → EReal) (ix2 r l) = P m c (512 * (t.val % 8) + r) (0 + (512 * (t.val / 8) + l)) := by
  blk_simp [iblk]
  refine at2_of _ _ _ _ ?_ ?_
  · blk_simp [i2]; omega
  · blk_simp [i2]; omega

theorem block3 (c : Dev nD) (t : Fin cfg0.N) (ht : 0 < t.val % 8) (l : Fin 512) :
    (iblk m c 3 t : S8x512.Idx → EReal) (ix2 7 l) = P m c (512 * (t.val % 8) - 1) (0 + (512 * (t.val / 8) + l)) := by
  blk_simp [iblk]
  refine at2_of _ _ _ _ ?_ ?_
  · blk_simp [i3]
    simp only [Fin.isValue, Fin.coe_ofNat_eq_mod]
    omega
  · blk_simp [i3]; omega

/-- What a grid point contributes. -/
theorem tile (c : Dev nD) (t : Fin cfg0.N) (inb) (l : Fin 512) :
    k0_pay1 (F := Ideal) (iblk m c 0 t) (iblk m c 2 t) (Scalar.cmpi CmpIPredicate.eq (BitVec.ofNat 32 (grid0.coords t 1).val) 0#32)
      (k0_pay5 (iblk m c 2 t)) (iota Kind.tc S512x512 32 [0] iota_S512x512_d0_w32)
      (View.ld (iblk m c 3 t : Vec Ideal S8x512 .f32) (Rect.unit ![7, 0] ![1, 512] inb)) k0_pay6 (ix2 0 l)
      = ∑ r : Fin 512, term (D m c) (P m c) 0 (512 * (t.val % 8) + r) (512 * (t.val / 8) + l) := by
  rw [g1]
  exact Mix.pay (D m c) (P m c) (t.val % 8) 0 (512 * (t.val / 8)) (by omega) _ _ _ (block0 m c t) (block2 m c t)
    (fun ht l => (Conv.ld_row _ 7 (by decide) inb l).trans (block3 m c t ht l)) l

/-- A column's first grid point leaves its contribution. -/
theorem first (c : Dev nD) (t : Fin cfg0.N) (ht : t.val % 8 = 0) (l : Fin 512) : (outsAt0 m c t.val t.isLt).2 (ix2 0 l)
      = ∑ r : Fin 512, term (D m c) (P m c) 0 (512 * (t.val % 8) + r) (512 * (t.val / 8) + l) := by
  rw [outsAt0_A m c t (by omega) (by omega)]
  dsimp only
  unfold out0_A_6
  refine (congrFun (View.read_writes_eq_canon _ _ _ (fun y => cover0_A_6 ..)) _).trans ?_
  unfold kernelRun0_A
  dsimp only
  sl_unfold_words
  simp only [View.canon_unit_zero (S := S1x512) zero2, View.readAt_eq_ld, (hs0_0 t).read_unread, (hs0_2 t).read_unread, (hs0_3 t).read_unread, View.ld_unit_zero (S := S512x512) zero2]
  exact tile m c t _ l

/-- Each later one adds its contribution. -/
theorem next (c : Dev nD) (t : Fin cfg0.N) (ht : t.val % 8 ≠ 0) (l : Fin 512) : (outsAt0 m c t.val t.isLt).2 (ix2 0 l)
      = (outsAt0 m c (t.val - 1) (by omega)).2 (ix2 0 l)
        + ∑ r : Fin 512, term (D m c) (P m c) 0 (512 * (t.val % 8) + r) (512 * (t.val / 8) + l) := by
  rw [outsAt0_B m c t (by omega) (by omega)]
  dsimp only
  unfold out0_B_6
  refine (congrFun (View.read_writes_eq_canon _ _ _ (fun y => cover0_B_6 ..)) _).trans ?_
  unfold kernelRun0_B
  dsimp only
  sl_unfold_words
  simp only [View.canon_unit_zero (S := S1x512) zero2, View.readAt_eq_ld, (hs0_0 t).read_unread, (hs0_2 t).read_unread, (hs0_3 t).read_unread, View.ld_unit_zero (S := S512x512) zero2, View.ld_unit_zero (S := S1x512) zero2]
  exact (Mix.add _ _ _ _ _ _ _ _ l).trans (congrArg₂ (· + ·) (congrFun ((hs0_6 t).read_unread _) _) (tile m c t _ l))

theorem arr (c : Dev nD) (G : S1x2048.Idx → EReal)
    (h : ∀ (u : Fin 1) (l : Fin 2048), G (ix2 u l) = ∑ r : Fin 4096, term (D m c) (P m c) 0 r l) : (dats m 0 c).arrAt 6 cfg0.N = G := by
  refine (dats m 0 c).arrAt_eq_of_covers 6 _ (by decide +kernel) fun t hf y => ?_
  have hN : t.val < 32 := lt_of_lt_of_eq t.isLt (show cfg0.N = 32 from N_0)
  have ht : t.val % 8 = 7 := (flush0_6 t).mp hf
  blk_simp
  rw [after0_6]
  conv_lhs => rw [← ix2_eta y]
  have y0 : y 0 = (0 : Fin 1) := Subsingleton.elim (α := Fin 1) _ _
  rw [y0]
  refine (column (D m c) (P m c) 0 (y 1 : Fin 512) cfg0.N (fun n hn => (outsAt0 m c n hn).2 (ix2 0 (y 1))) (fun n hn h => first m c ⟨n, hn⟩ h (y 1))
    (fun n hn h => next m c ⟨n, hn⟩ h (y 1)) t.val t.isLt ht).trans (of_ix G (fun _ l => ∑ r : Fin 4096, term (D m c) (P m c) 0 r l) h _ 0 _ ?_ ?_).symm
  · blk_simp [i6]
  · blk_simp [i6]; omega

/-- The group's columns. -/
theorem group (p : S4096x21504.Idx → EReal) (r : Fin 4096) (l : Fin 2048) :
    Cert.Reference29Ideal.Read.val_main_v0 (F := Ideal) p (ix2 r l) = at2 p r (0 + l) := by
  pointwise [Cert.Reference29Ideal.Read.val_main_v0]
  exact at2_of p _ _ _ rfl rfl

/-- The reference runs, keeps its arguments, and has no semaphore. -/
theorem ref_frame :
    Cert.quiescent_Reference29Ideal (hReference29Ideal := Cert.Reference29Ideal.Gen.facts) := fun m ρ _ =>
  (θ_run Cert.Reference29Ideal.defs _ _).mono (fun r h => ⟨fun c => (h c).2, sem_eq_zero_of_no_sems (by decide) r.2⟩)
    (Cert.Reference29Ideal.Value.run (F := Ideal) m ρ)

/-- The call's weight gradient is, on the ideal reals, the reference's. -/
theorem value : Cert.algebraic_Kernel29Ideal_Reference29Ideal (hKernel29Ideal := Cert.Kernel29Ideal.Gen.facts)
    (hReference29Ideal := Cert.Reference29Ideal.Gen.facts) := by
  intro m g m' g' _ hag
  refine ⟨_, ?_, (θ_run Cert.Reference29Ideal.defs _ _).mono (fun _ h c => h c) (Cert.Reference29Ideal.Value.run (F := Ideal) m' g')⟩
  refine (θ_run Cert.Kernel29Ideal.defs _ _).mono (fun _ h c => ?_) (Cert.Kernel29Ideal.Value.run_blocks m g)
  obtain ⟨h5, h6, hk⟩ := h c
  obtain ⟨a0, a1, a2⟩ := hag c
  refine ⟨h6.trans (arr m c _ fun u l => ?_), hk⟩
  refine (congrFun (Cert.Reference29Ideal.Read.val_main_v9_eq _ _) _).trans ((Mix.ref_sum _ _ _ 0 (group _) u l).trans ?_)
  rw [a0, a1]

end Cert.Proof.MixFirst
-- ==== Proof.MixSecond.lean ====
module

public import proofs.«01_k».proof.Defs
public import proofs.«01_k».proof.Proof.Entries
public import proofs.«01_k».proof.Proof.Mix
public import proofs.«01_k».proof.Proof.Gen.Kernel30Ideal.Value
public import proofs.«01_k».proof.Proof.Gen.Reference30Ideal.Run
public import proofs.«01_k».proof.Proof.Gen.Reference30Ideal.Read

/-!
The gradient of the second group's interpolation weight: columns 2048 to 4096 of the projection.
-/

@[expose] public section

noncomputable section

open Idealize.ShloMosaic Idealize.ShloMosaic.TcCoe Idealize.SL.Sem

namespace Cert.Proof.MixSecond

open Cert.Kernel30Ideal Cert.Kernel30Ideal.Gen Cert.Proof.Entries Cert.Proof.Mix

variable (m : (ℓ : Loc nD τ sig) → Buf (Elt Ideal) ℓ)

abbrev D (c : Dev nD) : ℕ → ℕ → EReal := at2 (n := 4096) (k := 2048) (m ((c : Thread nD τ).loc main_arg0))
abbrev P (c : Dev nD) : ℕ → ℕ → EReal := at2 (n := 4096) (k := 21504) (m ((c : Thread nD τ).loc main_arg1))

/-- The sum a grid point's tile gives one column. -/
abbrev part (c : Dev nD) (n x : ℕ) : EReal :=
  ∑ r : Fin 512, term (D m c) (P m c) 2048 (512 * (n % 8) + r) (512 * (n / 8) + x)

theorem i0 : ∀ t : Fin cfg0.N, win0_0.index t = ![t.val % 8, t.val / 8] := (by decide +kernel : ∀ t : Fin grid0.N, _)
theorem i2 : ∀ t : Fin cfg0.N, win0_2.index t = ![t.val % 8, 4 + t.val / 8] := (by decide +kernel : ∀ t : Fin grid0.N, _)
theorem i3 : ∀ t : Fin cfg0.N, win0_3.index t = ![64 * (t.val % 8) - 1, 4 + t.val / 8] := (by decide +kernel : ∀ t : Fin grid0.N, _)
theorem i6 : ∀ t : Fin cfg0.N, win0_6.index t = ![0, t.val / 8] := (by decide +kernel : ∀ t : Fin grid0.N, _)
theorem g1 : ∀ t : Fin cfg0.N, (grid0.coords t 1).val = t.val % 8 := (by decide +kernel : ∀ t : Fin grid0.N, _)

/-- What a grid point contributes. -/
theorem tile (c : Dev nD) (t : Fin cfg0.N) (inb) (l : Fin 512) :
    k0_pay1 (F := Ideal) (iblk m c 0 t) (iblk m c 2 t) (Scalar.cmpi CmpIPredicate.eq (BitVec.ofNat 32 (grid0.coords t 1).val) 0#32)
      (k0_pay5 (iblk m c 2 t)) (iota Kind.tc S512x512 32 [0] iota_S512x512_d0_w32)
      (View.ld (iblk m c 3 t : Vec Ideal S8x512 .f32) (Rect.unit ![7, 0] ![1, 512] inb)) k0_pay6 (ix2 0 l) = part m c t.val l := by
  rw [g1]
  refine Mix.pay (D m c) (P m c) (t.val % 8) 2048 (512 * (t.val / 8)) (by omega) _ _ _ (fun r l => ?_) (fun r l => ?_)
    (fun ht l => (Conv.ld_row _ 7 (by decide) inb l).trans ?_) l
  · blk_simp [iblk]
    exact at2_of _ _ _ _ (by blk_simp [i0]; omega) (by blk_simp [i0]; omega)
  · blk_simp [iblk]
    exact at2_of _ _ _ _ (by blk_simp [i2]; omega) (by blk_simp [i2]; omega)
  · blk_simp [iblk]
    refine at2_of _ _ _ _ ?_ (by blk_simp [i3]; omega)
    blk_simp [i3]
    simp only [Fin.isValue, Fin.coe_ofNat_eq_mod]
    omega

/-- A column's first grid point leaves its contribution. -/
theorem first (c : Dev nD) (t : Fin cfg0.N) (ht : t.val % 8 = 0) (l : Fin 512) :
    (outsAt0 m c t.val t.isLt).2 (ix2 0 l) = part m c t.val l := by
  rw [outsAt0_A m c t (by omega) (by omega)]
  dsimp only
  unfold out0_A_6
  refine (congrFun (View.read_writes_eq_canon _ _ _ (fun y => cover0_A_6 ..)) _).trans ?_
  unfold kernelRun0_A
  dsimp only
  sl_unfold_words
  simp only [View.canon_unit_zero (S := S1x512) zero2, View.readAt_eq_ld, (hs0_0 t).read_unread, (hs0_2 t).read_unread, (hs0_3 t).read_unread, View.ld_unit_zero (S := S512x512) zero2]
  exact tile m c t _ l

/-- Each later one adds its contribution. -/
theorem next (c : Dev nD) (t : Fin cfg0.N) (ht : t.val % 8 ≠ 0) (l : Fin 512) :
    (outsAt0 m c t.val t.isLt).2 (ix2 0 l) = (outsAt0 m c (t.val - 1) (by omega)).2 (ix2 0 l) + part m c t.val l := by
  rw [outsAt0_B m c t (by omega) (by omega)]
  dsimp only
  unfold out0_B_6
  refine (congrFun (View.read_writes_eq_canon _ _ _ (fun y => cover0_B_6 ..)) _).trans ?_
  unfold kernelRun0_B
  dsimp only
  sl_unfold_words
  simp only [View.canon_unit_zero (S := S1x512) zero2, View.readAt_eq_ld, (hs0_0 t).read_unread, (hs0_2 t).read_unread, (hs0_3 t).read_unread, View.ld_unit_zero (S := S512x512) zero2, View.ld_unit_zero (S := S1x512) zero2]
  exact (Mix.add _ _ _ _ _ _ _ _ l).trans (congrArg₂ (· + ·) (congrFun ((hs0_6 t).read_unread _) _) (tile m c t _ l))

/-- The assembled gradient sums every column over all rows. -/
theorem arr (c : Dev nD) (G : S1x2048.Idx → EReal)
    (h : ∀ (u : Fin 1) (l : Fin 2048), G (ix2 u l) = ∑ r : Fin 4096, term (D m c) (P m c) 2048 r l) :
    (dats m 0 c).arrAt 6 cfg0.N = G := by
  refine (dats m 0 c).arrAt_eq_of_covers 6 _ (by decide +kernel) fun t hf y => ?_
  have hN : t.val < 32 := lt_of_lt_of_eq t.isLt (show cfg0.N = 32 from N_0)
  blk_simp
  rw [after0_6]
  conv_lhs => rw [← ix2_eta y]
  rw [show y 0 = (0 : Fin 1) from Subsingleton.elim (α := Fin 1) _ _]
  refine (column (D m c) (P m c) 2048 (y 1 : Fin 512) cfg0.N (fun n hn => (outsAt0 m c n hn).2 (ix2 0 (y 1))) (fun n hn h => first m c ⟨n, hn⟩ h (y 1))
    (fun n hn h => next m c ⟨n, hn⟩ h (y 1)) t.val t.isLt ((flush0_6 t).mp hf)).trans
      (of_ix G (fun _ l => ∑ r : Fin 4096, term (D m c) (P m c) 2048 r l) h _ 0 _ ?_ ?_).symm
  · blk_simp [i6]
  · blk_simp [i6]; omega

/-- The group's columns. -/
theorem group (p : S4096x21504.Idx → EReal) (r : Fin 4096) (l : Fin 2048) :
    Cert.Reference30Ideal.Read.val_main_v0 (F := Ideal) p (ix2 r l) = at2 p r (2048 + l) := by
  pointwise [Cert.Reference30Ideal.Read.val_main_v0]
  exact at2_of p _ _ _ rfl rfl

/-- The reference runs, keeps its arguments, and has no semaphore. -/
theorem ref_frame :
    Cert.quiescent_Reference30Ideal (hReference30Ideal := Cert.Reference30Ideal.Gen.facts) := fun m ρ _ =>
  (θ_run Cert.Reference30Ideal.defs _ _).mono (fun r h => ⟨fun c => (h c).2, sem_eq_zero_of_no_sems (by decide) r.2⟩)
    (Cert.Reference30Ideal.Value.run (F := Ideal) m ρ)

/-- The call's weight gradient is, on the ideal reals, the reference's. -/
theorem value : Cert.algebraic_Kernel30Ideal_Reference30Ideal (hKernel30Ideal := Cert.Kernel30Ideal.Gen.facts)
    (hReference30Ideal := Cert.Reference30Ideal.Gen.facts) := by
  intro m g m' g' _ hag
  refine ⟨_, ?_, (θ_run Cert.Reference30Ideal.defs _ _).mono (fun _ h c => h c) (Cert.Reference30Ideal.Value.run (F := Ideal) m' g')⟩
  refine (θ_run Cert.Kernel30Ideal.defs _ _).mono (fun _ h c => ?_) (Cert.Kernel30Ideal.Value.run_blocks m g)
  obtain ⟨h5, h6, hk⟩ := h c
  obtain ⟨a0, a1, a2⟩ := hag c
  refine ⟨h6.trans (arr m c _ fun u l => ?_), hk⟩
  refine (congrFun (Cert.Reference30Ideal.Read.val_main_v9_eq _ _) _).trans ((Mix.ref_sum _ _ _ 2048 (group _) u l).trans ?_)
  rw [a0, a1]

end Cert.Proof.MixSecond
-- ==== Proof.MixThird.lean ====
module

public import proofs.«01_k».proof.Defs
public import proofs.«01_k».proof.Proof.Entries
public import proofs.«01_k».proof.Proof.Mix
public import proofs.«01_k».proof.Proof.Gen.Kernel31Ideal.Value
public import proofs.«01_k».proof.Proof.Gen.Reference31Ideal.Run
public import proofs.«01_k».proof.Proof.Gen.Reference31Ideal.Read

/-!
The gradient of the third group's interpolation weight: columns 4096 to 6144 of the projection.
-/

@[expose] public section

noncomputable section

open Idealize.ShloMosaic Idealize.ShloMosaic.TcCoe Idealize.SL.Sem

namespace Cert.Proof.MixThird

open Cert.Kernel31Ideal Cert.Kernel31Ideal.Gen Cert.Proof.Entries Cert.Proof.Mix

variable (m : (ℓ : Loc nD τ sig) → Buf (Elt Ideal) ℓ)

abbrev D (c : Dev nD) : ℕ → ℕ → EReal := at2 (n := 4096) (k := 2048) (m ((c : Thread nD τ).loc main_arg0))
abbrev P (c : Dev nD) : ℕ → ℕ → EReal := at2 (n := 4096) (k := 21504) (m ((c : Thread nD τ).loc main_arg1))

/-- The sum a grid point's tile gives one column. -/
abbrev part (c : Dev nD) (n x : ℕ) : EReal :=
  ∑ r : Fin 512, term (D m c) (P m c) 4096 (512 * (n % 8) + r) (512 * (n / 8) + x)

theorem i0 : ∀ t : Fin cfg0.N, win0_0.index t = ![t.val % 8, t.val / 8] := (by decide +kernel : ∀ t : Fin grid0.N, _)
theorem i2 : ∀ t : Fin cfg0.N, win0_2.index t = ![t.val % 8, 8 + t.val / 8] := (by decide +kernel : ∀ t : Fin grid0.N, _)
theorem i3 : ∀ t : Fin cfg0.N, win0_3.index t = ![64 * (t.val % 8) - 1, 8 + t.val / 8] := (by decide +kernel : ∀ t : Fin grid0.N, _)
theorem i6 : ∀ t : Fin cfg0.N, win0_6.index t = ![0, t.val / 8] := (by decide +kernel : ∀ t : Fin grid0.N, _)
theorem g1 : ∀ t : Fin cfg0.N, (grid0.coords t 1).val = t.val % 8 := (by decide +kernel : ∀ t : Fin grid0.N, _)

/-- What a grid point contributes. -/
theorem tile (c : Dev nD) (t : Fin cfg0.N) (inb) (l : Fin 512) :
    k0_pay1 (F := Ideal) (iblk m c 0 t) (iblk m c 2 t) (Scalar.cmpi CmpIPredicate.eq (BitVec.ofNat 32 (grid0.coords t 1).val) 0#32)
      (k0_pay5 (iblk m c 2 t)) (iota Kind.tc S512x512 32 [0] iota_S512x512_d0_w32)
      (View.ld (iblk m c 3 t : Vec Ideal S8x512 .f32) (Rect.unit ![7, 0] ![1, 512] inb)) k0_pay6 (ix2 0 l) = part m c t.val l := by
  rw [g1]
  refine Mix.pay (D m c) (P m c) (t.val % 8) 4096 (512 * (t.val / 8)) (by omega) _ _ _ (fun r l => ?_) (fun r l => ?_)
    (fun ht l => (Conv.ld_row _ 7 (by decide) inb l).trans ?_) l
  · blk_simp [iblk]
    exact at2_of _ _ _ _ (by blk_simp [i0]; omega) (by blk_simp [i0]; omega)
  · blk_simp [iblk]
    exact at2_of _ _ _ _ (by blk_simp [i2]; omega) (by blk_simp [i2]; omega)
  · blk_simp [iblk]
    refine at2_of _ _ _ _ ?_ (by blk_simp [i3]; omega)
    blk_simp [i3]
    simp only [Fin.isValue, Fin.coe_ofNat_eq_mod]
    omega

/-- A column's first grid point leaves its contribution. -/
theorem first (c : Dev nD) (t : Fin cfg0.N) (ht : t.val % 8 = 0) (l : Fin 512) :
    (outsAt0 m c t.val t.isLt).2 (ix2 0 l) = part m c t.val l := by
  rw [outsAt0_A m c t (by omega) (by omega)]
  dsimp only
  unfold out0_A_6
  refine (congrFun (View.read_writes_eq_canon _ _ _ (fun y => cover0_A_6 ..)) _).trans ?_
  unfold kernelRun0_A
  dsimp only
  sl_unfold_words
  simp only [View.canon_unit_zero (S := S1x512) zero2, View.readAt_eq_ld, (hs0_0 t).read_unread, (hs0_2 t).read_unread, (hs0_3 t).read_unread, View.ld_unit_zero (S := S512x512) zero2]
  exact tile m c t _ l

/-- Each later one adds its contribution. -/
theorem next (c : Dev nD) (t : Fin cfg0.N) (ht : t.val % 8 ≠ 0) (l : Fin 512) :
    (outsAt0 m c t.val t.isLt).2 (ix2 0 l) = (outsAt0 m c (t.val - 1) (by omega)).2 (ix2 0 l) + part m c t.val l := by
  rw [outsAt0_B m c t (by omega) (by omega)]
  dsimp only
  unfold out0_B_6
  refine (congrFun (View.read_writes_eq_canon _ _ _ (fun y => cover0_B_6 ..)) _).trans ?_
  unfold kernelRun0_B
  dsimp only
  sl_unfold_words
  simp only [View.canon_unit_zero (S := S1x512) zero2, View.readAt_eq_ld, (hs0_0 t).read_unread, (hs0_2 t).read_unread, (hs0_3 t).read_unread, View.ld_unit_zero (S := S512x512) zero2, View.ld_unit_zero (S := S1x512) zero2]
  exact (Mix.add _ _ _ _ _ _ _ _ l).trans (congrArg₂ (· + ·) (congrFun ((hs0_6 t).read_unread _) _) (tile m c t _ l))

/-- The assembled gradient sums every column over all rows. -/
theorem arr (c : Dev nD) (G : S1x2048.Idx → EReal)
    (h : ∀ (u : Fin 1) (l : Fin 2048), G (ix2 u l) = ∑ r : Fin 4096, term (D m c) (P m c) 4096 r l) :
    (dats m 0 c).arrAt 6 cfg0.N = G := by
  refine (dats m 0 c).arrAt_eq_of_covers 6 _ (by decide +kernel) fun t hf y => ?_
  have hN : t.val < 32 := lt_of_lt_of_eq t.isLt (show cfg0.N = 32 from N_0)
  blk_simp
  rw [after0_6]
  conv_lhs => rw [← ix2_eta y]
  rw [show y 0 = (0 : Fin 1) from Subsingleton.elim (α := Fin 1) _ _]
  refine (column (D m c) (P m c) 4096 (y 1 : Fin 512) cfg0.N (fun n hn => (outsAt0 m c n hn).2 (ix2 0 (y 1))) (fun n hn h => first m c ⟨n, hn⟩ h (y 1))
    (fun n hn h => next m c ⟨n, hn⟩ h (y 1)) t.val t.isLt ((flush0_6 t).mp hf)).trans
      (of_ix G (fun _ l => ∑ r : Fin 4096, term (D m c) (P m c) 4096 r l) h _ 0 _ ?_ ?_).symm
  · blk_simp [i6]
  · blk_simp [i6]; omega

/-- The group's columns. -/
theorem group (p : S4096x21504.Idx → EReal) (r : Fin 4096) (l : Fin 2048) :
    Cert.Reference31Ideal.Read.val_main_v0 (F := Ideal) p (ix2 r l) = at2 p r (4096 + l) := by
  pointwise [Cert.Reference31Ideal.Read.val_main_v0]
  exact at2_of p _ _ _ rfl rfl

/-- The reference runs, keeps its arguments, and has no semaphore. -/
theorem ref_frame :
    Cert.quiescent_Reference31Ideal (hReference31Ideal := Cert.Reference31Ideal.Gen.facts) := fun m ρ _ =>
  (θ_run Cert.Reference31Ideal.defs _ _).mono (fun r h => ⟨fun c => (h c).2, sem_eq_zero_of_no_sems (by decide) r.2⟩)
    (Cert.Reference31Ideal.Value.run (F := Ideal) m ρ)

/-- The call's weight gradient is, on the ideal reals, the reference's. -/
theorem value : Cert.algebraic_Kernel31Ideal_Reference31Ideal (hKernel31Ideal := Cert.Kernel31Ideal.Gen.facts)
    (hReference31Ideal := Cert.Reference31Ideal.Gen.facts) := by
  intro m g m' g' _ hag
  refine ⟨_, ?_, (θ_run Cert.Reference31Ideal.defs _ _).mono (fun _ h c => h c) (Cert.Reference31Ideal.Value.run (F := Ideal) m' g')⟩
  refine (θ_run Cert.Kernel31Ideal.defs _ _).mono (fun _ h c => ?_) (Cert.Kernel31Ideal.Value.run_blocks m g)
  obtain ⟨h5, h6, hk⟩ := h c
  obtain ⟨a0, a1, a2⟩ := hag c
  refine ⟨h6.trans (arr m c _ fun u l => ?_), hk⟩
  refine (congrFun (Cert.Reference31Ideal.Read.val_main_v9_eq _ _) _).trans ((Mix.ref_sum _ _ _ 4096 (group _) u l).trans ?_)
  rw [a0, a1]

end Cert.Proof.MixThird
-- ==== Proof.MixLast.lean ====
module

public import proofs.«01_k».proof.Defs
public import proofs.«01_k».proof.Proof.Entries
public import proofs.«01_k».proof.Proof.Adam
public import proofs.«01_k».proof.Proof.Mix
public import proofs.«01_k».proof.Proof.Gen.Kernel32Ideal.Value
public import proofs.«01_k».proof.Proof.Gen.Reference32Ideal.Run
public import proofs.«01_k».proof.Proof.Gen.Reference32Ideal.Read

/-!
The gradient of the last group's interpolation weight. The group's incoming gradient is a sum of four arrays.
-/

@[expose] public section

noncomputable section

open Idealize.ShloMosaic Idealize.ShloMosaic.TcCoe Idealize.SL.Sem
open Idealize.ShloMosaic.Pipeline (Dat)

namespace Cert.Proof.MixLast

open Cert.Kernel32Ideal Cert.Kernel32Ideal.Gen Cert.Proof.Entries Cert.Proof.Mix Cert.Proof.Adam

variable (m : (ℓ : Loc nD τ sig) → Buf (Elt Ideal) ℓ)

/-- One of the four arrays. -/
abbrev Q (c : Dev nD) : ℕ → ℕ → ℕ → EReal := at3 (p := 4) (n := 4096) (k := 512) (m ((c : Thread nD τ).loc main_arg0))
/-- Their sum. -/
def D (c : Dev nD) : ℕ → ℕ → EReal := fun r l => ∑ s : Fin 4, Q m c s r l
abbrev P (c : Dev nD) : ℕ → ℕ → EReal := at2 (n := 4096) (k := 21504) (m ((c : Thread nD τ).loc main_arg1))

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i8 : ∀ t : Fin cfg0.N, win0_8.index t = ![t.val, 12] := (by decide +kernel : ∀ t : Fin grid0.N, _)
theorem i9 : ∀ t : Fin cfg0.N, win0_9.index t = ![64 * t.val - 1, 12] := (by decide +kernel : ∀ t : Fin grid0.N, _)
theorem i12 : ∀ t : Fin cfg0.N, win0_12.index t = ![0, 0] := (by decide +kernel : ∀ t : Fin grid0.N, _)
theorem g1 : ∀ t : Fin cfg0.N, (grid0.coords t 1).val = t.val := (by decide +kernel : ∀ t : Fin grid0.N, _)

theorem V1 (c : Dev nD) (r : Fin 4096) (l : Fin 512) : (V m c main_v1 : S4096x512.Idx → EReal) (ix2 r l) = Q m c 0 r l := by
  have e : (V m c main_v1 : S4096x512.Idx → EReal) = shapeCast S4096x512 (extractStridedSlice S1x4096x512 ![0, 0, 0]
      (m ((c : Thread nD τ).loc main_arg0) : (⟨S4x4096x512, .f32⟩ : BufTy).Contents (Elt Ideal)) slices_S4x4096x512_S1x4096x512_0_0_0) shapeCasts_S1x4096x512_S4096x512 := by
    unfold V
    simp only [hostOps0, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]
  pointwise
  exact at3_ix _ 0 r l

theorem V3 (c : Dev nD) (r : Fin 4096) (l : Fin 512) : (V m c main_v3 : S4096x512.Idx → EReal) (ix2 r l) = Q m c 1 r l := by
  have e : (V m c main_v3 : S4096x512.Idx → EReal) = shapeCast S4096x512 (extractStridedSlice S1x4096x512 ![1, 0, 0]
      (m ((c : Thread nD τ).loc main_arg0) : (⟨S4x4096x512, .f32⟩ : BufTy).Contents (Elt Ideal)) slices_S4x4096x512_S1x4096x512_1_0_0) shapeCasts_S1x4096x512_S4096x512 := by
    unfold V
    simp only [hostOps0, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]
  pointwise
  exact at3_ix _ 1 r l

theorem V5 (c : Dev nD) (r : Fin 4096) (l : Fin 512) : (V m c main_v5 : S4096x512.Idx → EReal) (ix2 r l) = Q m c 2 r l := by
  have e : (V m c main_v5 : S4096x512.Idx → EReal) = shapeCast S4096x512 (extractStridedSlice S1x4096x512 ![2, 0, 0]
      (m ((c : Thread nD τ).loc main_arg0) : (⟨S4x4096x512, .f32⟩ : BufTy).Contents (Elt Ideal)) slices_S4x4096x512_S1x4096x512_2_0_0) shapeCasts_S1x4096x512_S4096x512 := by
    unfold V
    simp only [hostOps0, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]
  pointwise
  exact at3_ix _ 2 r l

theorem V7 (c : Dev nD) (r : Fin 4096) (l : Fin 512) : (V m c main_v7 : S4096x512.Idx → EReal) (ix2 r l) = Q m c 3 r l := by
  have e : (V m c main_v7 : S4096x512.Idx → EReal) = shapeCast S4096x512 (extractStridedSlice S1x4096x512 ![3, 0, 0]
      (m ((c : Thread nD τ).loc main_arg0) : (⟨S4x4096x512, .f32⟩ : BufTy).Contents (Elt Ideal)) slices_S4x4096x512_S1x4096x512_3_0_0) shapeCasts_S1x4096x512_S4096x512 := by
    unfold V
    simp only [hostOps0, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]
  pointwise
  exact at3_ix _ 3 r l

theorem block0 (c : Dev nD) (t : Fin cfg0.N) (r l : Fin 512) : (iblk m c 0 t : S512x512.Idx → EReal) (ix2 r l) = Q m c 0 (512 * t.val + r) (0 + l) := by
  blk_simp [iblk]
  refine of_ix _ (fun r l => Q m c 0 r l) (V1 m c) _ _ _ ?_ ?_
  · blk_simp [i0]; omega
  · blk_simp [i0]

theorem block1 (c : Dev nD) (t : Fin cfg0.N) (r l : Fin 512) : (iblk m c 1 t : S512x512.Idx → EReal) (ix2 r l) = Q m c 1 (512 * t.val + r) (0 + l) := by
  blk_simp [iblk]
  refine of_ix _ (fun r l => Q m c 1 r l) (V3 m c) _ _ _ ?_ ?_
  · blk_simp [i1]; omega
  · blk_simp [i1]

theorem block2 (c : Dev nD) (t : Fin cfg0.N) (r l : Fin 512) : (iblk m c 2 t : S512x512.Idx → EReal) (ix2 r l) = Q m c 2 (512 * t.val + r) (0 + l) := by
  blk_simp [iblk]
  refine of_ix _ (fun r l => Q m c 2 r l) (V5 m c) _ _ _ ?_ ?_
  · blk_simp [i2]; omega
  · blk_simp [i2]

theorem block3 (c : Dev nD) (t : Fin cfg0.N) (r l : Fin 512) : (iblk m c 3 t : S512x512.Idx → EReal) (ix2 r l) = Q m c 3 (512 * t.val + r) (0 + l) := by
  blk_simp [iblk]
  refine of_ix _ (fun r l => Q m c 3 r l) (V7 m c) _ _ _ ?_ ?_
  · blk_simp [i3]; omega
  · blk_simp [i3]

theorem block8 (c : Dev nD) (t : Fin cfg0.N) (r l : Fin 512) :
    (iblk m c 8 t : S512x512.Idx → EReal) (ix2 r l) = P m c (512 * t.val + r) (6144 + (0 + l)) := by
  blk_simp [iblk]
  refine at2_of _ _ _ _ ?_ ?_
  · blk_simp [i8]; omega
  · blk_simp [i8]

theorem block9 (c : Dev nD) (t : Fin cfg0.N) (ht : 0 < t.val) (l : Fin 512) :
    (iblk m c 9 t : S8x512.Idx → EReal) (ix2 7 l) = P m c (512 * t.val - 1) (6144 + (0 + l)) := by
  blk_simp [iblk]
  refine at2_of _ _ _ _ ?_ ?_
  · blk_simp [i9]
    simp only [Fin.isValue, Fin.coe_ofNat_eq_mod]
    omega
  · blk_simp [i9]

/-- The sum of the four blocks. -/
theorem four (c : Dev nD) (t : Fin cfg0.N) (r l : Fin 512) :
    k0_pay4 (F := Ideal) (iblk m c 0 t) (iblk m c 1 t) (iblk m c 2 t) (iblk m c 3 t) (ix2 r l) = D m c (512 * t.val + r) (0 + l) := by
  unfold k0_pay4 D
  simp only [shapeCast_self]
  rw [Fin.sum_univ_four]
  exact congrArg₂ (· + ·) (congrArg₂ (· + ·) (congrArg₂ (· + ·) (block0 m c t r l) (block1 m c t r l)) (block2 m c t r l)) (block3 m c t r l)

/-- What a grid point contributes. -/
theorem tile (c : Dev nD) (t : Fin cfg0.N) (inb) (l : Fin 512) :
    k0_pay2 (F := Ideal) (BitVec.ofNat 32 (grid0.coords t 1).val) (k0_pay4 (iblk m c 0 t) (iblk m c 1 t) (iblk m c 2 t) (iblk m c 3 t))
      (iblk m c 8 t) (View.ld (iblk m c 9 t : Vec Ideal S8x512 .f32) (Rect.unit ![7, 0] ![1, 512] inb)) (ix2 0 l)
      = ∑ r : Fin 512, term (D m c) (P m c) 6144 (512 * t.val + r) (0 + l) := by
  have hN : t.val < 8 := lt_of_lt_of_eq t.isLt (show cfg0.N = 8 from N_0)
  rw [g1]
  exact Mix.pay (D m c) (P m c) t.val 6144 0 hN _ _ _ (four m c t) (block8 m c t)
    (fun ht l => (Conv.ld_row _ 7 (by decide) inb l).trans (block9 m c t ht l)) l

/-- The output block holds the sum over the blocks of rows up to the present one. -/
theorem out (c : Dev nD) : ∀ (i : ℕ) (hn : i < cfg0.N) (l : Fin 512),
    (outsAt0 m c i hn).2 (ix2 0 l) = ∑ q ∈ Finset.range (i + 1), ∑ r : Fin 512, term (D m c) (P m c) 6144 (512 * q + r) (0 + l) := by
  intro i
  induction i with
  | zero =>
    intro hn l
    rw [Finset.sum_range_one]
    refine (congrFun (congrArg Prod.snd (outsAt0_A m c ⟨0, hn⟩ (by simp) (by simp))) _).trans ?_
    dsimp only
    unfold out0_A_12
    refine (congrFun (View.read_writes_eq_canon _ _ _ (fun y => cover0_A_12 ..)) _).trans ?_
    unfold kernelRun0_A
    dsimp only
    sl_unfold_words
    simp only [View.canon_unit_zero (S := S1x512) zero2, View.readAt_eq_ld, (hs0_0 ⟨0, hn⟩).read_unread, (hs0_1 ⟨0, hn⟩).read_unread, (hs0_2 ⟨0, hn⟩).read_unread, (hs0_3 ⟨0, hn⟩).read_unread, (hs0_8 ⟨0, hn⟩).read_unread, (hs0_9 ⟨0, hn⟩).read_unread, View.ld_unit_zero (S := S512x512) zero2]
    exact tile m c ⟨0, hn⟩ _ l
  | succ i ih =>
    intro hn l
    have hN : i + 1 < 8 := lt_of_lt_of_eq hn (show cfg0.N = 8 from N_0)
    rw [Finset.sum_range_succ]
    refine (congrFun (congrArg Prod.snd (outsAt0_B m c ⟨i + 1, hn⟩ (by dsimp only; omega) (by dsimp only; omega))) _).trans ?_
    dsimp only
    unfold out0_B_12
    refine (congrFun (View.read_writes_eq_canon _ _ _ (fun y => cover0_B_12 ..)) _).trans ?_
    unfold kernelRun0_B
    dsimp only
    sl_unfold_words
    simp only [View.canon_unit_zero (S := S1x512) zero2, View.readAt_eq_ld, (hs0_0 ⟨i + 1, hn⟩).read_unread, (hs0_1 ⟨i + 1, hn⟩).read_unread, (hs0_2 ⟨i + 1, hn⟩).read_unread, (hs0_3 ⟨i + 1, hn⟩).read_unread, (hs0_8 ⟨i + 1, hn⟩).read_unread, (hs0_9 ⟨i + 1, hn⟩).read_unread, View.ld_unit_zero (S := S512x512) zero2, View.ld_unit_zero (S := S1x512) zero2]
    unfold k0_pay3
    simp only [shapeCast_self]
    exact congrArg₂ (· + ·) ((congrFun ((hs0_12 ⟨i + 1, hn⟩).read_unread _) _).trans (ih (by omega) l)) (tile m c ⟨i + 1, hn⟩ _ l)

theorem arr (c : Dev nD) (G : S1x512.Idx → EReal)
    (h : ∀ (u : Fin 1) (l : Fin 512), G (ix2 u l) = ∑ r : Fin 4096, term (D m c) (P m c) 6144 r l) : (dats m 0 c).arrAt 12 cfg0.N = G := by
  refine (dats m 0 c).arrAt_eq_of_covers 12 _ (by decide +kernel) fun t hf y => ?_
  have ht : t.val = 7 := by
    have hN : t.val < 8 := lt_of_lt_of_eq t.isLt (show cfg0.N = 8 from N_0)
    have := (flush0_12 t).mp hf
    omega
  blk_simp
  rw [after0_12]
  conv_lhs => rw [← ix2_eta y]
  have y0 : y 0 = (0 : Fin 1) := Subsingleton.elim (α := Fin 1) _ _
  rw [y0]
  have key : ∀ (n : ℕ) (hn : n < cfg0.N), n = 7 → (outsAt0 m c n hn).2 (ix2 0 (y 1))
      = ∑ r : Fin 4096, term (D m c) (P m c) 6144 r (0 + (y 1 : Fin 512)) := by
    intro n hn en
    subst en
    exact (out m c 7 hn (y 1)).trans (sum_tiles 512 8 fun r => term (D m c) (P m c) 6144 r (0 + (y 1 : Fin 512)))
  refine (key t.val t.isLt ht).trans (of_ix G (fun _ l => ∑ r : Fin 4096, term (D m c) (P m c) 6144 r l) h _ 0 _ ?_ ?_).symm
  · blk_simp [i12]
  · blk_simp [i12]

section
open Cert.Reference32Ideal.Read

variable (d : S4x4096x512.Idx → EReal) (p : S4096x21504.Idx → EReal)

theorem ref_before (r : Fin 4096) (l : Fin 512) : val_main_v2 (F := Ideal) p (ix2 r l) = before (at2 p) r (6144 + l) := by
  have hr := r.isLt
  pointwise [val_main_v2, val_main_v1, val_main_v0, val_main_call0_v0, val_main_c]
  unfold before
  by_cases h : r.val = 0
  · rw [dif_neg (by omega), if_pos h]
    show ((BitVec.toInt 0#32 : ℝ) : EReal) = 0
    simp
  · rw [dif_pos (by omega), if_neg h]
    exact at2_of p _ _ _ rfl rfl

theorem ref_out (u : Fin 1) (l : Fin 512) :
    val_main_v10 (F := Ideal) d p (ix2 u l) = ∑ r : Fin 4096, term (fun r l => ∑ s : Fin 4, at3 d s r l) (at2 p) 6144 r l := by
  pointwise [val_main_v10, val_main_v9, val_main_v8, val_main_v7, val_main_v3, val_main_cst, val_main_cst_0]
  refine Finset.sum_congr rfl fun r _ => ?_
  rw [ref_before]
  pointwise [val_main_v0]
  unfold term
  simp only [at3_ix d]
  rw [at2_ix p, mul_comm]

end

/-- The reference runs, keeps its arguments, and has no semaphore. -/
theorem ref_frame :
    Cert.quiescent_Reference32Ideal (hReference32Ideal := Cert.Reference32Ideal.Gen.facts) := fun m ρ _ =>
  (θ_run Cert.Reference32Ideal.defs _ _).mono (fun r h => ⟨fun c => (h c).2, sem_eq_zero_of_no_sems (by decide) r.2⟩)
    (Cert.Reference32Ideal.Value.run (F := Ideal) m ρ)

/-- The call's weight gradient is, on the ideal reals, the reference's. -/
theorem value : Cert.algebraic_Kernel32Ideal_Reference32Ideal (hKernel32Ideal := Cert.Kernel32Ideal.Gen.facts)
    (hReference32Ideal := Cert.Reference32Ideal.Gen.facts) := by
  intro m g m' g' _ hag
  refine ⟨_, ?_, (θ_run Cert.Reference32Ideal.defs _ _).mono (fun _ h c => h c) (Cert.Reference32Ideal.Value.run (F := Ideal) m' g')⟩
  refine (θ_run Cert.Kernel32Ideal.defs _ _).mono (fun _ h c => ?_) (Cert.Kernel32Ideal.Value.run_blocks m g)
  obtain ⟨h11, h12, hk⟩ := h c
  obtain ⟨a0, a1, a2⟩ := hag c
  refine ⟨h12.trans (arr m c _ fun u l => ?_), hk⟩
  refine (congrFun (Cert.Reference32Ideal.Read.val_main_v10_eq _ _) _).trans ((ref_out _ _ u l).trans ?_)
  rw [a0, a1]
  rfl

end Cert.Proof.MixLast
-- ==== Proof.lean ====
/- The certificate: the frames of the recurrence's backward call, and frames and value of the step's other calls. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.ConvClaim
public import proofs.«01_k».proof.Proof.DownDx
public import proofs.«01_k».proof.Proof.DownDw
public import proofs.«01_k».proof.Proof.UpDw
public import proofs.«01_k».proof.Proof.InDw
public import proofs.«01_k».proof.Proof.NormBwd
public import proofs.«01_k».proof.Proof.Final
public import proofs.«01_k».proof.Proof.UpDx
public import proofs.«01_k».proof.Proof.AdamPacked
public import proofs.«01_k».proof.Proof.AdamIn
public import proofs.«01_k».proof.Proof.AdamOutHalf
public import proofs.«01_k».proof.Proof.AdamOut
public import proofs.«01_k».proof.Proof.AdamUp
public import proofs.«01_k».proof.Proof.AdamDown
public import proofs.«01_k».proof.Proof.AdamSmall
public import proofs.«01_k».proof.Proof.OutDw
public import proofs.«01_k».proof.Proof.BranchDw
public import proofs.«01_k».proof.Proof.UpFwd
public import proofs.«01_k».proof.Proof.DownFwd
public import proofs.«01_k».proof.Proof.InTop
public import proofs.«01_k».proof.Proof.InDx
public import proofs.«01_k».proof.Proof.OutDx
public import proofs.«01_k».proof.Proof.BranchDx
public import proofs.«01_k».proof.Proof.OutFwd
public import proofs.«01_k».proof.Proof.BranchFwd
public import proofs.«01_k».proof.Proof.Merge
public import proofs.«01_k».proof.Proof.InBot
public import proofs.«01_k».proof.Proof.MixFirst
public import proofs.«01_k».proof.Proof.MixSecond
public import proofs.«01_k».proof.Proof.MixThird
public import proofs.«01_k».proof.Proof.MixLast
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    fun m ρ _ => Cert.Kernel.Gen.frame m ρ, fun m ρ _ => Cert.KernelIdeal.Gen.frame m ρ,
    fun m ρ _ => Cert.Kernel2.Gen.frame m ρ, fun m ρ _ => Cert.Kernel2Ideal.Gen.frame m ρ, Conv.ref_frame,
    fun m ρ _ => Cert.Kernel3.Gen.frame m ρ, fun m ρ _ => Cert.Kernel3Ideal.Gen.frame m ρ, DownDx.ref_frame,
    fun m ρ _ => Cert.Kernel4.Gen.frame m ρ, fun m ρ _ => Cert.Kernel4Ideal.Gen.frame m ρ, DownDw.ref_frame,
    fun m ρ _ => Cert.Kernel5.Gen.frame m ρ, fun m ρ _ => Cert.Kernel5Ideal.Gen.frame m ρ, UpDw.ref_frame,
    fun m ρ _ => Cert.Kernel6.Gen.frame m ρ, fun m ρ _ => Cert.Kernel6Ideal.Gen.frame m ρ, InDw.ref_frame,
    fun m ρ _ => Cert.Kernel7.Gen.frame m ρ, fun m ρ _ => Cert.Kernel7Ideal.Gen.frame m ρ, NormBwd.ref_frame,
    fun m ρ _ => Cert.Kernel8.Gen.frame m ρ, fun m ρ _ => Cert.Kernel8Ideal.Gen.frame m ρ, Final.ref_frame,
    fun m ρ _ => Cert.Kernel9.Gen.frame m ρ, fun m ρ _ => Cert.Kernel9Ideal.Gen.frame m ρ, UpDx.ref_frame,
    fun m ρ _ => Cert.Kernel10.Gen.frame m ρ, fun m ρ _ => Cert.Kernel10Ideal.Gen.frame m ρ, AdamPacked.ref_frame,
    fun m ρ _ => Cert.Kernel11.Gen.frame m ρ, fun m ρ _ => Cert.Kernel11Ideal.Gen.frame m ρ, AdamIn.ref_frame,
    fun m ρ _ => Cert.Kernel12.Gen.frame m ρ, fun m ρ _ => Cert.Kernel12Ideal.Gen.frame m ρ, AdamOutHalf.ref_frame,
    fun m ρ _ => Cert.Kernel13.Gen.frame m ρ, fun m ρ _ => Cert.Kernel13Ideal.Gen.frame m ρ, AdamOut.ref_frame,
    fun m ρ _ => Cert.Kernel14.Gen.frame m ρ, fun m ρ _ => Cert.Kernel14Ideal.Gen.frame m ρ, AdamUp.ref_frame,
    fun m ρ _ => Cert.Kernel15.Gen.frame m ρ, fun m ρ _ => Cert.Kernel15Ideal.Gen.frame m ρ, AdamDown.ref_frame,
    fun m ρ _ => Cert.Kernel16.Gen.frame m ρ, fun m ρ _ => Cert.Kernel16Ideal.Gen.frame m ρ, AdamSmall.ref_frame,
    fun m ρ _ => Cert.Kernel17.Gen.frame m ρ, fun m ρ _ => Cert.Kernel17Ideal.Gen.frame m ρ, OutDw.ref_frame,
    fun m ρ _ => Cert.Kernel18.Gen.frame m ρ, fun m ρ _ => Cert.Kernel18Ideal.Gen.frame m ρ, BranchDw.ref_frame,
    fun m ρ _ => Cert.Kernel19.Gen.frame m ρ, fun m ρ _ => Cert.Kernel19Ideal.Gen.frame m ρ, UpFwd.ref_frame,
    fun m ρ _ => Cert.Kernel20.Gen.frame m ρ, fun m ρ _ => Cert.Kernel20Ideal.Gen.frame m ρ, DownFwd.ref_frame,
    fun m ρ _ => Cert.Kernel21.Gen.frame m ρ, fun m ρ _ => Cert.Kernel21Ideal.Gen.frame m ρ, InTop.ref_frame,
    fun m ρ _ => Cert.Kernel22.Gen.frame m ρ, fun m ρ _ => Cert.Kernel22Ideal.Gen.frame m ρ, InDx.ref_frame,
    fun m ρ _ => Cert.Kernel23.Gen.frame m ρ, fun m ρ _ => Cert.Kernel23Ideal.Gen.frame m ρ, OutDx.ref_frame,
    fun m ρ _ => Cert.Kernel24.Gen.frame m ρ, fun m ρ _ => Cert.Kernel24Ideal.Gen.frame m ρ, BranchDx.ref_frame,
    fun m ρ _ => Cert.Kernel25.Gen.frame m ρ, fun m ρ _ => Cert.Kernel25Ideal.Gen.frame m ρ, OutFwd.ref_frame,
    fun m ρ _ => Cert.Kernel26.Gen.frame m ρ, fun m ρ _ => Cert.Kernel26Ideal.Gen.frame m ρ, BranchFwd.ref_frame,
    fun m ρ _ => Cert.Kernel27.Gen.frame m ρ, fun m ρ _ => Cert.Kernel27Ideal.Gen.frame m ρ, Merge.ref_frame,
    fun m ρ _ => Cert.Kernel28.Gen.frame m ρ, fun m ρ _ => Cert.Kernel28Ideal.Gen.frame m ρ, InBot.ref_frame,
    fun m ρ _ => Cert.Kernel29.Gen.frame m ρ, fun m ρ _ => Cert.Kernel29Ideal.Gen.frame m ρ, MixFirst.ref_frame,
    fun m ρ _ => Cert.Kernel30.Gen.frame m ρ, fun m ρ _ => Cert.Kernel30Ideal.Gen.frame m ρ, MixSecond.ref_frame,
    fun m ρ _ => Cert.Kernel31.Gen.frame m ρ, fun m ρ _ => Cert.Kernel31Ideal.Gen.frame m ρ, MixThird.ref_frame,
    fun m ρ _ => Cert.Kernel32.Gen.frame m ρ, fun m ρ _ => Cert.Kernel32Ideal.Gen.frame m ρ, MixLast.ref_frame,
    trivial,
    trivial, Conv.value,
    trivial, DownDx.value,
    trivial, DownDw.value,
    trivial, UpDw.value,
    trivial, InDw.value,
    trivial, NormBwd.value,
    trivial, Final.value,
    trivial, UpDx.value,
    trivial, AdamPacked.value,
    trivial, AdamIn.value,
    trivial, AdamOutHalf.value,
    trivial, AdamOut.value,
    trivial, AdamUp.value,
    trivial, AdamDown.value,
    trivial, AdamSmall.value,
    trivial, OutDw.value,
    trivial, BranchDw.value,
    trivial, UpFwd.value,
    trivial, DownFwd.value,
    trivial, InTop.value,
    trivial, InDx.value,
    trivial, OutDx.value,
    trivial, BranchDx.value,
    trivial, OutFwd.value,
    trivial, BranchFwd.value,
    trivial, Merge.value,
    trivial, InBot.value,
    trivial, MixFirst.value,
    trivial, MixSecond.value,
    trivial, MixThird.value,
    trivial, MixLast.value⟩

end Cert.Proof

end
